-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2.2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2.2.2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2.2.2.2 = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.2 = (fun _ => 1#1)

def Pre_ExpertsIdeal_gated [hPre_gated : Cert.Pre_gated.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_gated.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_gated.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.1 = (fun _ => 1#1)
    ∧ (Cert.Pre_gated.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.1 = (fun _ => 1#1)
    ∧ (Cert.Pre_gated.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.1 = (fun _ => 1#1)
    ∧ (Cert.Pre_gated.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.2.1 = (fun _ => 1#1)
    ∧ (Cert.Pre_gated.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.2.2.1 = (fun _ => 1#1)
    ∧ (Cert.Pre_gated.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2.2.2.2.2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_gated [hPre_gated : Cert.Pre_gated.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_gated.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).1 = (fun _ => 1#1)
    ∧ (Cert.Pre_gated.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2.1 = (fun _ => 1#1)
    ∧ (Cert.Pre_gated.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2.2.1 = (fun _ => 1#1)
    ∧ (Cert.Pre_gated.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2.2.2.1 = (fun _ => 1#1)
    ∧ (Cert.Pre_gated.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2.2.2.2.1 = (fun _ => 1#1)
    ∧ (Cert.Pre_gated.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2.2.2.2.2.1 = (fun _ => 1#1)
    ∧ (Cert.Pre_gated.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2.2.2.2.2.2 = (fun _ => 1#1)

def Pre_Inputs (m : (ℓ : Loc Cert.Inputs.nD Cert.Inputs.τ Cert.Inputs.sig) → Buf (Elt Bits) ℓ) : Prop :=
  True

def Pre_InputsIdeal (m : (ℓ : Loc Cert.InputsIdeal.nD Cert.InputsIdeal.τ Cert.InputsIdeal.sig) → Buf (Elt Ideal) ℓ) : Prop :=
  True

def Pre_InputsReferenceIdeal (m : (ℓ : Loc Cert.InputsReferenceIdeal.nD Cert.InputsReferenceIdeal.τ Cert.InputsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsIdeal_pre_gated [hExpertsIdeal : Cert.ExpertsIdeal.Facts] [hPre_gated : Cert.Pre_gated.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_gated m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_gated [hExpertsReferenceIdeal : Cert.ExpertsReferenceIdeal.Facts] [hPre_gated : Cert.Pre_gated.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_gated m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Inputs [hInputs : Cert.Inputs.Facts] : Prop :=
  ∀ (m : (ℓ : Loc Cert.Inputs.nD Cert.Inputs.τ Cert.Inputs.sig) → Buf (Elt Bits) ℓ) (g : Dev Cert.Inputs.nD → PrngReg), Pre_Inputs m →
    θ_run (Cert.Inputs.defs (F := Bits)) (onTc (τ := Cert.Inputs.τ) (Cert.Inputs.main (F := Bits))) ⟨m, fun _ => 0, g⟩ (fun r => (∀ c : Dev Cert.Inputs.nD,
      r.2.mem ((c.tc : Thread Cert.Inputs.nD Cert.Inputs.τ).loc Cert.Inputs.main_arg0) = m ((c.tc : Thread Cert.Inputs.nD Cert.Inputs.τ).loc Cert.Inputs.main_arg0)
      ∧ r.2.mem ((c.tc : Thread Cert.Inputs.nD Cert.Inputs.τ).loc Cert.Inputs.main_arg1) = m ((c.tc : Thread Cert.Inputs.nD Cert.Inputs.τ).loc Cert.Inputs.main_arg1)
      ∧ r.2.mem ((c.tc : Thread Cert.Inputs.nD Cert.Inputs.τ).loc Cert.Inputs.main_arg2) = m ((c.tc : Thread Cert.Inputs.nD Cert.Inputs.τ).loc Cert.Inputs.main_arg2)
      ∧ r.2.mem ((c.tc : Thread Cert.Inputs.nD Cert.Inputs.τ).loc Cert.Inputs.main_arg3) = m ((c.tc : Thread Cert.Inputs.nD Cert.Inputs.τ).loc Cert.Inputs.main_arg3)
      ∧ r.2.mem ((c.tc : Thread Cert.Inputs.nD Cert.Inputs.τ).loc Cert.Inputs.main_arg4) = m ((c.tc : Thread Cert.Inputs.nD Cert.Inputs.τ).loc Cert.Inputs.main_arg4)
      ∧ r.2.mem ((c.tc : Thread Cert.Inputs.nD Cert.Inputs.τ).loc Cert.Inputs.main_arg5) = m ((c.tc : Thread Cert.Inputs.nD Cert.Inputs.τ).loc Cert.Inputs.main_arg5)
      ∧ r.2.mem ((c.tc : Thread Cert.Inputs.nD Cert.Inputs.τ).loc Cert.Inputs.main_arg6) = m ((c.tc : Thread Cert.Inputs.nD Cert.Inputs.τ).loc Cert.Inputs.main_arg6)
      ∧ r.2.mem ((c.tc : Thread Cert.Inputs.nD Cert.Inputs.τ).loc Cert.Inputs.main_arg7) = m ((c.tc : Thread Cert.Inputs.nD Cert.Inputs.τ).loc Cert.Inputs.main_arg7)
      ∧ r.2.mem ((c.tc : Thread Cert.Inputs.nD Cert.Inputs.τ).loc Cert.Inputs.main_arg8) = m ((c.tc : Thread Cert.Inputs.nD Cert.Inputs.τ).loc Cert.Inputs.main_arg8))
      ∧ r.2.sem = fun _ => 0)

def quiescent_InputsIdeal [hInputsIdeal : Cert.InputsIdeal.Facts] : Prop :=
  ∀ (m : (ℓ : Loc Cert.InputsIdeal.nD Cert.InputsIdeal.τ Cert.InputsIdeal.sig) → Buf (Elt Ideal) ℓ) (g : Dev Cert.InputsIdeal.nD → PrngReg), Pre_InputsIdeal m →
    θ_run (Cert.InputsIdeal.defs (F := Ideal)) (onTc (τ := Cert.InputsIdeal.τ) (Cert.InputsIdeal.main (F := Ideal))) ⟨m, fun _ => 0, g⟩ (fun r => (∀ c : Dev Cert.InputsIdeal.nD,
      r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
      ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
      ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
      ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
      ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
      ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
      ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6)
      ∧ r.2.mem ((c.tc : Thread Cert.InputsIdeal.nD Cert.InputsIdeal.τ).loc Cert.InputsIdeal.main_arg7) = m ((c.tc : Thread Cert.InputsIdeal.nD Cert.InputsIdeal.τ).loc Cert.InputsIdeal.main_arg7)
      ∧ r.2.mem ((c.tc : Thread Cert.InputsIdeal.nD Cert.InputsIdeal.τ).loc Cert.InputsIdeal.main_arg8) = m ((c.tc : Thread Cert.InputsIdeal.nD Cert.InputsIdeal.τ).loc Cert.InputsIdeal.main_arg8))
      ∧ r.2.sem = fun _ => 0)

def quiescent_InputsReferenceIdeal [hInputsReferenceIdeal : Cert.InputsReferenceIdeal.Facts] : Prop :=
  ∀ (m : (ℓ : Loc Cert.InputsReferenceIdeal.nD Cert.InputsReferenceIdeal.τ Cert.InputsReferenceIdeal.sig) → Buf (Elt Ideal) ℓ) (g : Dev Cert.InputsReferenceIdeal.nD → PrngReg), Pre_InputsReferenceIdeal m →
    θ_run (Cert.InputsReferenceIdeal.defs (F := Ideal)) (onTc (τ := Cert.InputsReferenceIdeal.τ) (Cert.InputsReferenceIdeal.main (F := Ideal))) ⟨m, fun _ => 0, g⟩ (fun r => (∀ c : Dev Cert.InputsReferenceIdeal.nD,
      r.2.mem ((c.tc : Thread Cert.InputsReferenceIdeal.nD Cert.InputsReferenceIdeal.τ).loc Cert.InputsReferenceIdeal.main_arg0) = m ((c.tc : Thread Cert.InputsReferenceIdeal.nD Cert.InputsReferenceIdeal.τ).loc Cert.InputsReferenceIdeal.main_arg0)
      ∧ r.2.mem ((c.tc : Thread Cert.InputsReferenceIdeal.nD Cert.InputsReferenceIdeal.τ).loc Cert.InputsReferenceIdeal.main_arg1) = m ((c.tc : Thread Cert.InputsReferenceIdeal.nD Cert.InputsReferenceIdeal.τ).loc Cert.InputsReferenceIdeal.main_arg1)
      ∧ r.2.mem ((c.tc : Thread Cert.InputsReferenceIdeal.nD Cert.InputsReferenceIdeal.τ).loc Cert.InputsReferenceIdeal.main_arg2) = m ((c.tc : Thread Cert.InputsReferenceIdeal.nD Cert.InputsReferenceIdeal.τ).loc Cert.InputsReferenceIdeal.main_arg2)
      ∧ r.2.mem ((c.tc : Thread Cert.InputsReferenceIdeal.nD Cert.InputsReferenceIdeal.τ).loc Cert.InputsReferenceIdeal.main_arg3) = m ((c.tc : Thread Cert.InputsReferenceIdeal.nD Cert.InputsReferenceIdeal.τ).loc Cert.InputsReferenceIdeal.main_arg3)
      ∧ r.2.mem ((c.tc : Thread Cert.InputsReferenceIdeal.nD Cert.InputsReferenceIdeal.τ).loc Cert.InputsReferenceIdeal.main_arg4) = m ((c.tc : Thread Cert.InputsReferenceIdeal.nD Cert.InputsReferenceIdeal.τ).loc Cert.InputsReferenceIdeal.main_arg4)
      ∧ r.2.mem ((c.tc : Thread Cert.InputsReferenceIdeal.nD Cert.InputsReferenceIdeal.τ).loc Cert.InputsReferenceIdeal.main_arg5) = m ((c.tc : Thread Cert.InputsReferenceIdeal.nD Cert.InputsReferenceIdeal.τ).loc Cert.InputsReferenceIdeal.main_arg5)
      ∧ r.2.mem ((c.tc : Thread Cert.InputsReferenceIdeal.nD Cert.InputsReferenceIdeal.τ).loc Cert.InputsReferenceIdeal.main_arg6) = m ((c.tc : Thread Cert.InputsReferenceIdeal.nD Cert.InputsReferenceIdeal.τ).loc Cert.InputsReferenceIdeal.main_arg6)
      ∧ r.2.mem ((c.tc : Thread Cert.InputsReferenceIdeal.nD Cert.InputsReferenceIdeal.τ).loc Cert.InputsReferenceIdeal.main_arg7) = m ((c.tc : Thread Cert.InputsReferenceIdeal.nD Cert.InputsReferenceIdeal.τ).loc Cert.InputsReferenceIdeal.main_arg7)
      ∧ r.2.mem ((c.tc : Thread Cert.InputsReferenceIdeal.nD Cert.InputsReferenceIdeal.τ).loc Cert.InputsReferenceIdeal.main_arg8) = m ((c.tc : Thread Cert.InputsReferenceIdeal.nD Cert.InputsReferenceIdeal.τ).loc Cert.InputsReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsReferenceIdeal_pre_gated [hExpertsIdeal : Cert.ExpertsIdeal.Facts] [hExpertsReferenceIdeal : Cert.ExpertsReferenceIdeal.Facts] [hPre_gated : Cert.Pre_gated.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_gated m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v37) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Inputs_InputsIdeal : Prop :=
  IdealRules.named_const.Statement Cert.InputsIdeal.κ "units" .f32 0x3E38AA3B#32 (((8 * (Real.log 2))⁻¹ : ℝ) : EReal)

def algebraic_InputsIdeal_InputsReferenceIdeal [hInputsIdeal : Cert.InputsIdeal.Facts] [hInputsReferenceIdeal : Cert.InputsReferenceIdeal.Facts] : Prop :=
  ∀ (m : (ℓ : Loc Cert.InputsIdeal.nD Cert.InputsIdeal.τ Cert.InputsIdeal.sig) → Buf (Elt Ideal) ℓ) (g : Dev Cert.InputsIdeal.nD → PrngReg)
    (m' : (ℓ : Loc Cert.InputsReferenceIdeal.nD Cert.InputsReferenceIdeal.τ Cert.InputsReferenceIdeal.sig) → Buf (Elt Ideal) ℓ) (g' : Dev Cert.InputsReferenceIdeal.nD → PrngReg), Pre_InputsIdeal m →
    (∀ c : Dev Cert.InputsIdeal.nD,
      m' ((c.tc : Thread Cert.InputsReferenceIdeal.nD Cert.InputsReferenceIdeal.τ).loc Cert.InputsReferenceIdeal.main_arg0) = m ((c.tc : Thread Cert.InputsIdeal.nD Cert.InputsIdeal.τ).loc Cert.InputsIdeal.main_arg0)
      ∧ m' ((c.tc : Thread Cert.InputsReferenceIdeal.nD Cert.InputsReferenceIdeal.τ).loc Cert.InputsReferenceIdeal.main_arg1) = m ((c.tc : Thread Cert.InputsIdeal.nD Cert.InputsIdeal.τ).loc Cert.InputsIdeal.main_arg1)
      ∧ m' ((c.tc : Thread Cert.InputsReferenceIdeal.nD Cert.InputsReferenceIdeal.τ).loc Cert.InputsReferenceIdeal.main_arg2) = m ((c.tc : Thread Cert.InputsIdeal.nD Cert.InputsIdeal.τ).loc Cert.InputsIdeal.main_arg2)
      ∧ m' ((c.tc : Thread Cert.InputsReferenceIdeal.nD Cert.InputsReferenceIdeal.τ).loc Cert.InputsReferenceIdeal.main_arg3) = m ((c.tc : Thread Cert.InputsIdeal.nD Cert.InputsIdeal.τ).loc Cert.InputsIdeal.main_arg3)
      ∧ m' ((c.tc : Thread Cert.InputsReferenceIdeal.nD Cert.InputsReferenceIdeal.τ).loc Cert.InputsReferenceIdeal.main_arg4) = m ((c.tc : Thread Cert.InputsIdeal.nD Cert.InputsIdeal.τ).loc Cert.InputsIdeal.main_arg4)
      ∧ m' ((c.tc : Thread Cert.InputsReferenceIdeal.nD Cert.InputsReferenceIdeal.τ).loc Cert.InputsReferenceIdeal.main_arg5) = m ((c.tc : Thread Cert.InputsIdeal.nD Cert.InputsIdeal.τ).loc Cert.InputsIdeal.main_arg5)
      ∧ m' ((c.tc : Thread Cert.InputsReferenceIdeal.nD Cert.InputsReferenceIdeal.τ).loc Cert.InputsReferenceIdeal.main_arg6) = m ((c.tc : Thread Cert.InputsIdeal.nD Cert.InputsIdeal.τ).loc Cert.InputsIdeal.main_arg6)
      ∧ m' ((c.tc : Thread Cert.InputsReferenceIdeal.nD Cert.InputsReferenceIdeal.τ).loc Cert.InputsReferenceIdeal.main_arg7) = m ((c.tc : Thread Cert.InputsIdeal.nD Cert.InputsIdeal.τ).loc Cert.InputsIdeal.main_arg7)
      ∧ m' ((c.tc : Thread Cert.InputsReferenceIdeal.nD Cert.InputsReferenceIdeal.τ).loc Cert.InputsReferenceIdeal.main_arg8) = m ((c.tc : Thread Cert.InputsIdeal.nD Cert.InputsIdeal.τ).loc Cert.InputsIdeal.main_arg8)) →
    ∃ (v0 : (c : Dev Cert.InputsIdeal.nD) → Buf (Elt Ideal) ((c.tc : Thread Cert.InputsIdeal.nD Cert.InputsIdeal.τ).loc Cert.InputsIdeal.main_v30_0)) (v1 : (c : Dev Cert.InputsIdeal.nD) → Buf (Elt Ideal) ((c.tc : Thread Cert.InputsIdeal.nD Cert.InputsIdeal.τ).loc Cert.InputsIdeal.main_v30_1)) (v2 : (c : Dev Cert.InputsIdeal.nD) → Buf (Elt Ideal) ((c.tc : Thread Cert.InputsIdeal.nD Cert.InputsIdeal.τ).loc Cert.InputsIdeal.main_v30_2)) (v3 : (c : Dev Cert.InputsIdeal.nD) → Buf (Elt Ideal) ((c.tc : Thread Cert.InputsIdeal.nD Cert.InputsIdeal.τ).loc Cert.InputsIdeal.main_v30_3)),
      θ_run (Cert.InputsIdeal.defs (F := Ideal)) (onTc (τ := Cert.InputsIdeal.τ) (Cert.InputsIdeal.main (F := Ideal))) ⟨m, fun _ => 0, g⟩ (fun r => ∀ c : Dev Cert.InputsIdeal.nD,
          r.2.mem ((c.tc : Thread Cert.InputsIdeal.nD Cert.InputsIdeal.τ).loc Cert.InputsIdeal.main_v30_0) = v0 c
          ∧ r.2.mem ((c.tc : Thread Cert.InputsIdeal.nD Cert.InputsIdeal.τ).loc Cert.InputsIdeal.main_v30_1) = v1 c
          ∧ r.2.mem ((c.tc : Thread Cert.InputsIdeal.nD Cert.InputsIdeal.τ).loc Cert.InputsIdeal.main_v30_2) = v2 c
          ∧ r.2.mem ((c.tc : Thread Cert.InputsIdeal.nD Cert.InputsIdeal.τ).loc Cert.InputsIdeal.main_v30_3) = v3 c
          ∧ r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
          ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
          ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
          ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
          ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
          ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
          ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6)
          ∧ r.2.mem ((c.tc : Thread Cert.InputsIdeal.nD Cert.InputsIdeal.τ).loc Cert.InputsIdeal.main_arg7) = m ((c.tc : Thread Cert.InputsIdeal.nD Cert.InputsIdeal.τ).loc Cert.InputsIdeal.main_arg7)
          ∧ r.2.mem ((c.tc : Thread Cert.InputsIdeal.nD Cert.InputsIdeal.τ).loc Cert.InputsIdeal.main_arg8) = m ((c.tc : Thread Cert.InputsIdeal.nD Cert.InputsIdeal.τ).loc Cert.InputsIdeal.main_arg8))
      ∧ θ_run (Cert.InputsReferenceIdeal.defs (F := Ideal)) (onTc (τ := Cert.InputsReferenceIdeal.τ) (Cert.InputsReferenceIdeal.main (F := Ideal))) ⟨m', fun _ => 0, g'⟩ (fun r => ∀ c : Dev Cert.InputsReferenceIdeal.nD,
          r.2.mem ((c.tc : Thread Cert.InputsReferenceIdeal.nD Cert.InputsReferenceIdeal.τ).loc Cert.InputsReferenceIdeal.main_v93) = v0 c
          ∧ r.2.mem ((c.tc : Thread Cert.InputsReferenceIdeal.nD Cert.InputsReferenceIdeal.τ).loc Cert.InputsReferenceIdeal.main_v95) = v1 c
          ∧ r.2.mem ((c.tc : Thread Cert.InputsReferenceIdeal.nD Cert.InputsReferenceIdeal.τ).loc Cert.InputsReferenceIdeal.main_v97) = v2 c
          ∧ r.2.mem ((c.tc : Thread Cert.InputsReferenceIdeal.nD Cert.InputsReferenceIdeal.τ).loc Cert.InputsReferenceIdeal.main_v100) = v3 c
          ∧ r.2.mem ((c.tc : Thread Cert.InputsReferenceIdeal.nD Cert.InputsReferenceIdeal.τ).loc Cert.InputsReferenceIdeal.main_arg0) = m' ((c.tc : Thread Cert.InputsReferenceIdeal.nD Cert.InputsReferenceIdeal.τ).loc Cert.InputsReferenceIdeal.main_arg0)
          ∧ r.2.mem ((c.tc : Thread Cert.InputsReferenceIdeal.nD Cert.InputsReferenceIdeal.τ).loc Cert.InputsReferenceIdeal.main_arg1) = m' ((c.tc : Thread Cert.InputsReferenceIdeal.nD Cert.InputsReferenceIdeal.τ).loc Cert.InputsReferenceIdeal.main_arg1)
          ∧ r.2.mem ((c.tc : Thread Cert.InputsReferenceIdeal.nD Cert.InputsReferenceIdeal.τ).loc Cert.InputsReferenceIdeal.main_arg2) = m' ((c.tc : Thread Cert.InputsReferenceIdeal.nD Cert.InputsReferenceIdeal.τ).loc Cert.InputsReferenceIdeal.main_arg2)
          ∧ r.2.mem ((c.tc : Thread Cert.InputsReferenceIdeal.nD Cert.InputsReferenceIdeal.τ).loc Cert.InputsReferenceIdeal.main_arg3) = m' ((c.tc : Thread Cert.InputsReferenceIdeal.nD Cert.InputsReferenceIdeal.τ).loc Cert.InputsReferenceIdeal.main_arg3)
          ∧ r.2.mem ((c.tc : Thread Cert.InputsReferenceIdeal.nD Cert.InputsReferenceIdeal.τ).loc Cert.InputsReferenceIdeal.main_arg4) = m' ((c.tc : Thread Cert.InputsReferenceIdeal.nD Cert.InputsReferenceIdeal.τ).loc Cert.InputsReferenceIdeal.main_arg4)
          ∧ r.2.mem ((c.tc : Thread Cert.InputsReferenceIdeal.nD Cert.InputsReferenceIdeal.τ).loc Cert.InputsReferenceIdeal.main_arg5) = m' ((c.tc : Thread Cert.InputsReferenceIdeal.nD Cert.InputsReferenceIdeal.τ).loc Cert.InputsReferenceIdeal.main_arg5)
          ∧ r.2.mem ((c.tc : Thread Cert.InputsReferenceIdeal.nD Cert.InputsReferenceIdeal.τ).loc Cert.InputsReferenceIdeal.main_arg6) = m' ((c.tc : Thread Cert.InputsReferenceIdeal.nD Cert.InputsReferenceIdeal.τ).loc Cert.InputsReferenceIdeal.main_arg6)
          ∧ r.2.mem ((c.tc : Thread Cert.InputsReferenceIdeal.nD Cert.InputsReferenceIdeal.τ).loc Cert.InputsReferenceIdeal.main_arg7) = m' ((c.tc : Thread Cert.InputsReferenceIdeal.nD Cert.InputsReferenceIdeal.τ).loc Cert.InputsReferenceIdeal.main_arg7)
          ∧ r.2.mem ((c.tc : Thread Cert.InputsReferenceIdeal.nD Cert.InputsReferenceIdeal.τ).loc Cert.InputsReferenceIdeal.main_arg8) = m' ((c.tc : Thread Cert.InputsReferenceIdeal.nD Cert.InputsReferenceIdeal.τ).loc Cert.InputsReferenceIdeal.main_arg8))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInputs : Cert.Inputs.Facts) (hInputsIdeal : Cert.InputsIdeal.Facts) (hInputsReferenceIdeal : Cert.InputsReferenceIdeal.Facts) (hPre_scores_finite : Cert.Pre_scores_finite.Facts) (hPre_tables : Cert.Pre_tables.Facts) (hPre_gated : Cert.Pre_gated.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Experts (hExperts := hExperts) (hPre_tables := hPre_tables)
    ∧ quiescent_ExpertsIdeal (hExpertsIdeal := hExpertsIdeal) (hPre_tables := hPre_tables)
    ∧ quiescent_ExpertsIdeal_pre_gated (hExpertsIdeal := hExpertsIdeal) (hPre_gated := hPre_gated)
    ∧ quiescent_ExpertsReferenceIdeal (hExpertsReferenceIdeal := hExpertsReferenceIdeal)
    ∧ quiescent_ExpertsReferenceIdeal_pre_gated (hExpertsReferenceIdeal := hExpertsReferenceIdeal) (hPre_gated := hPre_gated)
    ∧ quiescent_Inputs (hInputs := hInputs)
    ∧ quiescent_InputsIdeal (hInputsIdeal := hInputsIdeal)
    ∧ quiescent_InputsReferenceIdeal (hInputsReferenceIdeal := hInputsReferenceIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Experts_ExpertsIdeal
    ∧ algebraic_ExpertsIdeal_ExpertsReferenceIdeal_pre_gated (hExpertsIdeal := hExpertsIdeal) (hExpertsReferenceIdeal := hExpertsReferenceIdeal) (hPre_gated := hPre_gated)
    ∧ preserves_Inputs_InputsIdeal
    ∧ algebraic_InputsIdeal_InputsReferenceIdeal (hInputsIdeal := hInputsIdeal) (hInputsReferenceIdeal := hInputsReferenceIdeal)
-- ==== Pre_gated.lean ====
abbrev S92 : Shape := ⟨1, ![92]⟩
abbrev S1 : Shape := ⟨1, ![1]⟩
abbrev S23552x1152 : Shape := ⟨2, ![23552, 1152]⟩
abbrev S16x1024x512 : Shape := ⟨3, ![16, 1024, 512]⟩
abbrev S16x512x1024 : Shape := ⟨3, ![16, 512, 1024]⟩
abbrev S23552x2 : Shape := ⟨2, ![23552, 2]⟩
abbrev S_ : Shape := ⟨0, ![]⟩

class Facts : Prop where
  slices_S23552x1152_S23552x2_0_1024 : S23552x1152.Slices ![0, 1024] S23552x2
  bcast_S_S92 : S_.BroadcastsInDim S92 (![] : Fin 0 → Fin S92.rank)
  bcast_S_S1 : S_.BroadcastsInDim S1 (![] : Fin 0 → Fin S1.rank)
  bcast_S_S23552x2 : S_.BroadcastsInDim S23552x2 (![] : Fin 0 → Fin S23552x2.rank)

variable [Facts]

def fn {F : FTy → Type} [FloatOps F] (main_arg0 : IVec S92 32) (main_arg1 : IVec S92 32) (main_arg2 : IVec S1 32) (main_arg3 : FVec F S23552x1152 .f32) (main_arg4 : FVec F S16x1024x512 .f32) (main_arg5 : FVec F S16x1024x512 .f32) (main_arg6 : FVec F S16x512x1024 .f32) : IVec S92 1 × IVec S92 1 × IVec S92 1 × IVec S92 1 × IVec S1 1 × IVec S23552x2 1 × IVec S23552x2 1 :=
  let main_v0 : FVec F S23552x2 .f32 := (extractStridedSlice S23552x2 ![0, 1024] · slices_S23552x1152_S23552x2_0_1024) main_arg3
  let main_c : IVec S_ 32 := constantI S_ 32 0#32
  let main_v1 : IVec S92 32 := broadcastInDim S92 ![] bcast_S_S92 main_c
  let main_v2 : IVec S92 1 := cmpi .sge main_arg0 main_v1
  let main_c_0 : IVec S_ 32 := constantI S_ 32 16#32
  let main_v3 : IVec S92 32 := broadcastInDim S92 ![] bcast_S_S92 main_c_0
  let main_v4 : IVec S92 1 := cmpi .slt main_arg0 main_v3
  let main_c_1 : IVec S_ 32 := constantI S_ 32 0#32
  let main_v5 : IVec S92 32 := broadcastInDim S92 ![] bcast_S_S92 main_c_1
  let main_v6 : IVec S92 1 := cmpi .sge main_arg1 main_v5
  let main_c_2 : IVec S_ 32 := constantI S_ 32 16#32
  let main_v7 : IVec S92 32 := broadcastInDim S92 ![] bcast_S_S92 main_c_2
  let main_v8 : IVec S92 1 := cmpi .slt main_arg1 main_v7
  let main_c_3 : IVec S_ 32 := constantI S_ 32 1#32
  let main_v9 : IVec S1 32 := broadcastInDim S1 ![] bcast_S_S1 main_c_3
  let main_v10 : IVec S1 1 := cmpi .sge main_arg2 main_v9
  let main_cst : FVec F S_ .f32 := constant S_ .f32 0x00000000#32
  let main_v11 : FVec F S23552x2 .f32 := broadcastInDim S23552x2 ![] bcast_S_S23552x2 main_cst
  let main_v12 : IVec S23552x2 1 := cmpf .oge main_v0 main_v11
  let main_cst_4 : FVec F S_ .f32 := constant S_ .f32 0x7F800000#32
  let main_v13 : FVec F S23552x2 .f32 := broadcastInDim S23552x2 ![] bcast_S_S23552x2 main_cst_4
  let main_v14 : IVec S23552x2 1 := cmpf .olt main_v0 main_v13
  (main_v2, main_v4, main_v6, main_v8, main_v10, main_v12, main_v14)
-- ==== Pre_scores_finite.lean ====
abbrev S8 : Shape := ⟨1, ![8]⟩
abbrev S4x4096x512 : Shape := ⟨3, ![4, 4096, 512]⟩
abbrev S4x4096x128 : Shape := ⟨3, ![4, 4096, 128]⟩
abbrev S4x256x128 : Shape := ⟨3, ![4, 256, 128]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S4x4096x512 : S_.BroadcastsInDim S4x4096x512 (![] : Fin 0 → Fin S4x4096x512.rank)
  bcast_S_S4x4096x128 : S_.BroadcastsInDim S4x4096x128 (![] : Fin 0 → Fin S4x4096x128.rank)
  bcast_S_S4x256x128 : S_.BroadcastsInDim S4x256x128 (![] : Fin 0 → Fin S4x256x128.rank)

variable [Facts]

def fn {F : FTy → Type} [FloatOps F] (main_arg0 : FVec F S8 .f32) (main_arg1 : FVec F S4x4096x512 .bf16) (main_arg2 : FVec F S4x4096x128 .bf16) (main_arg3 : FVec F S4x4096x128 .bf16) (main_arg4 : FVec F S4x256x128 .bf16) (main_arg5 : FVec F S4x256x128 .bf16) : IVec S8 1 × IVec S4x4096x512 1 × IVec S4x4096x128 1 × IVec S4x256x128 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S4x4096x512 .f32 := (extf .f32 · bitsLt_bf16_f32) main_arg1
  let main_v4 : FVec F S4x4096x512 .f32 := Host.absf main_v3
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_v7 : FVec F S4x4096x128 .f32 := (extf .f32 · bitsLt_bf16_f32) main_arg2
  let main_v8 : FVec F S4x4096x128 .f32 := Host.absf main_v7
  let main_cst_1 : FVec F S_ .f32 := constant S_ .f32 0x7F800000#32
  let main_v9 : FVec F S4x4096x128 .f32 := broadcastInDim S4x4096x128 ![] bcast_S_S4x4096x128 main_cst_1
  let main_v10 : IVec S4x4096x128 1 := cmpf .olt main_v8 main_v9
  let main_v11 : FVec F S4x256x128 .f32 := (extf .f32 · bitsLt_bf16_f32) main_arg4
  let main_v12 : FVec F S4x256x128 .f32 := Host.absf main_v11
  let main_cst_2 : FVec F S_ .f32 := constant S_ .f32 0x7F800000#32
  let main_v13 : FVec F S4x256x128 .f32 := broadcastInDim S4x256x128 ![] bcast_S_S4x256x128 main_cst_2
  let main_v14 : IVec S4x256x128 1 := cmpf .olt main_v12 main_v13
  (main_v2, main_v6, main_v10, main_v14)
-- ==== Pre_tables.lean ====
abbrev S92 : Shape := ⟨1, ![92]⟩
abbrev S1 : Shape := ⟨1, ![1]⟩
abbrev S23552x1152 : Shape := ⟨2, ![23552, 1152]⟩
abbrev S16x1024x512 : Shape := ⟨3, ![16, 1024, 512]⟩
abbrev S16x512x1024 : Shape := ⟨3, ![16, 512, 1024]⟩
abbrev S_ : Shape := ⟨0, ![]⟩

class Facts : Prop where
  bcast_S_S92 : S_.BroadcastsInDim S92 (![] : Fin 0 → Fin S92.rank)
  bcast_S_S1 : S_.BroadcastsInDim S1 (![] : Fin 0 → Fin S1.rank)

variable [Facts]

def fn {F : FTy → Type} [FloatOps F] (main_arg0 : IVec S92 32) (main_arg1 : IVec S92 32) (main_arg2 : IVec S1 32) (main_arg3 : FVec F S23552x1152 .f32) (main_arg4 : FVec F S16x1024x512 .f32) (main_arg5 : FVec F S16x1024x512 .f32) (main_arg6 : FVec F S16x512x1024 .f32) : IVec S92 1 × IVec S92 1 × IVec S92 1 × IVec S92 1 × IVec S1 1 :=
  let main_c : IVec S_ 32 := constantI S_ 32 0#32
  let main_v0 : IVec S92 32 := broadcastInDim S92 ![] bcast_S_S92 main_c
  let main_v1 : IVec S92 1 := cmpi .sge main_arg0 main_v0
  let main_c_0 : IVec S_ 32 := constantI S_ 32 16#32
  let main_v2 : IVec S92 32 := broadcastInDim S92 ![] bcast_S_S92 main_c_0
  let main_v3 : IVec S92 1 := cmpi .slt main_arg0 main_v2
  let main_c_1 : IVec S_ 32 := constantI S_ 32 0#32
  let main_v4 : IVec S92 32 := broadcastInDim S92 ![] bcast_S_S92 main_c_1
  let main_v5 : IVec S92 1 := cmpi .sge main_arg1 main_v4
  let main_c_2 : IVec S_ 32 := constantI S_ 32 16#32
  let main_v6 : IVec S92 32 := broadcastInDim S92 ![] bcast_S_S92 main_c_2
  let main_v7 : IVec S92 1 := cmpi .slt main_arg1 main_v6
  let main_c_3 : IVec S_ 32 := constantI S_ 32 1#32
  let main_v8 : IVec S1 32 := broadcastInDim S1 ![] bcast_S_S1 main_c_3
  let main_v9 : IVec S1 1 := cmpi .sge main_arg2 main_v8
  (main_v1, main_v3, main_v5, main_v7, main_v9)
-- ==== Kernel.lean ====
abbrev S8 : Shape := ⟨1, ![8]⟩
abbrev S4x4096x512 : Shape := ⟨3, ![4, 4096, 512]⟩
abbrev S4x4096x128 : Shape := ⟨3, ![4, 4096, 128]⟩
abbrev S4x256x128 : Shape := ⟨3, ![4, 256, 128]⟩
abbrev S4x4096x64 : Shape := ⟨3, ![4, 4096, 64]⟩
abbrev S4x256x64 : Shape := ⟨3, ![4, 256, 64]⟩
abbrev S4x256x512 : Shape := ⟨3, ![4, 256, 512]⟩
abbrev S1x1024x512 : Shape := ⟨3, ![1, 1024, 512]⟩
abbrev S1x128x512 : Shape := ⟨3, ![1, 128, 512]⟩
abbrev S1x256x512 : Shape := ⟨3, ![1, 256, 512]⟩
abbrev S1280x512 : Shape := ⟨2, ![1280, 512]⟩
abbrev S128x512 : Shape := ⟨2, ![128, 512]⟩
abbrev S1024x512 : Shape := ⟨2, ![1024, 512]⟩
abbrev S256x512 : Shape := ⟨2, ![256, 512]⟩
abbrev S512x1 : Shape := ⟨2, ![512, 1]⟩
abbrev S1 : Shape := ⟨1, ![1]⟩
abbrev S384x512 : Shape := ⟨2, ![384, 512]⟩
abbrev S128x384 : Shape := ⟨2, ![128, 384]⟩
abbrev S128x128 : Shape := ⟨2, ![128, 128]⟩
abbrev S512x128 : Shape := ⟨2, ![512, 128]⟩
abbrev S384x128 : Shape := ⟨2, ![384, 128]⟩
abbrev S256x128 : Shape := ⟨2, ![256, 128]⟩
abbrev S512x384 : Shape := ⟨2, ![512, 384]⟩
abbrev S1x128x384 : Shape := ⟨3, ![1, 128, 384]⟩
abbrev S4x128x384 : Shape := ⟨3, ![4, 128, 384]⟩
abbrev S512x256 : Shape := ⟨2, ![512, 256]⟩
abbrev S512 : Shape := ⟨1, ![512]⟩
abbrev S256x384 : Shape := ⟨2, ![256, 384]⟩
abbrev S256x256 : Shape := ⟨2, ![256, 256]⟩
abbrev S256x1 : Shape := ⟨2, ![256, 1]⟩

abbrev nBuf : Space → Nat
  | .hbm => 21
  | .vmem => 13
  | .smem => 1
  | _ => 0

abbrev bufTy : (tb : Table) → Fin (tcTables nBuf tb) → BufTy
  | .hbm, ⟨0, _⟩ => ⟨S8, .f32⟩
  | .hbm, ⟨1, _⟩ => ⟨S4x4096x512, .bf16⟩
  | .hbm, ⟨2, _⟩ => ⟨S4x4096x128, .bf16⟩
  | .hbm, ⟨3, _⟩ => ⟨S4x4096x128, .bf16⟩
  | .hbm, ⟨4, _⟩ => ⟨S4x256x128, .bf16⟩
  | .hbm, ⟨5, _⟩ => ⟨S4x256x128, .bf16⟩
  | .hbm, ⟨6, _⟩ => ⟨S4x4096x64, .bf16⟩
  | .hbm, ⟨7, _⟩ => ⟨S4x4096x64, .bf16⟩
  | .hbm, ⟨8, _⟩ => ⟨S4x4096x128, .bf16⟩
  | .hbm, ⟨9, _⟩ => ⟨S4x4096x64, .bf16⟩
  | .hbm, ⟨10, _⟩ => ⟨S4x4096x64, .bf16⟩
  | .hbm, ⟨11, _⟩ => ⟨S4x4096x128, .bf16⟩
  | .hbm, ⟨12, _⟩ => ⟨S4x4096x512, .bf16⟩
  | .hbm, ⟨13, _⟩ => ⟨S4x256x64, .bf16⟩
  | .hbm, ⟨14, _⟩ => ⟨S4x256x64, .bf16⟩
  | .hbm, ⟨15, _⟩ => ⟨S4x256x128, .bf16⟩
  | .hbm, ⟨16, _⟩ => ⟨S4x256x64, .bf16⟩
  | .hbm, ⟨17, _⟩ => ⟨S4x256x64, .bf16⟩
  | .hbm, ⟨18, _⟩ => ⟨S4x256x128, .bf16⟩
  | .hbm, ⟨19, _⟩ => ⟨S4x256x512, .bf16⟩
  | .hbm, ⟨20, _⟩ => ⟨S4x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1280x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_mult1 : BitVec 32 :=
  let c0_i32_26 : BitVec 32 := 0#32
  c0_i32_26
def k0_mult2 : BitVec 32 :=
  let c128_i32_64 : BitVec 32 := 128#32
  c128_i32_64
def k0_mult3 : BitVec 32 :=
  let c256_i32_107 : BitVec 32 := 256#32
  c256_i32_107
def k0_mult4 : BitVec 32 :=
  let c384_i32 : BitVec 32 := 384#32
  c384_i32
def k0_mult5 : BitVec 32 :=
  let c512_i32 : BitVec 32 := 512#32
  c512_i32
def k0_mult6 : BitVec 32 :=
  let c640_i32 : BitVec 32 := 640#32
  c640_i32
def k0_mult7 : BitVec 32 :=
  let c768_i32 : BitVec 32 := 768#32
  c768_i32
def k0_mult8 : BitVec 32 :=
  let c896_i32 : BitVec 32 := 896#32
  c896_i32
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8 : Shape := ⟨1, ![8]⟩
abbrev S4x4096x512 : Shape := ⟨3, ![4, 4096, 512]⟩
abbrev S4x4096x128 : Shape := ⟨3, ![4, 4096, 128]⟩
abbrev S4x256x128 : Shape := ⟨3, ![4, 256, 128]⟩
abbrev S_ : Shape := ⟨0, ![]⟩
abbrev S4x32x128x2x4x64 : Shape := ⟨6, ![4, 32, 128, 2, 4, 64]⟩
abbrev S4x256x2x64 : Shape := ⟨4, ![4, 256, 2, 64]⟩
abbrev S4x4096x2x64 : Shape := ⟨4, ![4, 4096, 2, 64]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S4x32x2x384x128x4 : Shape := ⟨6, ![4, 32, 2, 384, 128, 4]⟩
abbrev S4x32x2x4x128x384 : Shape := ⟨6, ![4, 32, 2, 4, 128, 384]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S4x2x256x32x128x4 : Shape := ⟨6, ![4, 2, 256, 32, 128, 4]⟩
abbrev S4x32x2x4x128x256 : Shape := ⟨6, ![4, 32, 2, 4, 128, 256]⟩
abbrev S1x1x2x4x1x1 : Shape := ⟨6, ![1, 1, 2, 4, 1, 1]⟩
abbrev S4x32x2x4x128x1 : Shape := ⟨6, ![4, 32, 2, 4, 128, 1]⟩
abbrev S4x32x2x4x128x641 : Shape := ⟨6, ![4, 32, 2, 4, 128, 641]⟩
abbrev S4x32x2x4x128 : Shape := ⟨5, ![4, 32, 2, 4, 128]⟩
abbrev S4x32x2x64x4x128 : Shape := ⟨6, ![4, 32, 2, 64, 4, 128]⟩
abbrev S4x2x64x32x4x128 : Shape := ⟨6, ![4, 2, 64, 32, 4, 128]⟩

abbrev nBuf : Space → Nat
  | .hbm => 120
  | .vmem => 0
  | .smem => 0
  | _ => 0

abbrev bufTy : (tb : Table) → Fin (tcTables nBuf tb) → BufTy
  | .hbm, ⟨0, _⟩ => ⟨S8, .f32⟩
  | .hbm, ⟨1, _⟩ => ⟨S4x4096x512, .bf16⟩
  | .hbm, ⟨2, _⟩ => ⟨S4x4096x128, .bf16⟩
  | .hbm, ⟨3, _⟩ => ⟨S4x4096x128, .bf16⟩
  | .hbm, ⟨4, _⟩ => ⟨S4x256x128, .bf16⟩
  | .hbm, ⟨5, _⟩ => ⟨S4x256x128, .bf16⟩
  | .hbm, ⟨6, _⟩ => ⟨S4x4096x512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x512, .f32⟩
  | .hbm, ⟨12, _⟩ => ⟨S4x4096x512, .f32⟩
  | .hbm, ⟨13, _⟩ => ⟨S4x4096x128, .f32⟩
  | .hbm, ⟨14, _⟩ => ⟨S4x4096x128, .f32⟩
  | .hbm, ⟨15, _⟩ => ⟨S4x256x128, .f32⟩
  | .hbm, ⟨16, _⟩ => ⟨S4x256x128, .f32⟩
  | .hbm, ⟨17, _⟩ => ⟨S4x32x128x2x4x64, .f32⟩
  | .hbm, ⟨18, _⟩ => ⟨S4x256x2x64, .f32⟩
  | .hbm, ⟨19, _⟩ => ⟨S4x256x2x64, .f32⟩
  | .hbm, ⟨20, _⟩ => ⟨S4x4096x2x64, .f32⟩
  | .hbm, ⟨21, _⟩ => ⟨S_, .i32⟩
  | .hbm, ⟨22, _⟩ => ⟨S_, .f32⟩
  | .hbm, ⟨23, _⟩ => ⟨S4x4352x2x64, .f32⟩
  | .hbm, ⟨24, _⟩ => ⟨S4x34x128x2x64, .f32⟩
  | .hbm, ⟨25, _⟩ => ⟨S4x32x128x2x64, .f32⟩
  | .hbm, ⟨26, _⟩ => ⟨S4x32x128x2x64, .f32⟩
  | .hbm, ⟨27, _⟩ => ⟨S4x32x128x2x64, .f32⟩
  | .hbm, ⟨28, _⟩ => ⟨S4x32x384x2x64, .f32⟩
  | .hbm, ⟨29, _⟩ => ⟨S4x4096x2x64, .f32⟩
  | .hbm, ⟨30, _⟩ => ⟨S_, .i32⟩
  | .hbm, ⟨31, _⟩ => ⟨S_, .f32⟩
  | .hbm, ⟨32, _⟩ => ⟨S4x4352x2x64, .f32⟩
  | .hbm, ⟨33, _⟩ => ⟨S4x34x128x2x64, .f32⟩
  | .hbm, ⟨34, _⟩ => ⟨S4x32x128x2x64, .f32⟩
  | .hbm, ⟨35, _⟩ => ⟨S4x32x128x2x64, .f32⟩
  | .hbm, ⟨36, _⟩ => ⟨S4x32x128x2x64, .f32⟩
  | .hbm, ⟨37, _⟩ => ⟨S4x32x384x2x64, .f32⟩
  | .hbm, ⟨38, _⟩ => ⟨S4x32x2x384x128x4, .f32⟩
  | .hbm, ⟨39, _⟩ => ⟨S4x32x2x4x128x384, .f32⟩
  | .hbm, ⟨40, _⟩ => ⟨S_, .f32⟩
  | .hbm, ⟨41, _⟩ => ⟨S4x32x2x4x128x384, .f32⟩
  | .hbm, ⟨42, _⟩ => ⟨S4x32x2x4x128x384, .f32⟩
  | .hbm, ⟨43, _⟩ => ⟨S32, .i32⟩
  | .hbm, ⟨44, _⟩ => ⟨S32x1x1, .i32⟩
  | .hbm, ⟨45, _⟩ => ⟨S_, .i32⟩
  | .hbm, ⟨46, _⟩ => ⟨S32x1x1, .i32⟩
  | .hbm, ⟨47, _⟩ => ⟨S32x1x1, .i32⟩
  | .hbm, ⟨48, _⟩ => ⟨S128, .i32⟩
  | .hbm, ⟨49, _⟩ => ⟨S1x128x1, .i32⟩
  | .hbm, ⟨50, _⟩ => ⟨S32x128x1, .i32⟩
  | .hbm, ⟨51, _⟩ => ⟨S32x128x1, .i32⟩
  | .hbm, ⟨52, _⟩ => ⟨S32x128x1, .i32⟩
  | .hbm, ⟨53, _⟩ => ⟨S32, .i32⟩
  | .hbm, ⟨54, _⟩ => ⟨S32x1x1, .i32⟩
  | .hbm, ⟨55, _⟩ => ⟨S_, .i32⟩
  | .hbm, ⟨56, _⟩ => ⟨S32x1x1, .i32⟩
  | .hbm, ⟨57, _⟩ => ⟨S32x1x1, .i32⟩
  | .hbm, ⟨58, _⟩ => ⟨S_, .i32⟩
  | .hbm, ⟨59, _⟩ => ⟨S32x1x1, .i32⟩
  | .hbm, ⟨60, _⟩ => ⟨S32x1x1, .i32⟩
  | .hbm, ⟨61, _⟩ => ⟨S384, .i32⟩
  | .hbm, ⟨62, _⟩ => ⟨S1x1x384, .i32⟩
  | .hbm, ⟨63, _⟩ => ⟨S32x1x384, .i32⟩
  | .hbm, ⟨64, _⟩ => ⟨S32x1x384, .i32⟩
  | .hbm, ⟨65, _⟩ => ⟨S32x1x384, .i32⟩
  | .hbm, ⟨66, _⟩ => ⟨S32x128x384, .i32⟩
  | .hbm, ⟨67, _⟩ => ⟨S32x128x384, .i32⟩
  | .hbm, ⟨68, _⟩ => ⟨S32x128x384, .i32⟩
  | .hbm, ⟨69, _⟩ => ⟨S32x128x384, .i32⟩
  | .hbm, ⟨70, _⟩ => ⟨S_, .i32⟩
  | .hbm, ⟨71, _⟩ => ⟨S32x128x384, .i32⟩
  | .hbm, ⟨72, _⟩ => ⟨S32x128x384, .i1⟩
  | .hbm, ⟨73, _⟩ => ⟨S_, .i32⟩
  | .hbm, ⟨74, _⟩ => ⟨S32x1x384, .i32⟩
  | .hbm, ⟨75, _⟩ => ⟨S32x1x384, .i1⟩
  | .hbm, ⟨76, _⟩ => ⟨S32x128x384, .i1⟩
  | .hbm, ⟨77, _⟩ => ⟨S32x128x384, .i1⟩
  | .hbm, ⟨78, _⟩ => ⟨S_, .i32⟩
  | .hbm, ⟨79, _⟩ => ⟨S32x1x384, .i32⟩
  | .hbm, ⟨80, _⟩ => ⟨S32x1x384, .i1⟩
  | .hbm, ⟨81, _⟩ => ⟨S32x128x384, .i1⟩
  | .hbm, ⟨82, _⟩ => ⟨S32x128x384, .i1⟩
  | .hbm, ⟨83, _⟩ => ⟨S1x32x1x1x128x384, .i1⟩
  | .hbm, ⟨84, _⟩ => ⟨S_, .f32⟩
  | .hbm, ⟨85, _⟩ => ⟨S_, .f32⟩
  | .hbm, ⟨86, _⟩ => ⟨S4x32x2x4x128x384, .i1⟩
  | .hbm, ⟨87, _⟩ => ⟨S4x32x2x4x128x384, .f32⟩
  | .hbm, ⟨88, _⟩ => ⟨S4x32x2x4x128x384, .f32⟩
  | .hbm, ⟨89, _⟩ => ⟨S4x2x256x32x128x4, .f32⟩
  | .hbm, ⟨90, _⟩ => ⟨S4x32x2x4x128x256, .f32⟩
  | .hbm, ⟨91, _⟩ => ⟨S_, .f32⟩
  | .hbm, ⟨92, _⟩ => ⟨S4x32x2x4x128x256, .f32⟩
  | .hbm, ⟨93, _⟩ => ⟨S4x32x2x4x128x256, .f32⟩
  | .hbm, ⟨94, _⟩ => ⟨S1x1x2x4x1x1, .f32⟩
  | .hbm, ⟨95, _⟩ => ⟨S4x32x2x4x128x1, .f32⟩
  | .hbm, ⟨96, _⟩ => ⟨S4x32x2x4x128x641, .f32⟩
  | .hbm, ⟨97, _⟩ => ⟨S_, .f32⟩
  | .hbm, ⟨98, _⟩ => ⟨S4x32x2x4x128, .f32⟩
  | .hbm, ⟨99, _⟩ => ⟨S_, .f32⟩
  | .hbm, ⟨100, _⟩ => ⟨S4x32x2x4x128, .f32⟩
  | .hbm, ⟨101, _⟩ => ⟨S4x32x2x4x128, .f32⟩
  | .hbm, ⟨102, _⟩ => ⟨S4x32x2x4x128x1, .f32⟩
  | .hbm, ⟨103, _⟩ => ⟨S4x32x2x4x128x641, .f32⟩
  | .hbm, ⟨104, _⟩ => ⟨S4x32x2x4x128x641, .f32⟩
  | .hbm, ⟨105, _⟩ => ⟨S4x32x2x4x128x641, .f32⟩
  | .hbm, ⟨106, _⟩ => ⟨S_, .f32⟩
  | .hbm, ⟨107, _⟩ => ⟨S4x32x2x4x128, .f32⟩
  | .hbm, ⟨108, _⟩ => ⟨S4x32x2x4x128x1, .f32⟩
  | .hbm, ⟨109, _⟩ => ⟨S4x32x2x4x128x641, .f32⟩
  | .hbm, ⟨110, _⟩ => ⟨S4x32x2x4x128x641, .f32⟩
  | .hbm, ⟨111, _⟩ => ⟨S4x32x2x4x128x384, .f32⟩
  | .hbm, ⟨112, _⟩ => ⟨S4x32x2x64x4x128, .f32⟩
  | .hbm, ⟨113, _⟩ => ⟨S4x32x128x2x4x64, .f32⟩
  | .hbm, ⟨114, _⟩ => ⟨S4x32x2x4x128x256, .f32⟩
  | .hbm, ⟨115, _⟩ => ⟨S4x2x64x32x4x128, .f32⟩
  | .hbm, ⟨116, _⟩ => ⟨S4x32x128x2x4x64, .f32⟩
  | .hbm, ⟨117, _⟩ => ⟨S4x32x128x2x4x64, .f32⟩
  | .hbm, ⟨118, _⟩ => ⟨S4x4096x512, .f32⟩
  | .hbm, ⟨119, _⟩ => ⟨S4x4096x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_6 : Ref sig .tc := ⟨.hbm, 70, rfl⟩
abbrev main_v54 : Ref sig .tc := ⟨.hbm, 71, rfl⟩
abbrev main_v55 : Ref sig .tc := ⟨.hbm, 72, rfl⟩
abbrev main_c_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Experts.lean ====
abbrev S92 : Shape := ⟨1, ![92]⟩
abbrev S1 : Shape := ⟨1, ![1]⟩
abbrev S23552x1152 : Shape := ⟨2, ![23552, 1152]⟩
abbrev S16x1024x512 : Shape := ⟨3, ![16, 1024, 512]⟩
abbrev S16x512x1024 : Shape := ⟨3, ![16, 512, 1024]⟩
abbrev S23552x1024 : Shape := ⟨2, ![23552, 1024]⟩
abbrev S256x1152 : Shape := ⟨2, ![256, 1152]⟩
abbrev S1x1024x512 : Shape := ⟨3, ![1, 1024, 512]⟩
abbrev S1x512x1024 : Shape := ⟨3, ![1, 512, 1024]⟩
abbrev S256x1024 : Shape := ⟨2, ![256, 1024]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 16
  | .smem => 3
  | _ => 0

abbrev bufTy : (tb : Table) → Fin (tcTables nBuf tb) → BufTy
  | .hbm, ⟨0, _⟩ => ⟨S23552x1152, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S23552x1024, .f32⟩
  | .local _ .vmem, ⟨0, _⟩ => ⟨S256x1152, .f32⟩
  | .local _ .vmem, ⟨1, _⟩ => ⟨S256x1152, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x512x1024, .f32⟩
  | .local _ .vmem, ⟨13, _⟩ => ⟨S1x512x1024, .f32⟩
  | .local _ .vmem, ⟨14, _⟩ => ⟨S256x1024, .f32⟩
  | .local _ .vmem, ⟨15, _⟩ => ⟨S256x1024, .f32⟩
  | .local _ .smem, ⟨0, _⟩ => ⟨S92, .i32⟩
  | .local _ .smem, ⟨1, _⟩ => ⟨S92, .i32⟩
  | .local _ .smem, ⟨2, _⟩ => ⟨S1, .i32⟩
  | _, _ => ⟨S23552x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![92], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S92.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S92) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S92.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S92) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S92.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S92) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S92.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S92) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S92.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S92) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S92.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S92) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S92 : Shape := ⟨1, ![92]⟩
abbrev S1 : Shape := ⟨1, ![1]⟩
abbrev S23552x1152 : Shape := ⟨2, ![23552, 1152]⟩
abbrev S16x1024x512 : Shape := ⟨3, ![16, 1024, 512]⟩
abbrev S16x512x1024 : Shape := ⟨3, ![16, 512, 1024]⟩
abbrev S23552x1024 : Shape := ⟨2, ![23552, 1024]⟩
abbrev S23552x1 : Shape := ⟨2, ![23552, 1]⟩
abbrev S16 : Shape := ⟨1, ![16]⟩
abbrev S1x16 : Shape := ⟨2, ![1, 16]⟩
abbrev S92x1 : Shape := ⟨2, ![92, 1]⟩
abbrev S92x256 : Shape := ⟨2, ![92, 256]⟩
abbrev S23552x16 : Shape := ⟨2, ![23552, 16]⟩
abbrev S_ : Shape := ⟨0, ![]⟩
abbrev S23552x16x512 : Shape := ⟨3, ![23552, 16, 512]⟩
abbrev S16x23552 : Shape := ⟨2, ![16, 23552]⟩
abbrev S16x23552x1 : Shape := ⟨3, ![16, 23552, 1]⟩
abbrev S16x23552x1024 : Shape := ⟨3, ![16, 23552, 1024]⟩

abbrev nBuf : Space → Nat
  | .hbm => 66
  | .vmem => 0
  | .smem => 0
  | _ => 0

abbrev bufTy : (tb : Table) → Fin (tcTables nBuf tb) → BufTy
  | .hbm, ⟨0, _⟩ => ⟨S92, .i32⟩
  | .hbm, ⟨1, _⟩ => ⟨S92, .i32⟩
  | .hbm, ⟨2, _⟩ => ⟨S1, .i32⟩
  | .hbm, ⟨3, _⟩ => ⟨S23552x1152, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S23552x1024, .f32⟩
  | .hbm, ⟨8, _⟩ => ⟨S23552x1, .f32⟩
  | .hbm, ⟨9, _⟩ => ⟨S23552x1, .f32⟩
  | .hbm, ⟨10, _⟩ => ⟨S16, .i32⟩
  | .hbm, ⟨11, _⟩ => ⟨S1x16, .i32⟩
  | .hbm, ⟨12, _⟩ => ⟨S92x1, .i32⟩
  | .hbm, ⟨13, _⟩ => ⟨S92x256, .i32⟩
  | .hbm, ⟨14, _⟩ => ⟨S23552x1, .i32⟩
  | .hbm, ⟨15, _⟩ => ⟨S23552x16, .i32⟩
  | .hbm, ⟨16, _⟩ => ⟨S23552x16, .i32⟩
  | .hbm, ⟨17, _⟩ => ⟨S23552x16, .i1⟩
  | .hbm, ⟨18, _⟩ => ⟨S_, .f32⟩
  | .hbm, ⟨19, _⟩ => ⟨S_, .f32⟩
  | .hbm, ⟨20, _⟩ => ⟨S23552x16, .f32⟩
  | .hbm, ⟨21, _⟩ => ⟨S23552x16, .f32⟩
  | .hbm, ⟨22, _⟩ => ⟨S23552x16, .f32⟩
  | .hbm, ⟨23, _⟩ => ⟨S92x1, .i32⟩
  | .hbm, ⟨24, _⟩ => ⟨S92x256, .i32⟩
  | .hbm, ⟨25, _⟩ => ⟨S23552x1, .i32⟩
  | .hbm, ⟨26, _⟩ => ⟨S23552x16, .i32⟩
  | .hbm, ⟨27, _⟩ => ⟨S23552x16, .i32⟩
  | .hbm, ⟨28, _⟩ => ⟨S23552x16, .i1⟩
  | .hbm, ⟨29, _⟩ => ⟨S_, .f32⟩
  | .hbm, ⟨30, _⟩ => ⟨S_, .f32⟩
  | .hbm, ⟨31, _⟩ => ⟨S23552x16, .f32⟩
  | .hbm, ⟨32, _⟩ => ⟨S23552x16, .f32⟩
  | .hbm, ⟨33, _⟩ => ⟨S23552x16, .f32⟩
  | .hbm, ⟨34, _⟩ => ⟨S23552x16, .f32⟩
  | .hbm, ⟨35, _⟩ => ⟨S23552x16x512, .f32⟩
  | .hbm, ⟨36, _⟩ => ⟨S23552x16x512, .f32⟩
  | .hbm, ⟨37, _⟩ => ⟨S23552x16x512, .f32⟩
  | .hbm, ⟨38, _⟩ => ⟨S_, .f32⟩
  | .hbm, ⟨39, _⟩ => ⟨S23552x16x512, .f32⟩
  | .hbm, ⟨40, _⟩ => ⟨S23552x16x512, .f32⟩
  | .hbm, ⟨41, _⟩ => ⟨S_, .f32⟩
  | .hbm, ⟨42, _⟩ => ⟨S23552x16x512, .f32⟩
  | .hbm, ⟨43, _⟩ => ⟨S23552x16x512, .f32⟩
  | .hbm, ⟨44, _⟩ => ⟨S23552x16x512, .f32⟩
  | .hbm, ⟨45, _⟩ => ⟨S23552x16x512, .f32⟩
  | .hbm, ⟨46, _⟩ => ⟨S23552x16x512, .f32⟩
  | .hbm, ⟨47, _⟩ => ⟨S16x23552, .f32⟩
  | .hbm, ⟨48, _⟩ => ⟨S16x23552x1, .f32⟩
  | .hbm, ⟨49, _⟩ => ⟨S16x23552x1024, .f32⟩
  | .hbm, ⟨50, _⟩ => ⟨S16x23552x1024, .f32⟩
  | .hbm, ⟨51, _⟩ => ⟨S16x23552x1024, .f32⟩
  | .hbm, ⟨52, _⟩ => ⟨S_, .f32⟩
  | .hbm, ⟨53, _⟩ => ⟨S23552x1024, .f32⟩
  | .hbm, ⟨54, _⟩ => ⟨S92, .i32⟩
  | .hbm, ⟨55, _⟩ => ⟨S92x1, .i32⟩
  | .hbm, ⟨56, _⟩ => ⟨S92x256, .i32⟩
  | .hbm, ⟨57, _⟩ => ⟨S23552x1, .i32⟩
  | .hbm, ⟨58, _⟩ => ⟨S_, .i32⟩
  | .hbm, ⟨59, _⟩ => ⟨S23552x1, .i32⟩
  | .hbm, ⟨60, _⟩ => ⟨S23552x1, .i1⟩
  | .hbm, ⟨61, _⟩ => ⟨S_, .f32⟩
  | .hbm, ⟨62, _⟩ => ⟨S_, .f32⟩
  | .hbm, ⟨63, _⟩ => ⟨S23552x1024, .i1⟩
  | .hbm, ⟨64, _⟩ => ⟨S23552x1024, .f32⟩
  | .hbm, ⟨65, _⟩ => ⟨S23552x1024, .f32⟩
  | _, _ => ⟨S92, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_1 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v37 : Ref sig .tc := ⟨.hbm, 65, rfl⟩

abbrev nD : Nat := 1
abbrev τ : Topo := Topo.v7x

variable {F : FTy → Type} [FloatOps F]
-- ==== Inputs.lean ====
abbrev S4x4096x1024 : Shape := ⟨3, ![4, 4096, 1024]⟩
abbrev S8x6144 : Shape := ⟨2, ![8, 6144]⟩
abbrev S1024 : Shape := ⟨1, ![1024]⟩
abbrev S1024x1280 : Shape := ⟨2, ![1024, 1280]⟩
abbrev S64 : Shape := ⟨1, ![64]⟩
abbrev S256x512 : Shape := ⟨2, ![256, 512]⟩
abbrev S4096x64 : Shape := ⟨2, ![4096, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S4096x128 : Shape := ⟨2, ![4096, 128]⟩
abbrev S4x4096x256 : Shape := ⟨3, ![4, 4096, 256]⟩
abbrev S4x4096x512 : Shape := ⟨3, ![4, 4096, 512]⟩
abbrev S1x1024x1024 : Shape := ⟨3, ![1, 1024, 1024]⟩
abbrev S1024x128 : Shape := ⟨2, ![1024, 128]⟩
abbrev S1x1024x256 : Shape := ⟨3, ![1, 1024, 256]⟩
abbrev S1x1024x512 : Shape := ⟨3, ![1, 1024, 512]⟩
abbrev S1024x1024 : Shape := ⟨2, ![1024, 1024]⟩
abbrev S1024x1 : Shape := ⟨2, ![1024, 1]⟩
abbrev S1024x256 : Shape := ⟨2, ![1024, 256]⟩
abbrev S1024x512 : Shape := ⟨2, ![1024, 512]⟩
abbrev S128x128 : Shape := ⟨2, ![128, 128]⟩

abbrev nBuf : Space → Nat
  | .hbm => 51
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1024, .f32⟩
  | .hbm, ⟨3, _⟩ => ⟨S1024x1280, .f32⟩
  | .hbm, ⟨4, _⟩ => ⟨S64, .f32⟩
  | .hbm, ⟨5, _⟩ => ⟨S64, .f32⟩
  | .hbm, ⟨6, _⟩ => ⟨S256x512, .bf16⟩
  | .hbm, ⟨7, _⟩ => ⟨S4096x64, .f32⟩
  | .hbm, ⟨8, _⟩ => ⟨S4096x64, .f32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S1x512, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S_, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .bf16⟩
  | .hbm, ⟨24, _⟩ => ⟨S64, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S1x64, .i32⟩
  | .hbm, ⟨29, _⟩ => ⟨S_, .i32⟩
  | .hbm, ⟨30, _⟩ => ⟨S1x64, .i32⟩
  | .hbm, ⟨31, _⟩ => ⟨S1x64, .i1⟩
  | .hbm, ⟨32, _⟩ => ⟨S4096x64, .f32⟩
  | .hbm, ⟨33, _⟩ => ⟨S4096x64, .i1⟩
  | .hbm, ⟨34, _⟩ => ⟨S4096x64, .f32⟩
  | .hbm, ⟨35, _⟩ => ⟨S1x64, .f32⟩
  | .hbm, ⟨36, _⟩ => ⟨S8x64, .f32⟩
  | .hbm, ⟨37, _⟩ => ⟨S512, .f32⟩
  | .hbm, ⟨38, _⟩ => ⟨S1x512, .f32⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S1x128, .f32⟩
  | .hbm, ⟨43, _⟩ => ⟨S1x1024, .f32⟩
  | .hbm, ⟨44, _⟩ => ⟨S1024x1280, .bf16⟩
  | .hbm, ⟨45, _⟩ => ⟨S4096x128, .f32⟩
  | .hbm, ⟨46, _⟩ => ⟨S4096x128, .f32⟩
  | .hbm, ⟨47, _⟩ => ⟨S4x4096x256, .bf16⟩
  | .hbm, ⟨48, _⟩ => ⟨S4x4096x512, .bf16⟩
  | .hbm, ⟨49, _⟩ => ⟨S4x4096x512, .bf16⟩
  | .hbm, ⟨50, _⟩ => ⟨S4x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S8x6144, .f32⟩
  | .local _ .vmem, ⟨3, _⟩ => ⟨S1x1024, .f32⟩
  | .local _ .vmem, ⟨4, _⟩ => ⟨S1024x1280, .bf16⟩
  | .local _ .vmem, ⟨5, _⟩ => ⟨S512x512, .bf16⟩
  | .local _ .vmem, ⟨6, _⟩ => ⟨S1x512, .f32⟩
  | .local _ .vmem, ⟨7, _⟩ => ⟨S1x128, .f32⟩
  | .local _ .vmem, ⟨8, _⟩ => ⟨S256x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x1024x256, .bf16⟩
  | .local _ .vmem, ⟨14, _⟩ => ⟨S1x1024x256, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_v30_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1024 : Index := 1024#32
  ![v2.toNat, 1024]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== InputsIdeal.lean ====
variable {F : FTy → Type} [FloatOps F] [Named F]
def κ : String → Option EReal := fun
  | "units" => some (((8 * (Real.log 2))⁻¹ : ℝ) : EReal)
  | _ => none
-- ==== InputsReferenceIdeal.lean ====
abbrev S4x4096x1024 : Shape := ⟨3, ![4, 4096, 1024]⟩
abbrev S8x6144 : Shape := ⟨2, ![8, 6144]⟩
abbrev S1024 : Shape := ⟨1, ![1024]⟩
abbrev S1024x1280 : Shape := ⟨2, ![1024, 1280]⟩
abbrev S64 : Shape := ⟨1, ![64]⟩
abbrev S256x512 : Shape := ⟨2, ![256, 512]⟩
abbrev S4096x64 : Shape := ⟨2, ![4096, 64]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x1280 : Shape := ⟨3, ![4, 4096, 1280]⟩
abbrev S4x4096x512 : Shape := ⟨3, ![4, 4096, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x8x16 : Shape := ⟨4, ![4, 4096, 8, 16]⟩
abbrev S1x4096x1x64 : Shape := ⟨4, ![1, 4096, 1, 64]⟩
abbrev S4x4096x128 : Shape := ⟨3, ![4, 4096, 128]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x2x16 : Shape := ⟨4, ![4, 4096, 2, 16]⟩
abbrev S4x4096x256 : Shape := ⟨3, ![4, 4096, 256]⟩

abbrev nBuf : Space → Nat
  | .hbm => 122
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1024, .f32⟩
  | .hbm, ⟨3, _⟩ => ⟨S1024x1280, .f32⟩
  | .hbm, ⟨4, _⟩ => ⟨S64, .f32⟩
  | .hbm, ⟨5, _⟩ => ⟨S64, .f32⟩
  | .hbm, ⟨6, _⟩ => ⟨S256x512, .bf16⟩
  | .hbm, ⟨7, _⟩ => ⟨S4096x64, .f32⟩
  | .hbm, ⟨8, _⟩ => ⟨S4096x64, .f32⟩
  | .hbm, ⟨9, _⟩ => ⟨S256x512, .f32⟩
  | .hbm, ⟨10, _⟩ => ⟨S4x1024, .f32⟩
  | .hbm, ⟨11, _⟩ => ⟨S4x1x1024, .f32⟩
  | .hbm, ⟨12, _⟩ => ⟨S4x1024, .f32⟩
  | .hbm, ⟨13, _⟩ => ⟨S4x1x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1280, .f32⟩
  | .hbm, ⟨38, _⟩ => ⟨S4x4096x512, .f32⟩
  | .hbm, ⟨39, _⟩ => ⟨S4x4096x8x64, .f32⟩
  | .hbm, ⟨40, _⟩ => ⟨S4x4096x8x64, .f32⟩
  | .hbm, ⟨41, _⟩ => ⟨S_, .f32⟩
  | .hbm, ⟨42, _⟩ => ⟨S4x4096x8, .f32⟩
  | .hbm, ⟨43, _⟩ => ⟨S4x4096x8x1, .f32⟩
  | .hbm, ⟨44, _⟩ => ⟨S_, .f32⟩
  | .hbm, ⟨45, _⟩ => ⟨S4x4096x8x1, .f32⟩
  | .hbm, ⟨46, _⟩ => ⟨S4x4096x8x1, .f32⟩
  | .hbm, ⟨47, _⟩ => ⟨S_, .f32⟩
  | .hbm, ⟨48, _⟩ => ⟨S4x4096x8x1, .f32⟩
  | .hbm, ⟨49, _⟩ => ⟨S4x4096x8x1, .f32⟩
  | .hbm, ⟨50, _⟩ => ⟨S4x4096x8x1, .f32⟩
  | .hbm, ⟨51, _⟩ => ⟨S4x4096x8x64, .f32⟩
  | .hbm, ⟨52, _⟩ => ⟨S4x4096x8x64, .f32⟩
  | .hbm, ⟨53, _⟩ => ⟨S1x1x1x64, .f32⟩
  | .hbm, ⟨54, _⟩ => ⟨S4x4096x8x64, .f32⟩
  | .hbm, ⟨55, _⟩ => ⟨S4x4096x8x64, .f32⟩
  | .hbm, ⟨56, _⟩ => ⟨S4x4096x8x16, .f32⟩
  | .hbm, ⟨57, _⟩ => ⟨S4x4096x8x16, .f32⟩
  | .hbm, ⟨58, _⟩ => ⟨S4x4096x8x16, .f32⟩
  | .hbm, ⟨59, _⟩ => ⟨S4x4096x8x16, .f32⟩
  | .hbm, ⟨60, _⟩ => ⟨S1x4096x1x64, .f32⟩
  | .hbm, ⟨61, _⟩ => ⟨S4x4096x8x64, .f32⟩
  | .hbm, ⟨62, _⟩ => ⟨S4x4096x8x64, .f32⟩
  | .hbm, ⟨63, _⟩ => ⟨S4x4096x8x16, .f32⟩
  | .hbm, ⟨64, _⟩ => ⟨S4x4096x8x16, .f32⟩
  | .hbm, ⟨65, _⟩ => ⟨S4x4096x8x64, .f32⟩
  | .hbm, ⟨66, _⟩ => ⟨S1x4096x1x64, .f32⟩
  | .hbm, ⟨67, _⟩ => ⟨S4x4096x8x64, .f32⟩
  | .hbm, ⟨68, _⟩ => ⟨S4x4096x8x64, .f32⟩
  | .hbm, ⟨69, _⟩ => ⟨S4x4096x8x64, .f32⟩
  | .hbm, ⟨70, _⟩ => ⟨S4x4096x128, .f32⟩
  | .hbm, ⟨71, _⟩ => ⟨S4x4096x2x64, .f32⟩
  | .hbm, ⟨72, _⟩ => ⟨S4x4096x2x64, .f32⟩
  | .hbm, ⟨73, _⟩ => ⟨S_, .f32⟩
  | .hbm, ⟨74, _⟩ => ⟨S4x4096x2, .f32⟩
  | .hbm, ⟨75, _⟩ => ⟨S4x4096x2x1, .f32⟩
  | .hbm, ⟨76, _⟩ => ⟨S_, .f32⟩
  | .hbm, ⟨77, _⟩ => ⟨S4x4096x2x1, .f32⟩
  | .hbm, ⟨78, _⟩ => ⟨S4x4096x2x1, .f32⟩
  | .hbm, ⟨79, _⟩ => ⟨S_, .f32⟩
  | .hbm, ⟨80, _⟩ => ⟨S4x4096x2x1, .f32⟩
  | .hbm, ⟨81, _⟩ => ⟨S4x4096x2x1, .f32⟩
  | .hbm, ⟨82, _⟩ => ⟨S4x4096x2x1, .f32⟩
  | .hbm, ⟨83, _⟩ => ⟨S4x4096x2x64, .f32⟩
  | .hbm, ⟨84, _⟩ => ⟨S4x4096x2x64, .f32⟩
  | .hbm, ⟨85, _⟩ => ⟨S1x1x1x64, .f32⟩
  | .hbm, ⟨86, _⟩ => ⟨S4x4096x2x64, .f32⟩
  | .hbm, ⟨87, _⟩ => ⟨S4x4096x2x64, .f32⟩
  | .hbm, ⟨88, _⟩ => ⟨S4x4096x2x16, .f32⟩
  | .hbm, ⟨89, _⟩ => ⟨S4x4096x2x16, .f32⟩
  | .hbm, ⟨90, _⟩ => ⟨S4x4096x2x16, .f32⟩
  | .hbm, ⟨91, _⟩ => ⟨S4x4096x2x16, .f32⟩
  | .hbm, ⟨92, _⟩ => ⟨S1x4096x1x64, .f32⟩
  | .hbm, ⟨93, _⟩ => ⟨S4x4096x2x64, .f32⟩
  | .hbm, ⟨94, _⟩ => ⟨S4x4096x2x64, .f32⟩
  | .hbm, ⟨95, _⟩ => ⟨S4x4096x2x16, .f32⟩
  | .hbm, ⟨96, _⟩ => ⟨S4x4096x2x16, .f32⟩
  | .hbm, ⟨97, _⟩ => ⟨S4x4096x2x64, .f32⟩
  | .hbm, ⟨98, _⟩ => ⟨S1x4096x1x64, .f32⟩
  | .hbm, ⟨99, _⟩ => ⟨S4x4096x2x64, .f32⟩
  | .hbm, ⟨100, _⟩ => ⟨S4x4096x2x64, .f32⟩
  | .hbm, ⟨101, _⟩ => ⟨S4x4096x2x64, .f32⟩
  | .hbm, ⟨102, _⟩ => ⟨S4x4096x128, .f32⟩
  | .hbm, ⟨103, _⟩ => ⟨S4x4096x2x64, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S4x4096x8x64, .f32⟩
  | .hbm, ⟨109, _⟩ => ⟨S4x4096x8x64, .f32⟩
  | .hbm, ⟨110, _⟩ => ⟨S4x4096x2x64, .f32⟩
  | .hbm, ⟨111, _⟩ => ⟨S4x4096x2x64, .f32⟩
  | .hbm, ⟨112, _⟩ => ⟨S4x4096x8x64, .f32⟩
  | .hbm, ⟨113, _⟩ => ⟨S4x4096x256, .f32⟩
  | .hbm, ⟨114, _⟩ => ⟨S4x4096x256, .bf16⟩
  | .hbm, ⟨115, _⟩ => ⟨S4x4096x512, .f32⟩
  | .hbm, ⟨116, _⟩ => ⟨S4x4096x512, .bf16⟩
  | .hbm, ⟨117, _⟩ => ⟨S4x4096x512, .f32⟩
  | .hbm, ⟨118, _⟩ => ⟨S4x4096x512, .bf16⟩
  | .hbm, ⟨119, _⟩ => ⟨S4x4096x256, .f32⟩
  | .hbm, ⟨120, _⟩ => ⟨S4x4096x512, .f32⟩
  | .hbm, ⟨121, _⟩ => ⟨S4x4096x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_9 : Ref sig .tc := ⟨.hbm, 104, rfl⟩
abbrev main_v85 : Ref sig .tc := ⟨.hbm, 105, rfl⟩
abbrev main_cst_10 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩

abbrev nD : Nat := 1
abbrev τ : Topo := Topo.v7x

variable {F : FTy → Type} [FloatOps F]
-- ==== Proof.Block.lean ====
module

public import proofs.«01_k».proof.Proof.Gen.KernelIdeal.Value

/-! One block of 128 query rows of the kernel, as one function of what it reads: the mask over its 384 rows of
    window, the two columns of sinks, the context's keys and values, the window's keys and values, the queries. The
    kernel's body writes the block's computation eight times; every copy is this function. -/

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- Lanes below 64, the even head of a pair. -/
def loLanes : IVec S128x128 1 :=
  cmpi .slt (iota .tc S128x128 32 [1] iota_S128x128_d1_w32) (broadcast S128x128 64#32)

/-- The rows of the window that a query row sees: `off` is the block's offset in the tile, `w` the tile's number. -/
def maskAt (w off : BitVec 32) : IVec S128x384 1 :=
  have rows : IVec S128x384 32 := iota .tc S128x384 32 [0] iota_S128x384_d0_w32
  have cols : IVec S128x384 32 := iota .tc S128x384 32 [1] iota_S128x384_d1_w32
  have base : BitVec 32 := Scalar.subi (Scalar.addi (Scalar.muli w 1024#32) off) 128#32
  andi (andi (andi (cmpi .sle rows cols) (cmpi .sle cols (addi rows (broadcast S128x384 256#32))))
      (cmpi .sge cols (broadcast S128x384 (Scalar.subi 0#32 base))))
    (cmpi .slt cols (broadcast S128x384 (Scalar.subi 4096#32 base)))

/-- A group's column of sinks, one sink to each 128 stacked rows. -/
def sinkCol (s0 s1 s2 s3 : Elt F .f32) : FVec F S512x1 .f32 :=
  have rb : IVec S512x1 32 := shrsi (iota .tc S512x1 32 [0] iota_S512x1_d0_w32) (broadcast S512x1 7#32)
  have c : F .f32 := Named.named κ "log2e" 0x3FB8AA3B#32
  select (cmpi .eq rb (broadcast S512x1 0#32)) (broadcast S512x1 (Scalar.mulf s0 c))
    (select (cmpi .eq rb (broadcast S512x1 1#32)) (broadcast S512x1 (Scalar.mulf s1 c))
      (select (cmpi .eq rb (broadcast S512x1 2#32)) (broadcast S512x1 (Scalar.mulf s2 c))
        (broadcast S512x1 (Scalar.mulf s3 c))))

/-- The block's queries as f32. -/
def queries (qb : Vec F S1x128x512 .bf16) : FVec F S128x512 .f32 :=
  extf .f32 (shapeCast S128x512 qb shapeCasts_S1x128x512_S128x512 : FVec F S128x512 .bf16) bitsLt_bf16_f32

/-- A group's four heads stacked, each in the lower 64 lanes, the upper ones zero. -/
def stacked (a b : FVec F S128x128 .f32) : FVec F S512x128 .bf16 :=
  have z : FVec F S128x128 .f32 := broadcast S128x128 (Scalar.ofBits .f32 0x00000000#32)
  truncf .bf16
    (concatenate S512x128 0 [⟨S128x128, select loLanes a z⟩, ⟨S128x128, select loLanes b z⟩,
      ⟨S128x128, select loLanes (dynamicRotate 1 64#32 none a rotates_S128x128_d1) z⟩,
      ⟨S128x128, select loLanes (dynamicRotate 1 64#32 none b rotates_S128x128_d1) z⟩]
      concatenates_S128x128_S128x128_S128x128_S128x128_S512x128_d0 : FVec F S512x128 .f32) bitsLt_bf16_f32

/-- Scores against the window, the rows not seen masked. -/
def scoresW (mk : IVec S128x384 1) (q4 : FVec F S512x128 .bf16) (k : FVec F S384x128 .bf16) : FVec F S512x384 .f32 :=
  shapeCast S512x384
    (select
      (broadcastTo S4x128x384
        (shapeCast S1x128x384 (shapeCast S1x128x384 mk shapeCasts_S128x384_S1x128x384 : IVec S1x128x384 1)
          shapeCasts_S1x128x384_S1x128x384 : IVec S1x128x384 1) broadcasts_S1x128x384_S4x128x384)
      (shapeCast S4x128x384
        (matmul dot_S512x128_S384x128_S512x384_1_1_0_0_n_n none q4 k (constant S512x384 .f32 0x00000000#32))
        shapeCasts_S512x384_S4x128x384 : FVec F S4x128x384 .f32)
      (broadcast S4x128x384 (Named.named κ "mask" 0xF149F2CA#32 : F .f32)) : FVec F S4x128x384 .f32)
    shapeCasts_S4x128x384_S512x384

/-- Scores against the context. -/
def scoresC (q4 : FVec F S512x128 .bf16) (k : FVec F S256x128 .bf16) : FVec F S512x256 .f32 :=
  matmul dot_S512x128_S256x128_S512x256_1_1_0_0_n_n none q4 k (constant S512x256 .f32 0x00000000#32)

/-- The largest score of a row, the sink among them. -/
def rowMax (sc : FVec F S512x1 .f32) (sw : FVec F S512x384 .f32) (sx : FVec F S512x256 .f32) : FVec F S512x1 .f32 :=
  maximumf
    (maximumf (shapeCast S512x1 (multiReduction .maximumf [1] S512 sw 0xFF800000#32 reduces_S512x384_S512 (.inl rfl) rfl : FVec F S512 .f32) shapeCasts_S512_S512x1 : FVec F S512x1 .f32)
      (shapeCast S512x1 (multiReduction .maximumf [1] S512 sx 0xFF800000#32 reduces_S512x256_S512 (.inl rfl) rfl : FVec F S512 .f32) shapeCasts_S512_S512x1 : FVec F S512x1 .f32))
    sc

/-- The weights of the window before they are normalised. -/
def expW (m : FVec F S512x1 .f32) (s : FVec F S512x384 .f32) : FVec F S512x384 .f32 :=
  exp2 (subf s (broadcastTo S512x384 m broadcasts_S512x1_S512x384))

/-- The weights of the context before they are normalised. -/
def expC (m : FVec F S512x1 .f32) (s : FVec F S512x256 .f32) : FVec F S512x256 .f32 :=
  exp2 (subf s (broadcastTo S512x256 m broadcasts_S512x1_S512x256))

/-- The sum of a row's weights. -/
def rowSum (sc m : FVec F S512x1 .f32) (ew : FVec F S512x384 .f32) (ex : FVec F S512x256 .f32) : FVec F S512x1 .f32 :=
  addf
    (addf (exp2 (subf sc m))
      (shapeCast S512x1 (multiReduction .add [1] S512 ew 0x00000000#32 reduces_S512x384_S512 (.inl rfl) rfl : FVec F S512 .f32) shapeCasts_S512_S512x1 : FVec F S512x1 .f32))
    (shapeCast S512x1 (multiReduction .add [1] S512 ex 0x00000000#32 reduces_S512x256_S512 (.inl rfl) rfl : FVec F S512 .f32) shapeCasts_S512_S512x1 : FVec F S512x1 .f32)

/-- The even heads' weighted values, normalised. -/
def evens (den : FVec F S512x1 .f32) (ew : FVec F S512x384 .f32) (ex : FVec F S512x256 .f32)
    (v : FVec F S384x128 .bf16) (vc : FVec F S256x128 .bf16) : FVec F S256x128 .f32 :=
  mulf
    (addf
      (matmul dot_S256x384_S384x128_S256x128_1_0_0_1_n_n none
        (extractStridedSlice S256x384 ![0, 0] (truncf .bf16 ew bitsLt_bf16_f32 : FVec F S512x384 .bf16) slices_S512x384_o0_0_S256x384) v
        (constant S256x128 .f32 0x00000000#32))
      (matmul dot_S256x256_S256x128_S256x128_1_0_0_1_n_n none
        (extractStridedSlice S256x256 ![0, 0] (truncf .bf16 ex bitsLt_bf16_f32 : FVec F S512x256 .bf16) slices_S512x256_o0_0_S256x256) vc
        (constant S256x128 .f32 0x00000000#32)))
    (broadcastTo S256x128
      (extractStridedSlice S256x1 ![0, 0] (divf (broadcast S512x1 (Scalar.ofBits .f32 0x3F800000#32)) den : FVec F S512x1 .f32) slices_S512x1_o0_0_S256x1 : FVec F S256x1 .f32)
      broadcasts_S256x1_S256x128)

/-- The odd heads' weighted values, normalised. -/
def odds (den : FVec F S512x1 .f32) (ew : FVec F S512x384 .f32) (ex : FVec F S512x256 .f32)
    (v : FVec F S384x128 .bf16) (vc : FVec F S256x128 .bf16) : FVec F S256x128 .f32 :=
  mulf
    (addf
      (matmul dot_S256x384_S384x128_S256x128_1_0_0_1_n_n none
        (extractStridedSlice S256x384 ![256, 0] (truncf .bf16 ew bitsLt_bf16_f32 : FVec F S512x384 .bf16) slices_S512x384_o256_0_S256x384) v
        (constant S256x128 .f32 0x00000000#32))
      (matmul dot_S256x256_S256x128_S256x128_1_0_0_1_n_n none
        (extractStridedSlice S256x256 ![256, 0] (truncf .bf16 ex bitsLt_bf16_f32 : FVec F S512x256 .bf16) slices_S512x256_o256_0_S256x256) vc
        (constant S256x128 .f32 0x00000000#32)))
    (broadcastTo S256x128
      (extractStridedSlice S256x1 ![256, 0] (divf (broadcast S512x1 (Scalar.ofBits .f32 0x3F800000#32)) den : FVec F S512x1 .f32) slices_S512x1_o256_0_S256x1 : FVec F S256x1 .f32)
      broadcasts_S256x1_S256x128)

/-- The group's heads 0 and 1, side by side in 128 lanes. -/
def pairLow (oe oo : FVec F S256x128 .f32) : FVec F S128x128 .f32 :=
  select loLanes (extractStridedSlice S128x128 ![0, 0] oe slices_S256x128_o0_0_S128x128)
    (extractStridedSlice S128x128 ![0, 0] oo slices_S256x128_o0_0_S128x128)

/-- The group's heads 2 and 3. -/
def pairHigh (oe oo : FVec F S256x128 .f32) : FVec F S128x128 .f32 :=
  select loLanes (extractStridedSlice S128x128 ![128, 0] oe slices_S256x128_o128_0_S128x128)
    (extractStridedSlice S128x128 ![128, 0] oo slices_S256x128_o128_0_S128x128)

/-- One group: its pair of output columns. -/
def groupE (mk : IVec S128x384 1) (sc : FVec F S512x1 .f32) (q4 : FVec F S512x128 .bf16)
    (k : FVec F S384x128 .bf16) (kc : FVec F S256x128 .bf16) (va : FVec F S384x128 .bf16) (vac : FVec F S256x128 .bf16) : FVec F S256x128 .f32 :=
  have sw : FVec F S512x384 .f32 := scoresW mk q4 k
  have sx : FVec F S512x256 .f32 := scoresC q4 kc
  have m : FVec F S512x1 .f32 := rowMax sc sw sx
  evens (rowSum sc m (expW m sw) (expC m sx)) (expW m sw) (expC m sx) va vac

/-- The same for the odd heads. -/
def groupO (mk : IVec S128x384 1) (sc : FVec F S512x1 .f32) (q4 : FVec F S512x128 .bf16)
    (k : FVec F S384x128 .bf16) (kc : FVec F S256x128 .bf16) (vb : FVec F S384x128 .bf16) (vbc : FVec F S256x128 .bf16) : FVec F S256x128 .f32 :=
  have sw : FVec F S512x384 .f32 := scoresW mk q4 k
  have sx : FVec F S512x256 .f32 := scoresC q4 kc
  have m : FVec F S512x1 .f32 := rowMax sc sw sx
  odds (rowSum sc m (expW m sw) (expC m sx)) (expW m sw) (expC m sx) vb vbc

/-- The whole block. -/
def blockOut (mk : IVec S128x384 1) (sc0 sc1 : FVec F S512x1 .f32) (kc : FVec F S256x512 .bf16)
    (kw : FVec F S384x512 .bf16) (qb : Vec F S1x128x512 .bf16) : FVec F S1x128x512 .bf16 :=
  have q : FVec F S128x512 .f32 := queries qb
  have q0 : FVec F S512x128 .bf16 := stacked (extractStridedSlice S128x128 ![0, 0] q slices_S128x512_o0_0_S128x128) (extractStridedSlice S128x128 ![0, 128] q slices_S128x512_o0_128_S128x128)
  have q1 : FVec F S512x128 .bf16 := stacked (extractStridedSlice S128x128 ![0, 256] q slices_S128x512_o0_256_S128x128) (extractStridedSlice S128x128 ![0, 384] q slices_S128x512_o0_384_S128x128)
  have kw0 : FVec F S384x128 .bf16 := extractStridedSlice S384x128 ![0, 0] kw slices_S384x512_o0_0_S384x128
  have kw1 : FVec F S384x128 .bf16 := extractStridedSlice S384x128 ![0, 128] kw slices_S384x512_o0_128_S384x128
  have kw2 : FVec F S384x128 .bf16 := extractStridedSlice S384x128 ![0, 256] kw slices_S384x512_o0_256_S384x128
  have kw3 : FVec F S384x128 .bf16 := extractStridedSlice S384x128 ![0, 384] kw slices_S384x512_o0_384_S384x128
  have kc0 : FVec F S256x128 .bf16 := extractStridedSlice S256x128 ![0, 0] kc slices_S256x512_o0_0_S256x128
  have kc1 : FVec F S256x128 .bf16 := extractStridedSlice S256x128 ![0, 128] kc slices_S256x512_o0_128_S256x128
  have kc2 : FVec F S256x128 .bf16 := extractStridedSlice S256x128 ![0, 256] kc slices_S256x512_o0_256_S256x128
  have kc3 : FVec F S256x128 .bf16 := extractStridedSlice S256x128 ![0, 384] kc slices_S256x512_o0_384_S256x128
  shapeCast S1x128x512
    (truncf .bf16
      (concatenate S128x512 1
        [⟨S128x128, pairLow (groupE mk sc0 q0 kw0 kc0 kw2 kc2) (groupO mk sc0 q0 kw0 kc0 kw3 kc3)⟩,
         ⟨S128x128, pairHigh (groupE mk sc0 q0 kw0 kc0 kw2 kc2) (groupO mk sc0 q0 kw0 kc0 kw3 kc3)⟩,
         ⟨S128x128, pairLow (groupE mk sc1 q1 kw1 kc1 kw3 kc3) (groupO mk sc1 q1 kw1 kc1 kw2 kc2)⟩,
         ⟨S128x128, pairHigh (groupE mk sc1 q1 kw1 kc1 kw3 kc3) (groupO mk sc1 q1 kw1 kc1 kw2 kc2)⟩]
        concatenates_S128x128_S128x128_S128x128_S128x128_S128x512_d1 : FVec F S128x512 .f32) bitsLt_bf16_f32 : FVec F S128x512 .bf16)
    shapeCasts_S128x512_S1x128x512

/-- The tile's keys and values as the kernel lays them down in its scratch: the block before, the tile, the block after. -/
def scratch (x2 : Vec F S1x128x512 .bf16) (x3 : Vec F S1x1024x512 .bf16) (x4 : Vec F S1x128x512 .bf16) :
    List (View.Piece (Elt F) S1280x512 .bf16) :=
  [⟨Rect.unit ![1152, 0] S128x512.size inb_S1280x512_S128x512_1152_0, k0_pay4 x4⟩,
   ⟨Rect.unit ![128, 0] S1024x512.size inb_S1280x512_S1024x512_128_0, k0_pay3 x3⟩,
   ⟨Rect.unit ![0, 0] S128x512.size inb_S1280x512_S128x512_0_0, k0_pay2 x2⟩]

/-- The 384 rows of the scratch a block reads. -/
def winAt (arg9 : Memref sig .tc .vmem S1280x512 .bf16) (x2 : Vec F S1x128x512 .bf16) (x3 : Vec F S1x1024x512 .bf16) (x4 : Vec F S1x128x512 .bf16)
    (o : ℕ) (inb : ∀ a, (![o, 0] : Fin 2 → ℕ) a + S384x512.size a ≤ S1280x512.size a) : Vec F S384x512 .bf16 :=
  arg9.view.readCov
    (scratch (View.ld x2 (Rect.unit ![0, 0, 0] S1x128x512.size inb_S1x128x512_S1x128x512_0_0_0))
      (View.ld x3 (Rect.unit ![0, 0, 0] S1x1024x512.size inb_S1x1024x512_S1x1024x512_0_0_0))
      (View.ld x4 (Rect.unit ![0, 0, 0] S1x128x512.size inb_S1x128x512_S1x128x512_0_0_0)))
    (Rect.unit (s := S1280x512) ![o, 0] S384x512.size inb).toLoadRect

/-- A sink read off its array. -/
def sinkAt (x0 : Vec F S8 .f32) (n : ℕ) (inb : ∀ a, (![n] : Fin 1 → ℕ) a + S1.size a ≤ S8.size a) : Elt F .f32 :=
  View.ld x0 (Rect.unit ![n] S1.size inb) (Shape.Idx.first (show 0 < S1.numel by decide))

/-- The piece a block stores. -/
def pieceAt (arg9 : Memref sig .tc .vmem S1280x512 .bf16) (w : BitVec 32)
    (x0 : Vec F S8 .f32) (x1 : Vec F S1x1024x512 .bf16) (x2 : Vec F S1x128x512 .bf16) (x3 : Vec F S1x1024x512 .bf16) (x4 : Vec F S1x128x512 .bf16) (x5 : Vec F S1x256x512 .bf16)
    (o : ℕ) (inb : ∀ a, (![0, o, 0] : Fin 3 → ℕ) a + S1x128x512.size a ≤ S1x1024x512.size a)
    (inb' : ∀ a, (![o, 0] : Fin 2 → ℕ) a + S384x512.size a ≤ S1280x512.size a) : View.Piece (Elt F) S1x1024x512 .bf16 :=
  ⟨Rect.unit ![0, o, 0] S1x128x512.size inb,
    blockOut (maskAt w (BitVec.ofNat 32 o))
      (sinkCol (sinkAt x0 0 inb_S8_S1_0) (sinkAt x0 2 inb_S8_S1_2) (sinkAt x0 1 inb_S8_S1_1) (sinkAt x0 3 inb_S8_S1_3))
      (sinkCol (sinkAt x0 4 inb_S8_S1_4) (sinkAt x0 6 inb_S8_S1_6) (sinkAt x0 5 inb_S8_S1_5) (sinkAt x0 7 inb_S8_S1_7))
      (k0_pay5 (View.ld x5 (Rect.unit ![0, 0, 0] S1x256x512.size inb_S1x256x512_S1x256x512_0_0_0)))
      (winAt arg9 x2 x3 x4 o inb') (View.ld x1 (Rect.unit ![0, o, 0] S1x128x512.size inb))⟩

set_option maxHeartbeats 1000000 in
/-- What the body's stores leave in the output's block: eight blocks, the last first. -/
theorem pieces_eq (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x128x512 .bf16) (harg4 : arg4.IsWhole) (arg5 : Memref sig .tc .vmem S1x1024x512 .bf16) (harg5 : arg5.IsWhole) (arg6 : Memref sig .tc .vmem S1x128x512 .bf16) (harg6 : arg6.IsWhole) (arg7 : Memref sig .tc .vmem S1x256x512 .bf16) (harg7 : arg7.IsWhole) (arg8 : Memref sig .tc .vmem S1x1024x512 .bf16) (harg8 : arg8.IsWhole) (arg9 : Memref sig .tc .vmem S1280x512 .bf16) (harg9 : arg9.IsWhole)
    (x0 : Vec F S8 .f32) (x1 : Vec F S1x1024x512 .bf16) (x2 : Vec F S1x128x512 .bf16) (x3 : Vec F S1x1024x512 .bf16) (x4 : Vec F S1x128x512 .bf16) (x5 : Vec F S1x256x512 .bf16) :
    (kernelRun0_A c i arg2 harg2 arg3 harg3 arg4 harg4 arg5 harg5 arg6 harg6 arg7 harg7 arg8 harg8 arg9 harg9 x0 x1 x2 x3 x4 x5).1 =
      [pieceAt arg9 (BitVec.ofNat 32 (i 1).val) x0 x1 x2 x3 x4 x5 896 inb_S1x1024x512_S1x128x512_0_896_0 inb_S1280x512_S384x512_896_0,
       pieceAt arg9 (BitVec.ofNat 32 (i 1).val) x0 x1 x2 x3 x4 x5 768 inb_S1x1024x512_S1x128x512_0_768_0 inb_S1280x512_S384x512_768_0,
       pieceAt arg9 (BitVec.ofNat 32 (i 1).val) x0 x1 x2 x3 x4 x5 640 inb_S1x1024x512_S1x128x512_0_640_0 inb_S1280x512_S384x512_640_0,
       pieceAt arg9 (BitVec.ofNat 32 (i 1).val) x0 x1 x2 x3 x4 x5 512 inb_S1x1024x512_S1x128x512_0_512_0 inb_S1280x512_S384x512_512_0,
       pieceAt arg9 (BitVec.ofNat 32 (i 1).val) x0 x1 x2 x3 x4 x5 384 inb_S1x1024x512_S1x128x512_0_384_0 inb_S1280x512_S384x512_384_0,
       pieceAt arg9 (BitVec.ofNat 32 (i 1).val) x0 x1 x2 x3 x4 x5 256 inb_S1x1024x512_S1x128x512_0_256_0 inb_S1280x512_S384x512_256_0,
       pieceAt arg9 (BitVec.ofNat 32 (i 1).val) x0 x1 x2 x3 x4 x5 128 inb_S1x1024x512_S1x128x512_0_128_0 inb_S1280x512_S384x512_128_0,
       pieceAt arg9 (BitVec.ofNat 32 (i 1).val) x0 x1 x2 x3 x4 x5 0 inb_S1x1024x512_S1x128x512_0_0_0 inb_S1280x512_S384x512_0_0] := by
  unfold kernelRun0_A
  dsimp only
  sl_unfold_words
  simp only [View.readAt_eq_ld, harg2.read_unread, harg3.read_unread, harg4.read_unread, harg5.read_unread, harg6.read_unread, harg7.read_unread]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl))))))) <;>
  dsimp only [pieceAt, winAt, scratch, sinkAt, blockOut, groupE, groupO, pairLow, pairHigh, evens, odds, rowSum, expW, expC, rowMax, scoresW, scoresC, stacked, queries, sinkCol, maskAt, loLanes, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314]

end Cert.KernelIdeal.Gen

end
-- ==== Proof.Softmax.lean ====
module

public import Idealize.ShloMosaic.PureOps.Ideal
public import Idealize.ShloMosaic.PureOps.Ideal.Laws
public import Idealize.ShloMosaic.Lib.IdealHost

/-! One row of the attention on extended reals, twice: with base-2 exponentials and one division after the weighted
    sums, as the kernel has it, and with natural exponentials and every weight divided first, as the reference has it. -/

@[expose] public section

noncomputable section

namespace Cert.Attention

open Idealize.ShloMosaic

/-- The largest of a row's scores, the sink among them. -/
def rowTop (sw : Fin 384 → EReal) (sx : Fin 256 → EReal) (sk : EReal) : EReal :=
  max (max (Finset.fold max ⊥ sw Finset.univ) (Finset.fold max ⊥ sx Finset.univ)) sk

/-- The kernel's row: scores in base 2, the division last. -/
def rowOut (sw : Fin 384 → EReal) (sx : Fin 256 → EReal) (sk : EReal) (v : Fin 384 → EReal) (vc : Fin 256 → EReal) : EReal :=
  ((∑ c, Ideal.exp2 (sw c - rowTop sw sx sk) * v c) + ∑ c, Ideal.exp2 (sx c - rowTop sw sx sk) * vc c)
    * Ideal.div 1 (Ideal.exp2 (sk - rowTop sw sx sk) + (∑ c, Ideal.exp2 (sw c - rowTop sw sx sk))
        + ∑ c, Ideal.exp2 (sx c - rowTop sw sx sk))

/-- A row's scores in one line: the window's, the context's, the sink. -/
def allScores (sw : Fin 384 → EReal) (sx : Fin 256 → EReal) (sk : EReal) (j : Fin 641) : EReal :=
  if h : j.val < 384 then sw ⟨j.val, h⟩ else if h' : j.val < 640 then sx ⟨j.val - 384, by omega⟩ else sk

/-- The reference's weight of one score. -/
def weight (sw : Fin 384 → EReal) (sx : Fin 256 → EReal) (sk : EReal) (s : EReal) : EReal :=
  Ideal.div (Ideal.exp (s - max ⊥ (Finset.fold max ⊥ (allScores sw sx sk) Finset.univ)))
    (0 + ∑ j, Ideal.exp (allScores sw sx sk j - max ⊥ (Finset.fold max ⊥ (allScores sw sx sk) Finset.univ)))

/-- The reference's row: natural exponentials, every weight divided first. -/
def refRow (sw : Fin 384 → EReal) (sx : Fin 256 → EReal) (sk : EReal) (v : Fin 384 → EReal) (vc : Fin 256 → EReal) : EReal :=
  (∑ c, v c * weight sw sx sk (sw c)) + ∑ c, vc c * weight sw sx sk (sx c)

theorem fold_max_eq_sup {n : ℕ} (f : Fin n → EReal) : Finset.fold max ⊥ f Finset.univ = Finset.univ.sup f := rfl

theorem allScores_sup (sw : Fin 384 → EReal) (sx : Fin 256 → EReal) (sk : EReal) :
    Finset.univ.sup (allScores sw sx sk) = max (max (Finset.univ.sup sw) (Finset.univ.sup sx)) sk := by
  apply le_antisymm
  · refine Finset.sup_le fun j _ => ?_
    unfold allScores
    split
    · exact le_max_of_le_left (le_max_of_le_left (Finset.le_sup (f := sw) (Finset.mem_univ _)))
    · split
      · exact le_max_of_le_left (le_max_of_le_right (Finset.le_sup (f := sx) (Finset.mem_univ _)))
      · exact le_max_right _ _
  · refine max_le (max_le (Finset.sup_le fun c _ => ?_) (Finset.sup_le fun c _ => ?_)) ?_
    · refine le_of_eq_of_le ?_ (Finset.le_sup (f := allScores sw sx sk) (Finset.mem_univ ⟨c.val, by omega⟩))
      simp [allScores]
    · refine le_of_eq_of_le ?_ (Finset.le_sup (f := allScores sw sx sk) (Finset.mem_univ ⟨384 + c.val, by omega⟩))
      have := c.isLt
      unfold allScores
      rw [dif_neg (by dsimp; omega), dif_pos (by dsimp; omega)]
      refine congrArg _ (Fin.ext ?_)
      dsimp; omega
    · refine le_of_eq_of_le ?_ (Finset.le_sup (f := allScores sw sx sk) (Finset.mem_univ ⟨640, by omega⟩))
      simp [allScores]

theorem allScores_sum (sw : Fin 384 → EReal) (sx : Fin 256 → EReal) (sk : EReal) (f : EReal → EReal) :
    ∑ j, f (allScores sw sx sk j) = (∑ c, f (sw c)) + (∑ c, f (sx c)) + f sk := by
  have e1 := Fin.sum_univ_castSucc (n := 640) fun j => f (allScores sw sx sk j)
  have e2 := Fin.sum_univ_add (a := 384) (b := 256) fun j => f (allScores sw sx sk (Fin.castSucc j))
  refine e1.trans (congrArg₂ (· + ·) (e2.trans (congrArg₂ (· + ·) ?_ ?_)) ?_)
  · refine Finset.sum_congr rfl fun c _ => congrArg f ?_
    simp [allScores]
  · refine Finset.sum_congr rfl fun c _ => congrArg f ?_
    have := c.isLt
    unfold allScores
    rw [dif_neg (by simp), dif_pos (by simp; omega)]
    refine congrArg _ (Fin.ext ?_)
    simp
  · refine congrArg f ?_
    simp [allScores]

/-- A score in the reference's units. -/
def scaled (s : EReal) : EReal := ((Real.log 2 : ℝ) : EReal) * s

theorem log_two_pos : (0 : ℝ) < Real.log 2 := Real.log_pos (by norm_num)

theorem scaled_bot : scaled ⊥ = ⊥ := EReal.coe_mul_bot_of_pos log_two_pos

theorem scaled_coe (a : ℝ) : scaled (a : EReal) = ((Real.log 2 * a : ℝ) : EReal) := (EReal.coe_mul _ _).symm

theorem scaled_mono : Monotone scaled := fun _ _ h =>
  mul_le_mul_of_nonneg_left h (by exact_mod_cast log_two_pos.le)

theorem scaled_max (a b : EReal) : scaled (max a b) = max (scaled a) (scaled b) := scaled_mono.map_max

theorem scaled_sup {n : ℕ} (f : Fin n → EReal) : scaled (Finset.univ.sup f) = Finset.univ.sup fun c => scaled (f c) :=
  Finset.comp_sup_eq_sup_comp scaled (fun a b => scaled_max a b) scaled_bot

/-- A real number or nothing: the score of a key that is seen or of one that is masked. -/
def IsScore (s : EReal) : Prop := s = ⊥ ∨ ∃ a : ℝ, s = (a : EReal)

theorem IsScore.lt_top {s : EReal} (h : IsScore s) : s < ⊤ := by
  rcases h with h | ⟨a, h⟩
  · rw [h]; exact bot_lt_top
  · rw [h]; exact EReal.coe_lt_top a

theorem exp_scaled {s : EReal} (h : IsScore s) (t : ℝ) :
    Ideal.exp (scaled s - scaled (t : EReal)) = Ideal.exp2 (s - (t : EReal)) := by
  rcases h with h | ⟨a, h⟩
  · rw [h, scaled_bot, scaled_coe]
    rfl
  · rw [h, scaled_coe, scaled_coe, ← EReal.coe_sub, ← EReal.coe_sub, Ideal.exp2_coe]
    show ((Real.exp _ : ℝ) : EReal) = _
    rw [show Real.rpow 2 (a - t) = Real.exp (Real.log 2 * (a - t)) from Real.rpow_def_of_pos (by norm_num) _, mul_sub]

theorem exp2_real {s : EReal} (h : IsScore s) (t : ℝ) : ∃ e : ℝ, 0 ≤ e ∧ Ideal.exp2 (s - (t : EReal)) = (e : EReal) := by
  rcases h with h | ⟨a, h⟩
  · refine ⟨0, le_refl _, ?_⟩
    rw [h]
    rfl
  · refine ⟨Real.rpow 2 (a - t), Real.rpow_nonneg (by norm_num) _, ?_⟩
    rw [h, ← EReal.coe_sub, Ideal.exp2_coe]

theorem sum_real {n : ℕ} (f : Fin n → EReal) (h : ∀ c, ∃ e : ℝ, 0 ≤ e ∧ f c = (e : EReal)) :
    ∃ e : ℝ, 0 ≤ e ∧ ∑ c, f c = (e : EReal) := by
  choose e he hf using h
  refine ⟨∑ c, e c, Finset.sum_nonneg fun c _ => he c, ?_⟩
  rw [Finset.sum_congr rfl fun c _ => hf c]
  induction (Finset.univ : Finset (Fin n)) using Finset.induction_on with
  | empty => simp
  | insert a s ha ih => rw [Finset.sum_insert ha, Finset.sum_insert ha, ih, EReal.coe_add]

theorem sum_scale {n : ℕ} (f : Fin n → EReal) (r : ℝ) (hr : 0 ≤ r) : (∑ c, f c) * (r : EReal) = ∑ c, f c * (r : EReal) := by
  induction (Finset.univ : Finset (Fin n)) using Finset.induction_on with
  | empty => simp
  | insert a s ha ih =>
    rw [Finset.sum_insert ha, Finset.sum_insert ha, ← ih, mul_comm, EReal.left_distrib_of_nonneg_of_ne_top
      (by exact_mod_cast hr) (EReal.coe_ne_top r), mul_comm, mul_comm (r : EReal)]

/-- The two rows are one: base-2 exponentials of the scores are natural exponentials of the scores times ln 2, and one
    division after the weighted sums is a division of every weight. A masked key's weight is 0, whatever its value. -/
theorem rows_eq (sw : Fin 384 → EReal) (sx : Fin 256 → EReal) (k : ℝ) (v v' : Fin 384 → EReal) (vc : Fin 256 → EReal)
    (hw : ∀ c, IsScore (sw c)) (hx : ∀ c, IsScore (sx c)) (hv : ∀ c, sw c ≠ ⊥ → v c = v' c) :
    rowOut sw sx (k : EReal) v vc
      = refRow (fun c => scaled (sw c)) (fun c => scaled (sx c)) (scaled (k : EReal)) v' vc := by
  have ht : ∃ t : ℝ, rowTop sw sx k = (t : EReal) := by
    have h1 : rowTop sw sx k < ⊤ := by
      unfold rowTop
      rw [fold_max_eq_sup, fold_max_eq_sup]
      refine max_lt (max_lt ?_ ?_) (EReal.coe_lt_top k)
      · exact (Finset.sup_lt_iff bot_lt_top).2 fun c _ => (hw c).lt_top
      · exact (Finset.sup_lt_iff bot_lt_top).2 fun c _ => (hx c).lt_top
    have h2 : ⊥ < rowTop sw sx k := lt_of_lt_of_le (EReal.bot_lt_coe k) (le_max_right _ _)
    exact ⟨_, (EReal.coe_toReal h1.ne h2.ne').symm⟩
  obtain ⟨t, ht⟩ := ht
  have hk : IsScore (k : EReal) := Or.inr ⟨k, rfl⟩
  have htop : max ⊥ (Finset.fold max ⊥ (allScores (fun c => scaled (sw c)) (fun c => scaled (sx c)) (scaled k)) Finset.univ)
      = scaled (t : EReal) := by
    rw [fold_max_eq_sup, allScores_sup, ← scaled_sup, ← scaled_sup, ← scaled_max, ← scaled_max, ← ht]
    exact max_eq_right bot_le
  obtain ⟨dw, hdw, ew⟩ := sum_real _ fun c => exp2_real (hw c) t
  obtain ⟨dx, hdx, ex⟩ := sum_real _ fun c => exp2_real (hx c) t
  have hD : (0 : ℝ) < Real.rpow 2 (k - t) + dw + dx := by
    have := Real.rpow_pos_of_pos (by norm_num : (0:ℝ) < 2) (k - t)
    exact add_pos_of_pos_of_nonneg (add_pos_of_pos_of_nonneg this hdw) hdx
  have ek : Ideal.exp2 ((k : EReal) - (t : EReal)) = ((Real.rpow 2 (k - t) : ℝ) : EReal) := by
    rw [← EReal.coe_sub, Ideal.exp2_coe]
  have hwt : ∀ s, IsScore s → weight (fun c => scaled (sw c)) (fun c => scaled (sx c)) (scaled k) (scaled s)
      = Ideal.exp2 (s - (t : EReal)) * ((1 / (Real.rpow 2 (k - t) + dw + dx) : ℝ) : EReal) := by
    intro s hs
    unfold weight
    rw [htop, exp_scaled hs, allScores_sum _ _ _ fun s => Ideal.exp (s - scaled (t : EReal)), exp_scaled hk,
      Finset.sum_congr rfl fun c _ => exp_scaled (hw c) t, Finset.sum_congr rfl fun c _ => exp_scaled (hx c) t,
      ew, ex, ek, zero_add, ← EReal.coe_add, ← EReal.coe_add,
      show dw + dx + Real.rpow 2 (k - t) = Real.rpow 2 (k - t) + dw + dx by ring, Ideal.div_coe hD.ne']
  unfold rowOut refRow
  rw [ht, ew, ex, ek, ← EReal.coe_add, ← EReal.coe_add, Ideal.div_coe hD.ne', one_mul]
  have hr : (0 : ℝ) ≤ 1 / (Real.rpow 2 (k - t) + dw + dx) := (one_div_pos.2 hD).le
  rw [mul_comm, EReal.left_distrib_of_nonneg_of_ne_top (by exact_mod_cast hr) (EReal.coe_ne_top _), mul_comm, sum_scale _ _ hr,
    mul_comm _ (∑ c, Ideal.exp2 (sx c - _) * _), sum_scale _ _ hr]
  refine congrArg₂ (· + ·) (Finset.sum_congr rfl fun c _ => ?_) (Finset.sum_congr rfl fun c _ => ?_)
  · rw [hwt _ (hw c)]
    rcases hw c with h | ⟨a, h⟩
    · have e0 : Ideal.exp2 (sw c - (t : EReal)) = 0 := by rw [h]; rfl
      rw [e0, zero_mul, zero_mul, mul_zero]
    · rw [hv c (by rw [h]; exact EReal.coe_ne_bot a), mul_comm _ (v' c), mul_assoc]
  · rw [hwt _ (hx c), mul_comm _ (vc c), mul_assoc]

end Cert.Attention
-- ==== Proof.BlockValue.lean ====
module

public import proofs.«01_k».proof.Proof.Block
public import proofs.«01_k».proof.Proof.Softmax
public import Idealize.ShloMosaic.Lib.Pointwise
public import Idealize.ShloMosaic.Lib.Tactic.WordOmega

/-! What one block of the kernel computes on extended reals, element by element. -/

@[expose] public section

set_option maxRecDepth 16384

noncomputable section

namespace Cert.KernelIdeal.Gen

open Idealize.ShloMosaic Idealize.ShloMosaic.TcCoe Idealize.ShloMosaic.Tactic
open Cert.Attention

theorem mask_eq : Named.named (F := Ideal) κ "mask" (φ := .f32) 0xF149F2CA#32 = ⊥ :=
  IdealRules.named_const.ideal_named_scalar _ _ _ _ rfl

theorem log2e_eq : Named.named (F := Ideal) κ "log2e" (φ := .f32) 0x3FB8AA3B#32 = (((Real.log 2)⁻¹ : ℝ) : EReal) :=
  IdealRules.named_const.ideal_named_scalar _ _ _ _ rfl

/-- The pattern of minus infinity. -/
theorem neg_inf_eq : Ideal.ofBits .f32 0xFF800000#32 = ⊥ := by
  simp [Ideal.ofBits, Ideal.ieee]

theorem scoresC_apply (q4 : FVec Ideal S512x128 .bf16) (k : FVec Ideal S256x128 .bf16) (r : Fin 512) (c : Fin 256) :
    scoresC q4 k (ix2 r c) = ∑ d : Fin 128, q4 (ix2 r d) * k (ix2 c d) := by
  pointwise [scoresC]

theorem rowMax_apply (sc : FVec Ideal S512x1 .f32) (sw : FVec Ideal S512x384 .f32) (sx : FVec Ideal S512x256 .f32) (r : Fin 512) :
    rowMax sc sw sx (ix2 r 0) = rowTop (fun c => sw (ix2 r c)) (fun c => sx (ix2 r c)) (sc (ix2 r 0)) := by
  pointwise [rowMax]
  simp only [neg_inf_eq, rowTop]

theorem expW_apply (m : FVec Ideal S512x1 .f32) (s : FVec Ideal S512x384 .f32) (r : Fin 512) (c : Fin 384) :
    expW m s (ix2 r c) = Ideal.exp2 (s (ix2 r c) - m (ix2 r 0)) := by
  pointwise [expW]
  rfl

theorem expC_apply (m : FVec Ideal S512x1 .f32) (s : FVec Ideal S512x256 .f32) (r : Fin 512) (c : Fin 256) :
    expC m s (ix2 r c) = Ideal.exp2 (s (ix2 r c) - m (ix2 r 0)) := by
  pointwise [expC]
  rfl

theorem rowSum_apply (sc m : FVec Ideal S512x1 .f32) (ew : FVec Ideal S512x384 .f32) (ex : FVec Ideal S512x256 .f32) (r : Fin 512) :
    rowSum sc m ew ex (ix2 r 0)
      = Ideal.exp2 (sc (ix2 r 0) - m (ix2 r 0)) + (∑ c, ew (ix2 r c)) + ∑ c, ex (ix2 r c) := by
  pointwise [rowSum]
  rfl

theorem evens_apply (den : FVec Ideal S512x1 .f32) (ew : FVec Ideal S512x384 .f32) (ex : FVec Ideal S512x256 .f32)
    (v : FVec Ideal S384x128 .bf16) (vc : FVec Ideal S256x128 .bf16) (r : Fin 256) (d : Fin 128) :
    evens den ew ex v vc (ix2 r d) = ((∑ c : Fin 384, ew (ix2 ⟨r.val, by omega⟩ c) * v (ix2 c d))
        + ∑ c : Fin 256, ex (ix2 ⟨r.val, by omega⟩ c) * vc (ix2 c d)) * Ideal.div 1 (den (ix2 ⟨r.val, by omega⟩ 0)) := by
  pointwise [evens]

theorem odds_apply (den : FVec Ideal S512x1 .f32) (ew : FVec Ideal S512x384 .f32) (ex : FVec Ideal S512x256 .f32)
    (v : FVec Ideal S384x128 .bf16) (vc : FVec Ideal S256x128 .bf16) (r : Fin 256) (d : Fin 128) :
    odds den ew ex v vc (ix2 r d) = ((∑ c : Fin 384, ew (ix2 ⟨256 + r.val, by omega⟩ c) * v (ix2 c d))
        + ∑ c : Fin 256, ex (ix2 ⟨256 + r.val, by omega⟩ c) * vc (ix2 c d)) * Ideal.div 1 (den (ix2 ⟨256 + r.val, by omega⟩ 0)) := by
  pointwise [odds]

theorem loLanes_apply (r l : Fin 128) : loLanes (ix2 r l) = if l.val < 64 then 1#1 else 0#1 := by
  pointwise [loLanes]
  word_omega

theorem select_lo (l : Fin 128) (x y : EReal) :
    Scalar.select (if l.val < 64 then 1#1 else 0#1) x y = if l.val < 64 then x else y := by
  by_cases h : l.val < 64 <;> simp [h, Scalar.select]

theorem scoresW_apply (mk : IVec S128x384 1) (q4 : FVec Ideal S512x128 .bf16) (k : FVec Ideal S384x128 .bf16) (h : Fin 4) (r : Fin 128) (c : Fin 384) :
    scoresW mk q4 k (ix2 ⟨h.val * 128 + r.val, by omega⟩ c) =
      if mk (ix2 r c) = 1#1 then ∑ d : Fin 128, q4 (ix2 ⟨h.val * 128 + r.val, by omega⟩ d) * k (ix2 c d) else ⊥ := by
  pointwise [scoresW]
  rw [mask_eq]
  rfl

/-- The stacked head at place `p`: the pair's even heads come before its odd ones. -/
def headAt (p : Fin 4) : Fin 4 := ![0, 2, 1, 3] p

theorem stacked_apply (a b : FVec Ideal S128x128 .f32) (r : Fin 128) (Q : Fin 256 → EReal)
    (ha : ∀ l : Fin 128, a (ix2 r l) = Q ⟨l.val, by omega⟩) (hb : ∀ l : Fin 128, b (ix2 r l) = Q ⟨128 + l.val, by omega⟩)
    (p : Fin 4) (d : Fin 128) :
    stacked a b (ix2 ⟨p.val * 128 + r.val, by omega⟩ d) =
      if h : d.val < 64 then Q ⟨(headAt p).val * 64 + d.val, by have := (headAt p).isLt; omega⟩ else 0 := by
  have ha' : ∀ r' l : Fin 128, r'.val = r.val → a (ix2 r' l) = Q ⟨l.val, by omega⟩ := by
    intro r' l e; rw [Fin.ext e]; exact ha l
  have hb' : ∀ r' l : Fin 128, r'.val = r.val → b (ix2 r' l) = Q ⟨128 + l.val, by omega⟩ := by
    intro r' l e; rw [Fin.ext e]; exact hb l
  have hr := r.isLt
  by_cases hd : d.val < 64
  · have hm : (d.val + 64) % 128 = d.val + 64 := by omega
    rw [dif_pos hd]
    fin_cases p <;> pointwise [stacked] <;> simp [loLanes_apply, hd, Scalar.select, ha, hb, headAt, hr]
    · rw [dif_neg (by omega), dif_neg (by omega), dif_pos (by omega), ha' _ _ (by simp; omega)]
      congr 1; ext; simp; omega
    · rw [dif_neg (by omega), dif_neg (by omega), dif_neg (by omega), hb' _ _ (by simp; omega)]
      congr 1; ext; simp; omega
  · rw [dif_neg hd]
    fin_cases p <;> pointwise [stacked] <;> simp [loLanes_apply, hd, Scalar.select]

theorem sinkCol_apply (s0 s1 s2 s3 : Elt Ideal .f32) (p : Fin 4) (r : Fin 128) :
    sinkCol s0 s1 s2 s3 (ix2 ⟨p.val * 128 + r.val, by omega⟩ 0) = (![s0, s1, s2, s3] p : EReal) * (((Real.log 2)⁻¹ : ℝ) : EReal) := by
  pointwise [sinkCol]
  rw [log2e_eq]
  have hr := r.isLt
  have hs : IntOp.shrsi ArithUnit.vector (BitVec.ofNat 32 (p.val * 128 + r.val)) 7#32 = BitVec.ofNat 32 p.val := by
    revert p r; decide +kernel
  rw [hs]
  fin_cases p <;> rfl

theorem maskAt_apply (w o : ℕ) (hw : w < 4) (ho : o ≤ 896) (r : Fin 128) (c : Fin 384) :
    maskAt (BitVec.ofNat 32 w) (BitVec.ofNat 32 o) (ix2 r c) = 1#1 ↔
      (r.val ≤ c.val ∧ c.val ≤ r.val + 256) ∧ 128 ≤ w * 1024 + o + c.val ∧ w * 1024 + o + c.val < 4096 + 128 := by
  pointwise [maskAt]
  simp only [Scalar.subi, Scalar.addi, Scalar.muli, IntOp.subi, IntOp.addi, IntOp.muli]
  word_omega

theorem pairLow_apply (oe oo : FVec Ideal S256x128 .f32) (r l : Fin 128) :
    pairLow oe oo (ix2 r l) = if l.val < 64 then oe (ix2 ⟨r.val, by omega⟩ l) else oo (ix2 ⟨r.val, by omega⟩ l) := by
  pointwise [pairLow]
  rw [loLanes_apply, select_lo]

theorem pairHigh_apply (oe oo : FVec Ideal S256x128 .f32) (r l : Fin 128) :
    pairHigh oe oo (ix2 r l) = if l.val < 64 then oe (ix2 ⟨128 + r.val, by omega⟩ l) else oo (ix2 ⟨128 + r.val, by omega⟩ l) := by
  pointwise [pairHigh]
  rw [loLanes_apply, select_lo]

/-- A sum over 128 lanes whose upper 64 are zero. -/
theorem sum_lower (Q : Fin 256 → EReal) (h : Fin 4) (k : Fin 128 → EReal) :
    (∑ d : Fin 128, (if _h : d.val < 64 then Q ⟨h.val * 64 + d.val, by omega⟩ else 0) * k d)
      = ∑ d : Fin 64, Q ⟨h.val * 64 + d.val, by omega⟩ * k ⟨d.val, by omega⟩ := by
  rw [Fin.sum_univ_add (a := 64) (b := 64) (fun d : Fin 128 => (if _h : d.val < 64 then Q ⟨h.val * 64 + d.val, by omega⟩ else 0) * k d)]
  have hz : (∑ i : Fin 64, (if _h : (Fin.natAdd 64 i).val < 64 then Q ⟨h.val * 64 + (Fin.natAdd 64 i).val, by omega⟩ else 0) * k (Fin.natAdd 64 i)) = 0 := by
    refine Finset.sum_eq_zero fun d _ => ?_
    have : ¬ (Fin.natAdd 64 d).val < 64 := by simp
    rw [dif_neg this, zero_mul]
  rw [hz, add_zero]
  refine Finset.sum_congr rfl fun d _ => ?_
  have : (Fin.castAdd 64 d).val < 64 := d.isLt
  rw [dif_pos this]; rfl

section Rows

variable (mk : IVec S128x384 1) (sc : FVec Ideal S512x1 .f32) (a b : FVec Ideal S128x128 .f32)
  (k : FVec Ideal S384x128 .bf16) (kc : FVec Ideal S256x128 .bf16) (v : FVec Ideal S384x128 .bf16) (vc : FVec Ideal S256x128 .bf16)
  (r : Fin 128) (Q : Fin 256 → EReal)
  (ha : ∀ l : Fin 128, a (ix2 r l) = Q ⟨l.val, by omega⟩) (hb : ∀ l : Fin 128, b (ix2 r l) = Q ⟨128 + l.val, by omega⟩)

include ha hb

theorem scoresW_stacked (p : Fin 4) (c : Fin 384) :
    scoresW mk (stacked a b) k (ix2 ⟨p.val * 128 + r.val, by omega⟩ c) =
      if mk (ix2 r c) = 1#1 then ∑ d : Fin 64, Q ⟨(headAt p).val * 64 + d.val, by omega⟩ * k (ix2 c ⟨d.val, by omega⟩) else ⊥ := by
  rw [scoresW_apply]
  simp only [stacked_apply a b r Q ha hb]
  rw [sum_lower Q (headAt p) fun d => k (ix2 c d)]

theorem scoresC_stacked (p : Fin 4) (c : Fin 256) :
    scoresC (stacked a b) kc (ix2 ⟨p.val * 128 + r.val, by omega⟩ c) =
      ∑ d : Fin 64, Q ⟨(headAt p).val * 64 + d.val, by omega⟩ * kc (ix2 c ⟨d.val, by omega⟩) := by
  rw [scoresC_apply]
  simp only [stacked_apply a b r Q ha hb]
  rw [sum_lower Q (headAt p) fun d => kc (ix2 c d)]

/-- A row of the group, its head at stacked place `p`. -/
def headRow (p : Fin 4) (l : Fin 128) : EReal :=
  rowOut
    (fun c => if mk (ix2 r c) = 1#1 then ∑ d : Fin 64, Q ⟨(headAt p).val * 64 + d.val, by omega⟩ * k (ix2 c ⟨d.val, by omega⟩) else ⊥)
    (fun c => ∑ d : Fin 64, Q ⟨(headAt p).val * 64 + d.val, by omega⟩ * kc (ix2 c ⟨d.val, by omega⟩))
    (sc (ix2 ⟨p.val * 128 + r.val, by omega⟩ 0)) (fun c => v (ix2 c l)) (fun c => vc (ix2 c l))

theorem groupE_apply (p : Fin 4) (i : Fin 256) (hi : i.val = p.val * 128 + r.val) (l : Fin 128) :
    groupE mk sc (stacked a b) k kc v vc (ix2 i l) = headRow mk sc k kc v vc r Q p l := by
  have e : ∀ h, (⟨i.val, h⟩ : Fin 512) = ⟨p.val * 128 + r.val, by omega⟩ := fun _ => Fin.ext hi
  unfold groupE headRow
  rw [evens_apply]
  simp only [e, expW_apply, expC_apply, rowSum_apply, rowMax_apply, scoresW_stacked mk a b k r Q ha hb, scoresC_stacked a b kc r Q ha hb]
  rfl

theorem groupO_apply (p : Fin 4) (i : Fin 256) (hi : 256 + i.val = p.val * 128 + r.val) (l : Fin 128) :
    groupO mk sc (stacked a b) k kc v vc (ix2 i l) = headRow mk sc k kc v vc r Q p l := by
  have e : ∀ h, (⟨256 + i.val, h⟩ : Fin 512) = ⟨p.val * 128 + r.val, by omega⟩ := fun _ => Fin.ext hi
  unfold groupO headRow
  rw [odds_apply]
  simp only [e, expW_apply, expC_apply, rowSum_apply, rowMax_apply, scoresW_stacked mk a b k r Q ha hb, scoresC_stacked a b kc r Q ha hb]
  rfl

end Rows

theorem quad_apply (x0 x1 x2 x3 : FVec Ideal S128x128 .f32) (p : Fin 4) (r l : Fin 128) :
    (shapeCast S1x128x512
      (truncf .bf16 (concatenate S128x512 1 [⟨S128x128, x0⟩, ⟨S128x128, x1⟩, ⟨S128x128, x2⟩, ⟨S128x128, x3⟩]
        concatenates_S128x128_S128x128_S128x128_S128x128_S128x512_d1 : FVec Ideal S128x512 .f32) bitsLt_bf16_f32 : FVec Ideal S128x512 .bf16)
      shapeCasts_S128x512_S1x128x512 : FVec Ideal S1x128x512 .bf16) (ix3 0 r ⟨p.val * 128 + l.val, by omega⟩)
      = (![x0 (ix2 r l), x1 (ix2 r l), x2 (ix2 r l), x3 (ix2 r l)] p : EReal) := by
  have hl := l.isLt
  have e : ∀ (x : FVec Ideal S128x128 .f32) (l' : Fin 128), l'.val = l.val → x (ix2 r l') = x (ix2 r l) := by
    intro x l' h; rw [Fin.ext h]
  fin_cases p
  · pointwise
  · pointwise
  · pointwise
    rw [dif_neg (by omega), dif_neg (by omega), dif_pos (by omega)]; exact e _ _ (by dsimp; omega)
  · pointwise
    rw [dif_neg (by omega), dif_neg (by omega), dif_neg (by omega)]; exact e _ _ (by dsimp; omega)

theorem queries_apply (qb : Vec Ideal S1x128x512 .bf16) (r : Fin 128) (i : Fin 512) :
    queries (F := Ideal) qb (ix2 r i) = qb (ix3 0 r i) := by
  pointwise [queries]

/-- A slice of whole rows, at the lane `l` of it. -/
theorem cols_apply {A B C : ℕ} {φ : FTy} (off : ℕ) (x : FVec Ideal ⟨2, ![A, B]⟩ φ)
    (h : (⟨2, ![A, B]⟩ : Shape).Slices ![0, off] ⟨2, ![A, C]⟩) (c : Fin A) (l : Fin C) (i : Fin B) (hi : i.val = off + l.val) :
    (extractStridedSlice ⟨2, ![A, C]⟩ ![0, off] x h : FVec Ideal ⟨2, ![A, C]⟩ φ) (ix2 c l) = x (ix2 c i) := by
  refine extractStridedSlice_apply _ x h _ _ fun a => ?_
  fin_cases a
  · exact (Nat.zero_add _).symm
  · exact hi

theorem headRow_eq {mk : IVec S128x384 1} {sc : FVec Ideal S512x1 .f32} {k : FVec Ideal S384x128 .bf16} {kc : FVec Ideal S256x128 .bf16}
    {v : FVec Ideal S384x128 .bf16} {vc : FVec Ideal S256x128 .bf16} {r : Fin 128} {Q : Fin 256 → EReal} {p : Fin 4} {l : Fin 128}
    {q : Fin 64 → EReal} {K : Fin 384 → Fin 64 → EReal} {KC : Fin 256 → Fin 64 → EReal} {V : Fin 384 → EReal} {VC : Fin 256 → EReal} {S : EReal}
    (hq : ∀ x : Fin 64, Q ⟨(headAt p).val * 64 + x.val, by omega⟩ = q x)
    (hk : ∀ c (x : Fin 64), k (ix2 c ⟨x.val, by omega⟩) = K c x) (hkc : ∀ c (x : Fin 64), kc (ix2 c ⟨x.val, by omega⟩) = KC c x)
    (hs : sc (ix2 ⟨p.val * 128 + r.val, by omega⟩ 0) = S) (hv : ∀ c, v (ix2 c l) = V c) (hvc : ∀ c, vc (ix2 c l) = VC c) :
    headRow mk sc k kc v vc r Q p l =
      rowOut (fun c => if mk (ix2 r c) = 1#1 then ∑ x, q x * K c x else ⊥) (fun c => ∑ x, q x * KC c x) S V VC := by
  unfold headRow
  simp only [hq, hk, hkc, hs, hv, hvc]

/-- The block at row `r`, group `g`, head `h`, lane `d`: the row of that head. -/
theorem blockOut_apply (mk : IVec S128x384 1) (sc0 sc1 : FVec Ideal S512x1 .f32) (kc : FVec Ideal S256x512 .bf16)
    (kw : FVec Ideal S384x512 .bf16) (qb : Vec Ideal S1x128x512 .bf16) (r : Fin 128)
    (K V : Fin 2 → Fin 384 → Fin 64 → EReal) (KC VC : Fin 2 → Fin 256 → Fin 64 → EReal) (S : Fin 2 → Fin 4 → EReal)
    (hk : ∀ g c (x : Fin 64), kw (ix2 c ⟨g.val * 128 + x.val, by omega⟩) = K g c x)
    (hva : ∀ g c (x : Fin 64), kw (ix2 c ⟨256 + g.val * 128 + x.val, by omega⟩) = V g c x)
    (hvb : ∀ g c (x : Fin 64), kw (ix2 c ⟨448 - g.val * 128 + x.val, by omega⟩) = V g c x)
    (hkc : ∀ g c (x : Fin 64), kc (ix2 c ⟨g.val * 128 + x.val, by omega⟩) = KC g c x)
    (hvac : ∀ g c (x : Fin 64), kc (ix2 c ⟨256 + g.val * 128 + x.val, by omega⟩) = VC g c x)
    (hvbc : ∀ g c (x : Fin 64), kc (ix2 c ⟨448 - g.val * 128 + x.val, by omega⟩) = VC g c x)
    (hs0 : ∀ p : Fin 4, sc0 (ix2 ⟨p.val * 128 + r.val, by omega⟩ 0) = S 0 (headAt p))
    (hs1 : ∀ p : Fin 4, sc1 (ix2 ⟨p.val * 128 + r.val, by omega⟩ 0) = S 1 (headAt p))
    (g : Fin 2) (h : Fin 4) (d : Fin 64) :
    blockOut mk sc0 sc1 kc kw qb (ix3 0 r ⟨g.val * 256 + h.val * 64 + d.val, by omega⟩) =
      rowOut
        (fun c => if mk (ix2 r c) = 1#1 then ∑ x : Fin 64, qb (ix3 0 r ⟨g.val * 256 + h.val * 64 + x.val, by omega⟩) * K g c x else ⊥)
        (fun c => ∑ x : Fin 64, qb (ix3 0 r ⟨g.val * 256 + h.val * 64 + x.val, by omega⟩) * KC g c x)
        (S g h) (fun c => V g c d) (fun c => VC g c d) := by
  have hd := d.isLt
  have hP : 2 * g.val + h.val / 2 < 4 := by omega
  have hL : h.val % 2 * 64 + d.val < 128 := by omega
  have ei : (⟨g.val * 256 + h.val * 64 + d.val, by omega⟩ : Fin 512)
      = ⟨(⟨2 * g.val + h.val / 2, hP⟩ : Fin 4).val * 128 + (⟨h.val % 2 * 64 + d.val, hL⟩ : Fin 128).val, by dsimp; omega⟩ := Fin.ext (by dsimp; omega)
  have key := (congrArg (fun i => blockOut mk sc0 sc1 kc kw qb (ix3 0 r i)) ei).trans (quad_apply _ _ _ _ ⟨2 * g.val + h.val / 2, hP⟩ r ⟨h.val % 2 * 64 + d.val, hL⟩)
  clear ei
  fin_cases g <;> fin_cases h
  · refine (key.trans (pairLow_apply _ _ r _)).trans ?_
    rw [if_pos (by simp)]
    refine (groupE_apply mk sc0 _ _ _ _ _ _ r (fun i => qb (ix3 0 r ⟨0 + i.val, by omega⟩))
      (fun l => (cols_apply 0 _ _ r l ⟨0 + l.val, by omega⟩ rfl).trans (queries_apply qb r _))
      (fun l => (cols_apply 128 _ _ r l ⟨0 + (128 + l.val), by omega⟩ (by first | (simp; done) | (simp; omega))).trans (queries_apply qb r _))
      0 _ (by first | (simp; done) | (simp; omega)) _).trans ?_
    exact headRow_eq (fun x => congrArg (fun i => qb (ix3 0 r i)) (Fin.ext (by first | (simp [headAt]; done) | (simp [headAt]; omega))))
      (fun c x => (cols_apply 0 kw _ c _ _ (by simp)).trans (hk 0 c x))
      (fun c x => (cols_apply 0 kc _ c _ _ (by simp)).trans (hkc 0 c x)) (hs0 0)
      (fun c => (cols_apply 256 kw _ c _ _ (by first | (simp; done) | (simp; omega))).trans (hva 0 c d))
      (fun c => (cols_apply 256 kc _ c _ _ (by first | (simp; done) | (simp; omega))).trans (hvac 0 c d))
  · refine (key.trans (pairLow_apply _ _ r _)).trans ?_
    rw [if_neg (by simp)]
    refine (groupO_apply mk sc0 _ _ _ _ _ _ r (fun i => qb (ix3 0 r ⟨0 + i.val, by omega⟩))
      (fun l => (cols_apply 0 _ _ r l ⟨0 + l.val, by omega⟩ rfl).trans (queries_apply qb r _))
      (fun l => (cols_apply 128 _ _ r l ⟨0 + (128 + l.val), by omega⟩ (by first | (simp; done) | (simp; omega))).trans (queries_apply qb r _))
      2 _ (by first | (simp; done) | (simp; omega)) _).trans ?_
    exact headRow_eq (fun x => congrArg (fun i => qb (ix3 0 r i)) (Fin.ext (by first | (simp [headAt]; done) | (simp [headAt]; omega))))
      (fun c x => (cols_apply 0 kw _ c _ _ (by simp)).trans (hk 0 c x))
      (fun c x => (cols_apply 0 kc _ c _ _ (by simp)).trans (hkc 0 c x)) (hs0 2)
      (fun c => (cols_apply 384 kw _ c _ _ (by first | (simp; done) | (simp; omega))).trans (hvb 0 c d))
      (fun c => (cols_apply 384 kc _ c _ _ (by first | (simp; done) | (simp; omega))).trans (hvbc 0 c d))
  · refine (key.trans (pairHigh_apply _ _ r _)).trans ?_
    rw [if_pos (by simp)]
    refine (groupE_apply mk sc0 _ _ _ _ _ _ r (fun i => qb (ix3 0 r ⟨0 + i.val, by omega⟩))
      (fun l => (cols_apply 0 _ _ r l ⟨0 + l.val, by omega⟩ rfl).trans (queries_apply qb r _))
      (fun l => (cols_apply 128 _ _ r l ⟨0 + (128 + l.val), by omega⟩ (by first | (simp; done) | (simp; omega))).trans (queries_apply qb r _))
      1 _ (by first | (simp; done) | (simp; omega)) _).trans ?_
    exact headRow_eq (fun x => congrArg (fun i => qb (ix3 0 r i)) (Fin.ext (by first | (simp [headAt]; done) | (simp [headAt]; omega))))
      (fun c x => (cols_apply 0 kw _ c _ _ (by simp)).trans (hk 0 c x))
      (fun c x => (cols_apply 0 kc _ c _ _ (by simp)).trans (hkc 0 c x)) (hs0 1)
      (fun c => (cols_apply 256 kw _ c _ _ (by first | (simp; done) | (simp; omega))).trans (hva 0 c d))
      (fun c => (cols_apply 256 kc _ c _ _ (by first | (simp; done) | (simp; omega))).trans (hvac 0 c d))
  · refine (key.trans (pairHigh_apply _ _ r _)).trans ?_
    rw [if_neg (by simp)]
    refine (groupO_apply mk sc0 _ _ _ _ _ _ r (fun i => qb (ix3 0 r ⟨0 + i.val, by omega⟩))
      (fun l => (cols_apply 0 _ _ r l ⟨0 + l.val, by omega⟩ rfl).trans (queries_apply qb r _))
      (fun l => (cols_apply 128 _ _ r l ⟨0 + (128 + l.val), by omega⟩ (by first | (simp; done) | (simp; omega))).trans (queries_apply qb r _))
      3 _ (by first | (simp; done) | (simp; omega)) _).trans ?_
    exact headRow_eq (fun x => congrArg (fun i => qb (ix3 0 r i)) (Fin.ext (by first | (simp [headAt]; done) | (simp [headAt]; omega))))
      (fun c x => (cols_apply 0 kw _ c _ _ (by simp)).trans (hk 0 c x))
      (fun c x => (cols_apply 0 kc _ c _ _ (by simp)).trans (hkc 0 c x)) (hs0 3)
      (fun c => (cols_apply 384 kw _ c _ _ (by first | (simp; done) | (simp; omega))).trans (hvb 0 c d))
      (fun c => (cols_apply 384 kc _ c _ _ (by first | (simp; done) | (simp; omega))).trans (hvbc 0 c d))
  · refine (key.trans (pairLow_apply _ _ r _)).trans ?_
    rw [if_pos (by simp)]
    refine (groupE_apply mk sc1 _ _ _ _ _ _ r (fun i => qb (ix3 0 r ⟨256 + i.val, by omega⟩))
      (fun l => (cols_apply 256 _ _ r l ⟨256 + l.val, by omega⟩ rfl).trans (queries_apply qb r _))
      (fun l => (cols_apply 384 _ _ r l ⟨256 + (128 + l.val), by omega⟩ (by first | (simp; done) | (simp; omega))).trans (queries_apply qb r _))
      0 _ (by first | (simp; done) | (simp; omega)) _).trans ?_
    exact headRow_eq (fun x => congrArg (fun i => qb (ix3 0 r i)) (Fin.ext (by first | (simp [headAt]; done) | (simp [headAt]; omega))))
      (fun c x => (cols_apply 128 kw _ c _ _ (by simp)).trans (hk 1 c x))
      (fun c x => (cols_apply 128 kc _ c _ _ (by simp)).trans (hkc 1 c x)) (hs1 0)
      (fun c => (cols_apply 384 kw _ c _ _ (by first | (simp; done) | (simp; omega))).trans (hva 1 c d))
      (fun c => (cols_apply 384 kc _ c _ _ (by first | (simp; done) | (simp; omega))).trans (hvac 1 c d))
  · refine (key.trans (pairLow_apply _ _ r _)).trans ?_
    rw [if_neg (by simp)]
    refine (groupO_apply mk sc1 _ _ _ _ _ _ r (fun i => qb (ix3 0 r ⟨256 + i.val, by omega⟩))
      (fun l => (cols_apply 256 _ _ r l ⟨256 + l.val, by omega⟩ rfl).trans (queries_apply qb r _))
      (fun l => (cols_apply 384 _ _ r l ⟨256 + (128 + l.val), by omega⟩ (by first | (simp; done) | (simp; omega))).trans (queries_apply qb r _))
      2 _ (by first | (simp; done) | (simp; omega)) _).trans ?_
    exact headRow_eq (fun x => congrArg (fun i => qb (ix3 0 r i)) (Fin.ext (by first | (simp [headAt]; done) | (simp [headAt]; omega))))
      (fun c x => (cols_apply 128 kw _ c _ _ (by simp)).trans (hk 1 c x))
      (fun c x => (cols_apply 128 kc _ c _ _ (by simp)).trans (hkc 1 c x)) (hs1 2)
      (fun c => (cols_apply 256 kw _ c _ _ (by first | (simp; done) | (simp; omega))).trans (hvb 1 c d))
      (fun c => (cols_apply 256 kc _ c _ _ (by first | (simp; done) | (simp; omega))).trans (hvbc 1 c d))
  · refine (key.trans (pairHigh_apply _ _ r _)).trans ?_
    rw [if_pos (by simp)]
    refine (groupE_apply mk sc1 _ _ _ _ _ _ r (fun i => qb (ix3 0 r ⟨256 + i.val, by omega⟩))
      (fun l => (cols_apply 256 _ _ r l ⟨256 + l.val, by omega⟩ rfl).trans (queries_apply qb r _))
      (fun l => (cols_apply 384 _ _ r l ⟨256 + (128 + l.val), by omega⟩ (by first | (simp; done) | (simp; omega))).trans (queries_apply qb r _))
      1 _ (by first | (simp; done) | (simp; omega)) _).trans ?_
    exact headRow_eq (fun x => congrArg (fun i => qb (ix3 0 r i)) (Fin.ext (by first | (simp [headAt]; done) | (simp [headAt]; omega))))
      (fun c x => (cols_apply 128 kw _ c _ _ (by simp)).trans (hk 1 c x))
      (fun c x => (cols_apply 128 kc _ c _ _ (by simp)).trans (hkc 1 c x)) (hs1 1)
      (fun c => (cols_apply 384 kw _ c _ _ (by first | (simp; done) | (simp; omega))).trans (hva 1 c d))
      (fun c => (cols_apply 384 kc _ c _ _ (by first | (simp; done) | (simp; omega))).trans (hvac 1 c d))
  · refine (key.trans (pairHigh_apply _ _ r _)).trans ?_
    rw [if_neg (by simp)]
    refine (groupO_apply mk sc1 _ _ _ _ _ _ r (fun i => qb (ix3 0 r ⟨256 + i.val, by omega⟩))
      (fun l => (cols_apply 256 _ _ r l ⟨256 + l.val, by omega⟩ rfl).trans (queries_apply qb r _))
      (fun l => (cols_apply 384 _ _ r l ⟨256 + (128 + l.val), by omega⟩ (by first | (simp; done) | (simp; omega))).trans (queries_apply qb r _))
      3 _ (by first | (simp; done) | (simp; omega)) _).trans ?_
    exact headRow_eq (fun x => congrArg (fun i => qb (ix3 0 r i)) (Fin.ext (by first | (simp [headAt]; done) | (simp [headAt]; omega))))
      (fun c x => (cols_apply 128 kw _ c _ _ (by simp)).trans (hk 1 c x))
      (fun c x => (cols_apply 128 kc _ c _ _ (by simp)).trans (hkc 1 c x)) (hs1 3)
      (fun c => (cols_apply 256 kw _ c _ _ (by first | (simp; done) | (simp; omega))).trans (hvb 1 c d))
      (fun c => (cols_apply 256 kc _ c _ _ (by first | (simp; done) | (simp; omega))).trans (hvbc 1 c d))

end Cert.KernelIdeal.Gen
-- ==== Proof.KernelValue.lean ====
module

public import proofs.«01_k».proof.Proof.Gen.KernelIdeal.Value
public import proofs.«01_k».proof.Proof.BlockValue
public import Idealize.ShloMosaic.Lib.Pipeline.ValueKit
public import Idealize.ShloMosaic.Lib.Pointwise

/-! What the kernel leaves in its result, element by element: `rowOut` of the row's scores against the keys and values it
    was given. -/

@[expose] public section

set_option maxRecDepth 16384

noncomputable section

namespace Cert.KernelIdeal.Gen

open Idealize.ShloMosaic Idealize.ShloMosaic.TcCoe Idealize.ShloMosaic.Tactic
open Idealize.ShloMosaic.Pipeline (Dat)
open Cert.Attention

/-- Keys, swapped keys, values, swapped values side by side. -/
def kvArr (k v : FVec Ideal S4x4096x128 .bf16) : FVec Ideal S4x4096x512 .bf16 :=
  concatenate S4x4096x512 2
    [⟨S4x4096x128, k⟩,
     ⟨S4x4096x128, concatenate S4x4096x128 2
        [⟨S4x4096x64, extractStridedSlice S4x4096x64 ![0, 0, 64] k slices_S4x4096x128_S4x4096x64_0_0_64⟩,
         ⟨S4x4096x64, extractStridedSlice S4x4096x64 ![0, 0, 0] k slices_S4x4096x128_S4x4096x64_0_0_0⟩] concatenates_S4x4096x64_S4x4096x64_S4x4096x128_d2⟩,
     ⟨S4x4096x128, v⟩,
     ⟨S4x4096x128, concatenate S4x4096x128 2
        [⟨S4x4096x64, extractStridedSlice S4x4096x64 ![0, 0, 64] v slices_S4x4096x128_S4x4096x64_0_0_64⟩,
         ⟨S4x4096x64, extractStridedSlice S4x4096x64 ![0, 0, 0] v slices_S4x4096x128_S4x4096x64_0_0_0⟩] concatenates_S4x4096x64_S4x4096x64_S4x4096x128_d2⟩]
    concatenates_S4x4096x128_S4x4096x128_S4x4096x128_S4x4096x128_S4x4096x512_d2

/-- The same of the context's. -/
def kvcArr (k v : FVec Ideal S4x256x128 .bf16) : FVec Ideal S4x256x512 .bf16 :=
  concatenate S4x256x512 2
    [⟨S4x256x128, k⟩,
     ⟨S4x256x128, concatenate S4x256x128 2
        [⟨S4x256x64, extractStridedSlice S4x256x64 ![0, 0, 64] k slices_S4x256x128_S4x256x64_0_0_64⟩,
         ⟨S4x256x64, extractStridedSlice S4x256x64 ![0, 0, 0] k slices_S4x256x128_S4x256x64_0_0_0⟩] concatenates_S4x256x64_S4x256x64_S4x256x128_d2⟩,
     ⟨S4x256x128, v⟩,
     ⟨S4x256x128, concatenate S4x256x128 2
        [⟨S4x256x64, extractStridedSlice S4x256x64 ![0, 0, 64] v slices_S4x256x128_S4x256x64_0_0_64⟩,
         ⟨S4x256x64, extractStridedSlice S4x256x64 ![0, 0, 0] v slices_S4x256x128_S4x256x64_0_0_0⟩] concatenates_S4x256x64_S4x256x64_S4x256x128_d2⟩]
    concatenates_S4x256x128_S4x256x128_S4x256x128_S4x256x128_S4x256x512_d2

section Columns

variable (k v : FVec Ideal S4x4096x128 .bf16) (kc vc : FVec Ideal S4x256x128 .bf16) (b : Fin 4) (r : Fin 4096) (r' : Fin 256)
  (g : Fin 2) (x : Fin 64)

theorem kv_key : kvArr k v (ix3 b r ⟨g.val * 128 + x.val, by omega⟩) = k (ix3 b r ⟨g.val * 64 + x.val, by omega⟩) := by
  have hx := x.isLt
  have hg := g.isLt
  pointwise [kvArr]
  split_ifs <;> first
    | (exfalso; omega)
    | (refine congrArg (fun j => k (ix3 b r j)) (Fin.ext ?_); dsimp; omega)

theorem kv_value : kvArr k v (ix3 b r ⟨256 + g.val * 128 + x.val, by omega⟩) = v (ix3 b r ⟨g.val * 64 + x.val, by omega⟩) := by
  have hx := x.isLt
  have hg := g.isLt
  pointwise [kvArr]
  split_ifs <;> first
    | (exfalso; omega)
    | (refine congrArg (fun j => v (ix3 b r j)) (Fin.ext ?_); dsimp; omega)

theorem kv_value' : kvArr k v (ix3 b r ⟨448 - g.val * 128 + x.val, by omega⟩) = v (ix3 b r ⟨g.val * 64 + x.val, by omega⟩) := by
  have hx := x.isLt
  have hg := g.isLt
  pointwise [kvArr]
  split_ifs <;> first
    | (exfalso; omega)
    | (refine congrArg (fun j => v (ix3 b r j)) (Fin.ext ?_); dsimp; omega)

theorem kvc_key : kvcArr kc vc (ix3 b r' ⟨g.val * 128 + x.val, by omega⟩) = kc (ix3 b r' ⟨g.val * 64 + x.val, by omega⟩) := by
  have hx := x.isLt
  have hg := g.isLt
  pointwise [kvcArr]
  split_ifs <;> first
    | (exfalso; omega)
    | (refine congrArg (fun j => kc (ix3 b r' j)) (Fin.ext ?_); dsimp; omega)

theorem kvc_value : kvcArr kc vc (ix3 b r' ⟨256 + g.val * 128 + x.val, by omega⟩) = vc (ix3 b r' ⟨g.val * 64 + x.val, by omega⟩) := by
  have hx := x.isLt
  have hg := g.isLt
  pointwise [kvcArr]
  split_ifs <;> first
    | (exfalso; omega)
    | (refine congrArg (fun j => vc (ix3 b r' j)) (Fin.ext ?_); dsimp; omega)

theorem kvc_value' : kvcArr kc vc (ix3 b r' ⟨448 - g.val * 128 + x.val, by omega⟩) = vc (ix3 b r' ⟨g.val * 64 + x.val, by omega⟩) := by
  have hx := x.isLt
  have hg := g.isLt
  pointwise [kvcArr]
  split_ifs <;> first
    | (exfalso; omega)
    | (refine congrArg (fun j => vc (ix3 b r' j)) (Fin.ext ?_); dsimp; omega)

end Columns

variable (m : (ℓ : Loc nD τ sig) → Buf (Elt Ideal) ℓ)

/-- A grid point's batch and its tile. -/
def coordB (t : Fin grid0.N) : Fin 4 := ⟨(grid0.coords t 0).val, (grid0.coords t 0).isLt⟩

def coordW (t : Fin grid0.N) : Fin 4 := ⟨(grid0.coords t 1).val, (grid0.coords t 1).isLt⟩

theorem V_kv (c : Dev nD) : V m c main_v6 = kvArr (m ((c : Thread nD τ).loc main_arg2)) (m ((c : Thread nD τ).loc main_arg3)) := by
  unfold_abbrev_sides
  after_results
  rfl

theorem V_kvc (c : Dev nD) : V m c main_v13 = kvcArr (m ((c : Thread nD τ).loc main_arg4)) (m ((c : Thread nD τ).loc main_arg5)) := by
  unfold_abbrev_sides
  after_results
  rfl

/-! ## The window of keys and values a block sees -/

theorem pay2_apply (x : Vec Ideal S1x128x512 .bf16) (r : Fin 128) (j : Fin 512) : k0_pay2 x (ix2 r j) = x (ix3 0 r j) := by
  pointwise [k0_pay2]

theorem pay3_apply (x : Vec Ideal S1x1024x512 .bf16) (r : Fin 1024) (j : Fin 512) : k0_pay3 x (ix2 r j) = x (ix3 0 r j) := by
  pointwise [k0_pay3]

theorem pay4_apply (x : Vec Ideal S1x128x512 .bf16) (r : Fin 128) (j : Fin 512) : k0_pay4 x (ix2 r j) = x (ix3 0 r j) := by
  pointwise [k0_pay4]

theorem pay5_apply (x : Vec Ideal S1x256x512 .bf16) (r : Fin 256) (j : Fin 512) : k0_pay5 x (ix2 r j) = x (ix3 0 r j) := by
  pointwise [k0_pay5]

/-- A row of the scratch: of the block before, of the tile, of the block after. -/
def scratchRow (x2 : Vec Ideal S1x128x512 .bf16) (x3 : Vec Ideal S1x1024x512 .bf16) (x4 : Vec Ideal S1x128x512 .bf16) (R : Fin 1280)
    (j : Fin 512) : Elt Ideal .bf16 :=
  if h : R.val < 128 then x2 (ix3 0 ⟨R.val, h⟩ j)
  else if h' : R.val < 1152 then x3 (ix3 0 ⟨R.val - 128, by omega⟩ j)
  else x4 (ix3 0 ⟨R.val - 1152, by omega⟩ j)

theorem scratch_apply (x2 : Vec Ideal S1x128x512 .bf16) (x3 : Vec Ideal S1x1024x512 .bf16) (x4 : Vec Ideal S1x128x512 .bf16) (y : S1280x512.Idx) :
    View.canon (scratch x2 x3 x4) y = scratchRow x2 x3 x4 (y 0) (y 1) := by
  refine View.canon_apply_of_pieces (Val := Elt Ideal) (e := .bf16) (fun y : S1280x512.Idx => scratchRow x2 x3 x4 (y 0) (y 1)) _ ?_ y ?_
  · intro p hp
    simp only [scratch, List.mem_cons, List.not_mem_nil, or_false] at hp
    rcases hp with rfl | rfl | rfl
    · intro z
      show k0_pay4 x4 z = _
      obtain ⟨r, j, rfl⟩ : ∃ (r : Fin 128) (j : Fin 512), z = ix2 r j := ⟨z 0, z 1, funext fun a => by fin_cases a <;> rfl⟩
      rw [pay4_apply]
      have hr := r.isLt
      unfold scratchRow
      rw [dif_neg (by simp [ValueKit.rect_emb_unit_val]; omega), dif_neg (by simp [ValueKit.rect_emb_unit_val])]
      refine congrArg x4 (funext fun a => Fin.ext ?_)
      fin_cases a <;> simp [ValueKit.rect_emb_unit_val]
    · intro z
      show k0_pay3 x3 z = _
      obtain ⟨r, j, rfl⟩ : ∃ (r : Fin 1024) (j : Fin 512), z = ix2 r j := ⟨z 0, z 1, funext fun a => by fin_cases a <;> rfl⟩
      rw [pay3_apply]
      have hr := r.isLt
      unfold scratchRow
      rw [dif_neg (by simp [ValueKit.rect_emb_unit_val]), dif_pos (by simp [ValueKit.rect_emb_unit_val]; omega)]
      refine congrArg x3 (funext fun a => Fin.ext ?_)
      fin_cases a <;> simp [ValueKit.rect_emb_unit_val]
    · intro z
      show k0_pay2 x2 z = _
      obtain ⟨r, j, rfl⟩ : ∃ (r : Fin 128) (j : Fin 512), z = ix2 r j := ⟨z 0, z 1, funext fun a => by fin_cases a <;> rfl⟩
      rw [pay2_apply]
      have hr := r.isLt
      unfold scratchRow
      rw [dif_pos (by simp [ValueKit.rect_emb_unit_val])]
      refine congrArg x2 (funext fun a => Fin.ext ?_)
      fin_cases a <;> simp [ValueKit.rect_emb_unit_val]
  · have h0 : (y 0).val < 1280 := (y 0).isLt
    have h1 : (y 1).val < 512 := (y 1).isLt
    simp only [scratch, List.mem_cons, List.not_mem_nil, or_false, exists_eq_or_imp, exists_eq_left, Rect.mem_set_unit, Fin.forall_fin_two]
    simp
    omega

theorem winAt_apply (arg9 : Memref sig .tc .vmem S1280x512 .bf16) (x2 : Vec Ideal S1x128x512 .bf16) (x3 : Vec Ideal S1x1024x512 .bf16) (x4 : Vec Ideal S1x128x512 .bf16)
    (o : ℕ) (inb) (ho : o ≤ 896) (r : Fin 384) (j : Fin 512) :
    winAt arg9 x2 x3 x4 o inb (ix2 r j) = scratchRow x2 x3 x4 ⟨o + r.val, by omega⟩ j := by
  unfold winAt
  rw [View.readCov_eq_canon']
  dsimp only
  rw [scratch_apply]
  rw [View.ld_unit_lit _ _ (by decide), View.ld_unit_lit _ _ (by decide), View.ld_unit_lit _ _ (by decide)]
  refine congrArg₂ (scratchRow x2 x3 x4) (Fin.ext ?_) (Fin.ext ?_)
  · show o + 1 * r.val = _
    simp
  · show 0 + 1 * j.val = _
    simp

theorem iblk1_at (c : Dev nD) (t : Fin cfg0.N) (r : Fin 1024) (j : Fin 512) :
    iblk m c 1 t (ix3 0 r j) = m ((c : Thread nD τ).loc main_arg1) (ix3 (coordB t) ⟨(coordW t).val * 1024 + r.val, by omega⟩ j) := by
  rw [← V_main_arg1 m c]
  have e : win0_1.index t = ![(coordB t).val, (coordW t).val, 0] := (by decide +kernel : ∀ t : Fin grid0.N, win0_1.index t = ![(coordB t).val, (coordW t).val, 0]) t
  blk_simp [iblk]
  refine congrArg (V m c main_arg1) ?_
  funext a
  fin_cases a <;> refine Fin.ext ?_ <;> blk_simp [e] <;> simp

theorem iblk2_at (c : Dev nD) (t : Fin cfg0.N) (r : Fin 128) (j : Fin 512) :
    iblk m c 2 t (ix3 0 r j) = kvArr (m ((c : Thread nD τ).loc main_arg2)) (m ((c : Thread nD τ).loc main_arg3)) (ix3 (coordB t) ⟨((coordW t).val * 8 - 1) * 128 + r.val, by omega⟩ j) := by
  rw [← V_kv m c]
  have e : win0_2.index t = ![(coordB t).val, (coordW t).val * 8 - 1, 0] := (by decide +kernel : ∀ t : Fin grid0.N, win0_2.index t = ![(coordB t).val, (coordW t).val * 8 - 1, 0]) t
  blk_simp [iblk]
  refine congrArg (V m c main_v6) ?_
  funext a
  fin_cases a <;> refine Fin.ext ?_ <;> blk_simp [e] <;> simp

theorem iblk3_at (c : Dev nD) (t : Fin cfg0.N) (r : Fin 1024) (j : Fin 512) :
    iblk m c 3 t (ix3 0 r j) = kvArr (m ((c : Thread nD τ).loc main_arg2)) (m ((c : Thread nD τ).loc main_arg3)) (ix3 (coordB t) ⟨(coordW t).val * 1024 + r.val, by omega⟩ j) := by
  rw [← V_kv m c]
  have e : win0_3.index t = ![(coordB t).val, (coordW t).val, 0] := (by decide +kernel : ∀ t : Fin grid0.N, win0_3.index t = ![(coordB t).val, (coordW t).val, 0]) t
  blk_simp [iblk]
  refine congrArg (V m c main_v6) ?_
  funext a
  fin_cases a <;> refine Fin.ext ?_ <;> blk_simp [e] <;> simp

theorem iblk4_at (c : Dev nD) (t : Fin cfg0.N) (r : Fin 128) (j : Fin 512) :
    iblk m c 4 t (ix3 0 r j) = kvArr (m ((c : Thread nD τ).loc main_arg2)) (m ((c : Thread nD τ).loc main_arg3)) (ix3 (coordB t) ⟨min (((coordW t).val + 1) * 8) 31 * 128 + r.val, by omega⟩ j) := by
  rw [← V_kv m c]
  have e : win0_4.index t = ![(coordB t).val, min (((coordW t).val + 1) * 8) 31, 0] := (by decide +kernel : ∀ t : Fin grid0.N, win0_4.index t = ![(coordB t).val, min (((coordW t).val + 1) * 8) 31, 0]) t
  blk_simp [iblk]
  refine congrArg (V m c main_v6) ?_
  funext a
  fin_cases a <;> refine Fin.ext ?_ <;> blk_simp [e] <;> simp

theorem iblk5_at (c : Dev nD) (t : Fin cfg0.N) (r : Fin 256) (j : Fin 512) :
    iblk m c 5 t (ix3 0 r j) = kvcArr (m ((c : Thread nD τ).loc main_arg4)) (m ((c : Thread nD τ).loc main_arg5)) (ix3 (coordB t) r j) := by
  rw [← V_kvc m c]
  have e : win0_5.index t = ![(coordB t).val, 0, 0] := (by decide +kernel : ∀ t : Fin grid0.N, win0_5.index t = ![(coordB t).val, 0, 0]) t
  blk_simp [iblk]
  refine congrArg (V m c main_v13) ?_
  funext a
  fin_cases a <;> refine Fin.ext ?_ <;> blk_simp [e] <;> simp

theorem iblk0_at (c : Dev nD) (t : Fin cfg0.N) (j : Fin 8) :
    iblk m c 0 t (ix1 j) = m ((c : Thread nD τ).loc main_arg0) (ix1 j) := by
  rw [← V_main_arg0 m c]
  have e : win0_0.index t = ![0] := (by decide +kernel : ∀ t : Fin grid0.N, win0_0.index t = ![0]) t
  blk_simp [iblk]
  refine congrArg (V m c main_arg0) ?_
  funext a
  fin_cases a <;> refine Fin.ext ?_ <;> blk_simp [e] <;> simp

/-! ## A row of the result -/

/-- The row of the keys that block `n`'s window holds at place `c`; beyond the ends, some row. -/
def seen (n : Fin 32) (c : Fin 384) : Fin 4096 :=
  ⟨if n.val % 8 * 128 + c.val < 128 then (n.val / 8 * 8 - 1) * 128 + (n.val % 8 * 128 + c.val)
   else if n.val % 8 * 128 + c.val < 1152 then n.val / 8 * 1024 + (n.val % 8 * 128 + c.val - 128)
   else min ((n.val / 8 + 1) * 8) 31 * 128 + (n.val % 8 * 128 + c.val - 1152), by
    have := n.isLt; have := c.isLt
    split
    · omega
    · split
      · omega
      · omega⟩

/-- A key is in the row's band and in the sequence. -/
abbrev InBand (n : Fin 32) (r : Fin 128) (c : Fin 384) : Prop :=
  (r.val ≤ c.val ∧ c.val ≤ r.val + 256) ∧ 128 ≤ n.val * 128 + c.val ∧ n.val * 128 + c.val < 4224

theorem seen_val (n : Fin 32) (r : Fin 128) (c : Fin 384) (h : InBand n r c) : (seen n c).val = n.val * 128 + c.val - 128 := by
  have := n.isLt; have := c.isLt
  obtain ⟨_, h1, h2⟩ := h
  unfold seen
  dsimp only
  split
  · omega
  · split
    · omega
    · omega

section Row

variable (s : FVec Ideal S8 .f32) (q : FVec Ideal S4x4096x512 .bf16) (k v : FVec Ideal S4x4096x128 .bf16)
  (kc vc : FVec Ideal S4x256x128 .bf16) (b : Fin 4) (n : Fin 32) (r : Fin 128) (g : Fin 2) (h : Fin 4) (d : Fin 64)

/-- One element of the kernel's result. -/
def kernelRow : EReal :=
  rowOut
    (fun c => if InBand n r c then
        ∑ x : Fin 64, q (ix3 b ⟨n.val * 128 + r.val, by omega⟩ ⟨g.val * 256 + h.val * 64 + x.val, by omega⟩)
          * k (ix3 b (seen n c) ⟨g.val * 64 + x.val, by omega⟩)
      else ⊥)
    (fun c => ∑ x : Fin 64, q (ix3 b ⟨n.val * 128 + r.val, by omega⟩ ⟨g.val * 256 + h.val * 64 + x.val, by omega⟩)
          * kc (ix3 b c ⟨g.val * 64 + x.val, by omega⟩))
    (s (ix1 ⟨g.val * 4 + h.val, by omega⟩) * (((Real.log 2)⁻¹ : ℝ) : EReal))
    (fun c => v (ix3 b (seen n c) ⟨g.val * 64 + d.val, by omega⟩)) (fun c => vc (ix3 b c ⟨g.val * 64 + d.val, by omega⟩))

theorem sinkAt_apply (x0 : Vec Ideal S8 .f32) (n : ℕ) (inb) (hn : n < 8) : sinkAt x0 n inb = x0 (ix1 ⟨n, hn⟩) := by
  unfold sinkAt
  rw [View.ld_unit_apply_of x0 _ _ _ _ (ix1 ⟨n, hn⟩)]
  intro a
  fin_cases a
  rfl

theorem piece_apply (arg9 : Memref sig .tc .vmem S1280x512 .bf16) (w : Fin 4) (j : Fin 8)
    (x0 : Vec Ideal S8 .f32) (x1 : Vec Ideal S1x1024x512 .bf16) (x2 : Vec Ideal S1x128x512 .bf16) (x3 : Vec Ideal S1x1024x512 .bf16) (x4 : Vec Ideal S1x128x512 .bf16) (x5 : Vec Ideal S1x256x512 .bf16)
    (o : ℕ) (ho : o = j.val * 128) (inb) (inb')
    (h0 : ∀ i : Fin 8, x0 (ix1 i) = s (ix1 i))
    (h1 : ∀ (r : Fin 1024) (i : Fin 512), x1 (ix3 0 r i) = q (ix3 b ⟨w.val * 1024 + r.val, by omega⟩ i))
    (h2 : ∀ (r : Fin 128) (i : Fin 512), x2 (ix3 0 r i) = kvArr k v (ix3 b ⟨(w.val * 8 - 1) * 128 + r.val, by omega⟩ i))
    (h3 : ∀ (r : Fin 1024) (i : Fin 512), x3 (ix3 0 r i) = kvArr k v (ix3 b ⟨w.val * 1024 + r.val, by omega⟩ i))
    (h4 : ∀ (r : Fin 128) (i : Fin 512), x4 (ix3 0 r i) = kvArr k v (ix3 b ⟨min ((w.val + 1) * 8) 31 * 128 + r.val, by omega⟩ i))
    (h5 : ∀ (r : Fin 256) (i : Fin 512), x5 (ix3 0 r i) = kvcArr kc vc (ix3 b r i)) :
    (pieceAt arg9 (BitVec.ofNat 32 w.val) x0 x1 x2 x3 x4 x5 o inb inb').2 (ix3 0 r ⟨g.val * 256 + h.val * 64 + d.val, by omega⟩)
      = kernelRow s q k v kc vc b ⟨w.val * 8 + j.val, by omega⟩ r g h d := by
  have hj := j.isLt
  have hw := w.isLt
  have hr := r.isLt
  have hwin : ∀ (c : Fin 384) (i : Fin 512), winAt arg9 x2 x3 x4 o inb' (ix2 c i)
      = kvArr k v (ix3 b (seen ⟨w.val * 8 + j.val, by omega⟩ c) i) := by
    intro c i
    have hc := c.isLt
    rw [winAt_apply arg9 x2 x3 x4 o inb' (by omega)]
    unfold scratchRow
    simp only [h2, h3, h4]
    have en : (w.val * 8 + j.val) % 8 = j.val := by omega
    have en' : (w.val * 8 + j.val) / 8 = w.val := by omega
    unfold seen
    dsimp only
    simp only [en, en', ← ho]
    split
    · rfl
    · split
      · rfl
      · rfl
  have hq : ∀ i : Fin 512, View.ld x1 (Rect.unit ![0, o, 0] S1x128x512.size inb) (ix3 0 r i)
      = q (ix3 b ⟨(w.val * 8 + j.val) * 128 + r.val, by omega⟩ i) := by
    intro i
    rw [View.ld_unit_apply_of x1 _ _ _ _ (ix3 0 ⟨o + r.val, by omega⟩ i), h1]
    · refine congrArg q (congrArg (fun a => ix3 b a i) (Fin.ext ?_))
      dsimp only
      omega
    · intro a
      fin_cases a
      · rfl
      · rfl
      · exact (Nat.zero_add _).symm
  have hkvc : ∀ (c : Fin 256) (i : Fin 512), k0_pay5 (View.ld x5 (Rect.unit ![0, 0, 0] S1x256x512.size inb_S1x256x512_S1x256x512_0_0_0)) (ix2 c i)
      = kvcArr kc vc (ix3 b c i) := by
    intro c i
    rw [View.ld_unit_lit, pay5_apply, h5]
    decide
  show blockOut _ _ _ _ _ _ _ = _
  rw [blockOut_apply _ _ _ _ _ _ r
    (fun g c x => k (ix3 b (seen ⟨w.val * 8 + j.val, by omega⟩ c) ⟨g.val * 64 + x.val, by omega⟩))
    (fun g c x => v (ix3 b (seen ⟨w.val * 8 + j.val, by omega⟩ c) ⟨g.val * 64 + x.val, by omega⟩))
    (fun g c x => kc (ix3 b c ⟨g.val * 64 + x.val, by omega⟩))
    (fun g c x => vc (ix3 b c ⟨g.val * 64 + x.val, by omega⟩))
    (fun g h => s (ix1 ⟨g.val * 4 + h.val, by omega⟩) * (((Real.log 2)⁻¹ : ℝ) : EReal))
    (fun g c x => (hwin c _).trans (kv_key k v b _ g x))
    (fun g c x => (hwin c _).trans (kv_value k v b _ g x))
    (fun g c x => (hwin c _).trans (kv_value' k v b _ g x))
    (fun g c x => (hkvc c _).trans (kvc_key kc vc b c g x))
    (fun g c x => (hkvc c _).trans (kvc_value kc vc b c g x))
    (fun g c x => (hkvc c _).trans (kvc_value' kc vc b c g x))
    (fun p => by
      rw [sinkCol_apply, sinkAt_apply x0 0 _ (by omega), sinkAt_apply x0 1 _ (by omega), sinkAt_apply x0 2 _ (by omega), sinkAt_apply x0 3 _ (by omega), h0, h0, h0, h0]
      fin_cases p <;> rfl)
    (fun p => by
      rw [sinkCol_apply, sinkAt_apply x0 4 _ (by omega), sinkAt_apply x0 5 _ (by omega), sinkAt_apply x0 6 _ (by omega), sinkAt_apply x0 7 _ (by omega), h0, h0, h0, h0]
      fin_cases p <;> rfl) g h d]
  unfold kernelRow
  simp only [hq]
  refine congrArg (fun f => rowOut f _ _ _ _) (funext fun c => ?_)
  refine if_congr ?_ rfl rfl
  rw [maskAt_apply w.val o w.isLt (by omega)]
  unfold InBand
  dsimp only
  constructor <;> (rintro ⟨⟨_, _⟩, _, _⟩; refine ⟨⟨?_, ?_⟩, ?_, ?_⟩ <;> omega)

end Row

/-- The whole result: an element's batch, block, row, group, head and lane off its index. -/
def kernelOut (s : FVec Ideal S8 .f32) (q : FVec Ideal S4x4096x512 .bf16) (k v : FVec Ideal S4x4096x128 .bf16)
    (kc vc : FVec Ideal S4x256x128 .bf16) : FVec Ideal S4x4096x512 .bf16 := fun i =>
  kernelRow s q k v kc vc (i 0) ⟨(i 1).val / 128, Nat.div_lt_of_lt_mul (i 1).isLt⟩ ⟨(i 1).val % 128, Nat.mod_lt _ (by decide)⟩
    ⟨(i 2).val / 256, Nat.div_lt_of_lt_mul (i 2).isLt⟩ ⟨(i 2).val / 64 % 4, Nat.mod_lt _ (by decide)⟩ ⟨(i 2).val % 64, Nat.mod_lt _ (by decide)⟩

theorem kernelOut_at (s : FVec Ideal S8 .f32) (q : FVec Ideal S4x4096x512 .bf16) (k v : FVec Ideal S4x4096x128 .bf16)
    (kc vc : FVec Ideal S4x256x128 .bf16) (b : Fin 4) (n : Fin 32) (r : Fin 128) (g : Fin 2) (h : Fin 4) (d : Fin 64) :
    kernelOut s q k v kc vc (ix3 b ⟨n.val * 128 + r.val, by omega⟩ ⟨g.val * 256 + h.val * 64 + d.val, by omega⟩)
      = kernelRow s q k v kc vc b n r g h d := by
  have e1 : ∀ hh, (⟨(n.val * 128 + r.val) / 128, hh⟩ : Fin 32) = n := fun _ => Fin.ext (by dsimp; omega)
  have e2 : ∀ hh, (⟨(n.val * 128 + r.val) % 128, hh⟩ : Fin 128) = r := fun _ => Fin.ext (by dsimp; omega)
  have e3 : ∀ hh, (⟨(g.val * 256 + h.val * 64 + d.val) / 256, hh⟩ : Fin 2) = g := fun _ => Fin.ext (by dsimp; omega)
  have e4 : ∀ hh, (⟨(g.val * 256 + h.val * 64 + d.val) / 64 % 4, hh⟩ : Fin 4) = h := fun _ => Fin.ext (by dsimp; omega)
  have e5 : ∀ hh, (⟨(g.val * 256 + h.val * 64 + d.val) % 64, hh⟩ : Fin 64) = d := fun _ => Fin.ext (by dsimp; omega)
  have E : ∀ (n' : Fin 32) (r' : Fin 128) (g' : Fin 2) (h' : Fin 4) (d' : Fin 64), n' = n → r' = r → g' = g → h' = h → d' = d →
      kernelRow s q k v kc vc b n' r' g' h' d' = kernelRow s q k v kc vc b n r g h d := by
    rintro _ _ _ _ _ rfl rfl rfl rfl rfl
    rfl
  exact E _ _ _ _ _ (e1 (by omega)) (e2 (by omega)) (e3 (by omega)) (e4 (by omega)) (e5 (by omega))

/-- A column as group, head and lane. -/
theorem column_split (i : Fin 512) : ∃ (g : Fin 2) (h : Fin 4) (d : Fin 64), i = ⟨g.val * 256 + h.val * 64 + d.val, by omega⟩ :=
  ⟨⟨i.val / 256, by omega⟩, ⟨i.val / 64 % 4, by omega⟩, ⟨i.val % 64, by omega⟩, Fin.ext (by dsimp; omega)⟩

/-- A row as block and place. -/
theorem row_split (i : Fin 4096) : ∃ (n : Fin 32) (r : Fin 128), i = ⟨n.val * 128 + r.val, by omega⟩ :=
  ⟨⟨i.val / 128, by omega⟩, ⟨i.val % 128, by omega⟩, Fin.ext (by dsimp; omega)⟩

/-- The result array after the run. -/
theorem final_out (c : Dev nD) : (dats m 0 c).arrAt 6 cfg0.N
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have e : win0_6.index t = ![(coordB t).val, (coordW t).val, 0] := (by decide +kernel : ∀ t : Fin grid0.N, win0_6.index t = ![(coordB t).val, (coordW t).val, 0]) t
  have ey : ∀ z : S1x1024x512.Idx, (win0_6.blk t).view.emb z
      = (ix3 (coordB t) ⟨(coordW t).val * 1024 + (z 1).val, by have h1 : (z 1).val < 1024 := (z 1).isLt; have := (coordW t).isLt; omega⟩ (z 2) : S4x4096x512.Idx) := by
    intro z
    have h0 : (z 0).val < 1 := (z 0).isLt
    funext a
    fin_cases a <;> refine Fin.ext ?_ <;> blk_simp [e] <;> simp <;> omega
  unfold outsAt0 out0_A_6
  rw [View.read_writes_junk_eq_canon, pieces_eq]
  refine View.canon_apply_of_pieces (Val := Elt Ideal) (e := .bf16) (fun z : S1x1024x512.Idx => kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) ((win0_6.blk t).view.emb z)) _ ?_ y ?_
  · have key : ∀ (j : Fin 8) (o : ℕ) (ho : o = j.val * 128) (inb : ∀ a, (![0, o, 0] : Fin 3 → ℕ) a + S1x128x512.size a ≤ S1x1024x512.size a)
        (inb' : ∀ a, (![o, 0] : Fin 2 → ℕ) a + S384x512.size a ≤ S1280x512.size a) (z : S1x128x512.Idx),
        (pieceAt scM0_0 (BitVec.ofNat 32 (grid0.coords t 1).val) (iblk m c 0 t) (iblk m c 1 t) (iblk m c 2 t) (iblk m c 3 t) (iblk m c 4 t) (iblk m c 5 t) o inb inb').2 z
          = kernelOut (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              ((win0_6.blk t).view.emb ((Rect.unit (s := S1x1024x512) ![0, o, 0] S1x128x512.size inb).emb z)) := by
      intro j o ho inb inb' z
      have hj := j.isLt
      obtain ⟨r, i, rfl⟩ : ∃ (r : Fin 128) (i : Fin 512), z = ix3 0 r i :=
        ⟨z 1, z 2, funext fun a => by
          fin_cases a
          · exact Fin.ext (Nat.lt_one_iff.1 (z 0).isLt)
          · rfl
          · rfl⟩
      obtain ⟨g, h, d, rfl⟩ := column_split i
      refine (piece_apply (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (coordB t) r g h d
        scM0_0 (coordW t) j _ _ _ _ _ _ o ho inb inb' (iblk0_at m c t) (iblk1_at m c t) (iblk2_at m c t) (iblk3_at m c t) (iblk4_at m c t) (iblk5_at m c t)).trans ?_
      rw [ey, ← kernelOut_at]
      refine congrArg (kernelOut _ _ _ _ _ _) (funext fun a => Fin.ext ?_)
      fin_cases a <;> simp [ValueKit.rect_emb_unit_val] <;> omega
    intro p hp
    simp only [List.mem_cons, List.not_mem_nil, or_false] at hp
    rcases hp with rfl | rfl | rfl | rfl | rfl | rfl | rfl | rfl
    · exact key 7 896 rfl _ _
    · exact key 6 768 rfl _ _
    · exact key 5 640 rfl _ _
    · exact key 4 512 rfl _ _
    · exact key 3 384 rfl _ _
    · exact key 2 256 rfl _ _
    · exact key 1 128 rfl _ _
    · exact key 0 0 rfl _ _
  · have h := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) y
    rw [pieces_eq] at h
    exact h

end Cert.KernelIdeal.Gen
-- ==== Proof.RefValue.lean ====
module

public import proofs.«01_k».proof.Proof.Gen.ReferenceIdeal.Read
public import proofs.«01_k».proof.Proof.Softmax
public import Idealize.ShloMosaic.Lib.Pointwise
public import Idealize.ShloMosaic.Lib.ValueIdxRank6
public import Idealize.ShloMosaic.Lib.KernelVsHost
public import Idealize.ShloMosaic.Lib.Tactic.WordOmega

/-! What the reference computes on extended reals, element by element: at batch `b`, block `n`, row `r` of the block,
    group `g`, head `h` of the group and lane `d`, the row of that head. -/

@[expose] public section

set_option maxRecDepth 16384

noncomputable section

namespace Cert.ReferenceIdeal.Read

open Cert.ReferenceIdeal Cert.ReferenceIdeal.Gen Idealize.ShloMosaic Idealize.ShloMosaic.TcCoe
open Cert.Attention

/-- The factor of the queries: 8 times the logarithm of 2. -/
def lam : EReal := Ideal.ofBits .f32 0x41000000#32 * Ideal.log (Ideal.ofBits .f32 0x40000000#32)

theorem v4_at (x1 : FVec Ideal S4x4096x512 .bf16) (i : S4x4096x512.Idx) :
    val_main_v4 (F := Ideal) x1 i = x1 i * lam := by
  rfl

theorem v9_at (x1 : FVec Ideal S4x4096x512 .bf16) (b : Fin 4) (n : Fin 32) (r : Fin 128) (g : Fin 2) (h : Fin 4) (d : Fin 64) :
    val_main_v9 (F := Ideal) x1 (ix6 b n r g h d)
      = x1 (ix3 b ⟨n.val * 128 + r.val, by omega⟩ ⟨g.val * 256 + h.val * 64 + d.val, by omega⟩) * lam := by
  unfold val_main_v9
  rw [shapeCast_apply _ _ _ (ix3 b ⟨n.val * 128 + r.val, by omega⟩ ⟨g.val * 256 + h.val * 64 + d.val, by omega⟩), v4_at]
  rw [Shape.rowMajor_val_three, Shape.rowMajor_val_six]
  simp
  omega

theorem v10_at (x4 : FVec Ideal S4x256x128 .bf16) (b : Fin 4) (c : Fin 256) (g : Fin 2) (d : Fin 64) :
    val_main_v10 (F := Ideal) x4 (ix4 b c g d) = x4 (ix3 b c ⟨g.val * 64 + d.val, by omega⟩) := by
  unfold val_main_v10
  rw [shapeCast_apply _ _ _ (ix3 b c ⟨g.val * 64 + d.val, by omega⟩)]
  · rfl
  rw [Shape.rowMajor_val_three, Shape.rowMajor_val_four]
  simp
  omega

theorem v11_at (x5 : FVec Ideal S4x256x128 .bf16) (b : Fin 4) (c : Fin 256) (g : Fin 2) (d : Fin 64) :
    val_main_v11 (F := Ideal) x5 (ix4 b c g d) = x5 (ix3 b c ⟨g.val * 64 + d.val, by omega⟩) := v10_at x5 b c g d

theorem v12_at (x2 : FVec Ideal S4x4096x128 .bf16) (b : Fin 4) (c : Fin 4096) (g : Fin 2) (d : Fin 64) :
    val_main_v12 (F := Ideal) x2 (ix4 b c g d) = x2 (ix3 b c ⟨g.val * 64 + d.val, by omega⟩) := by
  unfold val_main_v12
  rw [shapeCast_apply _ _ _ (ix3 b c ⟨g.val * 64 + d.val, by omega⟩)]
  · rfl
  rw [Shape.rowMajor_val_three, Shape.rowMajor_val_four]
  simp
  omega

theorem v13_at (x2 : FVec Ideal S4x4096x128 .bf16) (b : Fin 4) (m : Fin 4352) (g : Fin 2) (d : Fin 64) :
    val_main_v13 (F := Ideal) x2 (ix4 b m g d) =
      if h : 128 ≤ m.val ∧ m.val < 4224 then x2 (ix3 b ⟨m.val - 128, by omega⟩ ⟨g.val * 64 + d.val, by omega⟩) else 0 := by
  unfold val_main_v13
  by_cases h : 128 ≤ m.val ∧ m.val < 4224
  · rw [dif_pos h, pad_apply_of_inside _ _ _ _ _ _ _ _ (ix4 b ⟨m.val - 128, by omega⟩ g d)]
    · exact v12_at x2 b _ g d
    · intro a; fin_cases a <;> simp
      omega
  · rw [dif_neg h, pad_apply_of_not_inside _ _ _ _ _ _ _ _ (1 : Fin 4)]
    · show ((((0#32 : BitVec 32).toInt : ℤ) : ℝ) : EReal) = 0
      simp
    · simp
      omega

theorem v14_at (x2 : FVec Ideal S4x4096x128 .bf16) (b : Fin 4) (m : Fin 34) (r : Fin 128) (g : Fin 2) (d : Fin 64) :
    val_main_v14 (F := Ideal) x2 (ix5 b m r g d) =
      if h : 128 ≤ m.val * 128 + r.val ∧ m.val * 128 + r.val < 4224 then
        x2 (ix3 b ⟨m.val * 128 + r.val - 128, by omega⟩ ⟨g.val * 64 + d.val, by omega⟩)
      else 0 := by
  unfold val_main_v14
  rw [shapeCast_apply _ _ _ (ix4 b ⟨m.val * 128 + r.val, by omega⟩ g d), v13_at]
  rw [Shape.rowMajor_val_four, Shape.rowMajor_val_five]
  simp
  omega

/-- The band of keys: block `n` sees the rows of the blocks beside it too, zeros beyond the ends. -/
theorem v18_at (x2 : FVec Ideal S4x4096x128 .bf16) (b : Fin 4) (n : Fin 32) (c : Fin 384) (g : Fin 2) (d : Fin 64) :
    val_main_v18 (F := Ideal) x2 (ix5 b n c g d) =
      if h : 128 ≤ n.val * 128 + c.val ∧ n.val * 128 + c.val < 4224 then
        x2 (ix3 b ⟨n.val * 128 + c.val - 128, by omega⟩ ⟨g.val * 64 + d.val, by omega⟩)
      else 0 := by
  have hc := c.isLt
  have hn := n.isLt
  pointwise [val_main_v18, val_main_v17, val_main_v16, val_main_v15]
  split
  · rw [v14_at]
  · split
    · rw [v14_at]
      refine (dite_congr (propext ?_) (fun _ => ?_) fun _ => rfl)
      · dsimp; omega
      · congr 2; ext; dsimp; omega
    · rw [v14_at]
      refine (dite_congr (propext ?_) (fun _ => ?_) fun _ => rfl)
      · dsimp; omega
      · congr 2; ext; dsimp; omega

theorem v63_at (n : Fin 32) (r : Fin 128) (c : Fin 384) :
    val_main_v63 (F := Ideal) (ix3 n r c) = 1#1 ↔
      (r.val ≤ c.val ∧ c.val ≤ r.val + 256) ∧ 128 ≤ n.val * 128 + c.val ∧ n.val * 128 + c.val < 4224 := by
  simp only [val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_c_3_apply, val_main_c_4_apply, val_main_c_5_apply, val_main_c_6_apply, val_main_c_7_apply, val_main_c_8_apply]
  simp only [ix3_0, ix3_1, ix3_2]
  have hn := n.isLt
  have hr := r.isLt
  have hc := c.isLt
  have e : (IntOp.subi
                (IntOp.addi (IntOp.muli (BitVec.ofNat 32 n.val) 128#32) (BitVec.ofNat 32 r.val))
                (IntOp.addi (IntOp.muli (IntOp.subi (BitVec.ofNat 32 n.val) 1#32) 128#32)
                  (BitVec.ofNat 32 c.val))) = BitVec.ofNat 32 (r.val + 128) - BitVec.ofNat 32 c.val := by
    simp only [IntOp.subi, IntOp.addi, IntOp.muli]
    word_omega
  have e2 : IntOp.cmpi .sle (IntOp.absi (BitVec.ofNat 32 (r.val + 128) - BitVec.ofNat 32 c.val)) 128#32
      = if r.val ≤ c.val ∧ c.val ≤ r.val + 256 then 1#1 else 0#1 := by
    unfold IntOp.absi
    rw [BitVec.msb_eq_decide]
    split <;> rename_i h <;> simp only [decide_eq_true_eq] at h <;> word_omega
  have e3 : IntOp.addi (IntOp.muli (IntOp.subi (BitVec.ofNat 32 n.val) 1#32) 128#32) (BitVec.ofNat 32 c.val)
      = BitVec.ofNat 32 (n.val * 128 + c.val) - 128#32 := by
    clear e e2
    simp only [IntOp.subi, IntOp.addi, IntOp.muli]
    word_omega
  have e4 : IntOp.cmpi .sge (BitVec.ofNat 32 (n.val * 128 + c.val) - 128#32) 0#32 = if 128 ≤ n.val * 128 + c.val then 1#1 else 0#1 := by
    clear e e2 e3
    word_omega
  have e5 : 128 ≤ n.val * 128 + c.val → IntOp.cmpi .slt (BitVec.ofNat 32 (n.val * 128 + c.val) - 128#32) 4096#32 = if n.val * 128 + c.val < 4224 then 1#1 else 0#1 := by
    clear e e2 e3 e4
    intro h
    word_omega
  rw [e, e2, e3, e4]
  clear e e2 e3 e4
  by_cases h2 : 128 ≤ n.val * 128 + c.val
  · rw [e5 h2]
    clear e5
    by_cases h1 : r.val ≤ c.val ∧ c.val ≤ r.val + 256 <;> by_cases h3 : n.val * 128 + c.val < 4224 <;> simp [h1, h2, h3, IntOp.andi]
  · clear e5
    generalize IntOp.cmpi .slt (BitVec.ofNat 32 (n.val * 128 + c.val) - 128#32) 4096#32 = z
    by_cases h1 : r.val ≤ c.val ∧ c.val ≤ r.val + 256 <;> simp [h1, h2, IntOp.andi]

/-- The band of values, the same. -/
theorem v25_at (x3 : FVec Ideal S4x4096x128 .bf16) (b : Fin 4) (n : Fin 32) (c : Fin 384) (g : Fin 2) (d : Fin 64) :
    val_main_v25 (F := Ideal) x3 (ix5 b n c g d) =
      if h : 128 ≤ n.val * 128 + c.val ∧ n.val * 128 + c.val < 4224 then
        x3 (ix3 b ⟨n.val * 128 + c.val - 128, by omega⟩ ⟨g.val * 64 + d.val, by omega⟩)
      else 0 := v18_at x3 b n c g d

section Row

variable (x0 : FVec Ideal S8 .f32) (x1 : FVec Ideal S4x4096x512 .bf16) (x2 x3 : FVec Ideal S4x4096x128 .bf16)
  (x4 x5 : FVec Ideal S4x256x128 .bf16) (b : Fin 4) (n : Fin 32) (r : Fin 128) (g : Fin 2) (h : Fin 4)

/-- A row's scores against the window. -/
def winScore (c : Fin 384) : EReal :=
  if hv : (r.val ≤ c.val ∧ c.val ≤ r.val + 256) ∧ 128 ≤ n.val * 128 + c.val ∧ n.val * 128 + c.val < 4224 then
    (∑ d : Fin 64, x2 (ix3 b ⟨n.val * 128 + c.val - 128, by omega⟩ ⟨g.val * 64 + d.val, by omega⟩)
      * (x1 (ix3 b ⟨n.val * 128 + r.val, by omega⟩ ⟨g.val * 256 + h.val * 64 + d.val, by omega⟩) * lam)) * Ideal.ofBits .f32 0x3E000000#32
  else ⊥

/-- A row's scores against the context. -/
def ctxScore (c : Fin 256) : EReal :=
  (∑ d : Fin 64, x4 (ix3 b c ⟨g.val * 64 + d.val, by omega⟩)
      * (x1 (ix3 b ⟨n.val * 128 + r.val, by omega⟩ ⟨g.val * 256 + h.val * 64 + d.val, by omega⟩) * lam)) * Ideal.ofBits .f32 0x3E000000#32

theorem v26_at (c : Fin 384) :
    val_main_v26 (F := Ideal) x1 x2 (ix6 b n g c r h)
      = ∑ d : Fin 64, val_main_v18 (F := Ideal) x2 (ix5 b n c g d) * val_main_v9 (F := Ideal) x1 (ix6 b n r g h d) := by
  rw [val_main_v26_apply]
  refine Finset.sum_congr rfl fun d _ => ?_
  refine congrArg₂ (· * ·) (congrArg _ ?_) (congrArg _ ?_) <;> funext a <;> fin_cases a <;> rfl

theorem v66_at (c : Fin 256) :
    val_main_v66 (F := Ideal) x1 x4 (ix6 b g c n r h)
      = ∑ d : Fin 64, val_main_v10 (F := Ideal) x4 (ix4 b c g d) * val_main_v9 (F := Ideal) x1 (ix6 b n r g h d) := by
  rw [val_main_v66_apply]
  refine Finset.sum_congr rfl fun d _ => ?_
  refine congrArg₂ (· * ·) (congrArg _ ?_) (congrArg _ ?_) <;> funext a <;> fin_cases a <;> rfl

theorem v65_at (c : Fin 384) :
    val_main_v65 (F := Ideal) x1 x2 (ix6 b n g h r c) = winScore x1 x2 b n r g h c := by
  have e1 : val_main_call2_v1 (F := Ideal) (ix6 b n g h r c) = val_main_v63 (F := Ideal) (ix3 n r c) := by
    rw [val_main_call2_v1_apply, val_main_v64_apply]
    refine congrArg _ ?_; funext a; fin_cases a <;> rfl
  have e2 : val_main_v29 (F := Ideal) x1 x2 (ix6 b n g h r c)
      = val_main_v26 (F := Ideal) x1 x2 (ix6 b n g c r h) * Ideal.ofBits .f32 0x3E000000#32 := by
    rw [val_main_v29_apply, val_main_v27_apply, val_main_v28_apply]
    refine congrArg₂ (· * ·) (congrArg _ ?_) rfl
    funext a; fin_cases a <;> rfl
  have e3 : val_main_call2_v2 (F := Ideal) (ix6 b n g h r c) = (⊥ : EReal) := by
    rw [val_main_call2_v2_apply]
    show Ideal.ofBits .f32 0xFF800000#32 = ⊥
    simp [Ideal.ofBits, Ideal.ieee]
  rw [val_main_v65_apply, e1, e2, e3, v26_at]
  unfold winScore
  simp only [v18_at, v9_at]
  by_cases hv : (r.val ≤ c.val ∧ c.val ≤ r.val + 256) ∧ 128 ≤ n.val * 128 + c.val ∧ n.val * 128 + c.val < 4224
  · rw [dif_pos hv, (v63_at n r c).2 hv]
    simp only [dif_pos hv.2]
    rfl
  · have : val_main_v63 (F := Ideal) (ix3 n r c) ≠ 1#1 := fun e => hv ((v63_at n r c).1 e)
    rw [dif_neg hv]
    exact if_neg this

theorem v69_at (c : Fin 256) :
    val_main_v69 (F := Ideal) x1 x4 (ix6 b n g h r c) = ctxScore x1 x4 b n r g h c := by
  have e2 : val_main_v69 (F := Ideal) x1 x4 (ix6 b n g h r c)
      = val_main_v66 (F := Ideal) x1 x4 (ix6 b g c n r h) * Ideal.ofBits .f32 0x3E000000#32 := by
    rw [val_main_v69_apply, val_main_v67_apply, val_main_v68_apply]
    refine congrArg₂ (· * ·) (congrArg _ ?_) rfl
    funext a; fin_cases a <;> rfl
  rw [e2, v66_at]
  unfold ctxScore
  simp only [v10_at, v9_at]

theorem v71_at : val_main_v71 (F := Ideal) x0 (ix6 b n g h r 0) = x0 (ix1 ⟨g.val * 4 + h.val, by omega⟩) := by
  rw [val_main_v71_apply]
  unfold val_main_v70
  rw [shapeCast_apply _ _ _ (ix1 ⟨g.val * 4 + h.val, by omega⟩)]
  rw [Shape.rowMajor_val_one, Shape.rowMajor_val_six]
  simp

/-- A row's scores: the window's, the context's, the sink. -/
abbrev rowScores : Fin 641 → EReal :=
  allScores (winScore x1 x2 b n r g h) (ctxScore x1 x4 b n r g h) (x0 (ix1 ⟨g.val * 4 + h.val, by omega⟩))

theorem v72_at (j : Fin 641) :
    val_main_v72 (F := Ideal) x0 x1 x2 x4 (ix6 b n g h r j) = rowScores x0 x1 x2 x4 b n r g h j := by
  pointwise [val_main_v72]
  unfold rowScores allScores
  split
  · exact v65_at x1 x2 b n r g h _
  · refine dite_congr (propext (by omega)) (fun _ => v69_at x1 x4 b n r g h _) fun _ => ?_
    rw [← v71_at x0 b n r g h]
    refine congrArg _ (congrArg _ (Fin.ext ?_))
    have := j.isLt
    dsimp
    omega

theorem v73_at : val_main_v73 (F := Ideal) x0 x1 x2 x4 (ix5 b n g h r)
    = Finset.fold max ⊥ (rowScores x0 x1 x2 x4 b n r g h) Finset.univ := by
  have hR : S4x32x2x4x128x641.Reduces [5] S4x32x2x4x128 := by decide
  have e1 : val_main_cst_11 (F := Ideal) (Shape.Idx.first h_S_) = (⊥ : EReal) := by
    show Ideal.ofBits .f32 0xFF800000#32 = ⊥
    simp [Ideal.ofBits, Ideal.ieee]
  have e2 : ∀ k : Fin 641, val_main_v72 (F := Ideal) x0 x1 x2 x4 (hR.lift (ix5 b n g h r) k) = rowScores x0 x1 x2 x4 b n r g h k := by
    intro k
    rw [← v72_at]
    refine congrArg (val_main_v72 (F := Ideal) x0 x1 x2 x4) (funext fun a => ?_)
    fin_cases a <;> rfl
  unfold val_main_v73
  rw [Host.reduce_eq_fold_single _ _ _ _ hR, e1]
  exact congrArg (fun f => Finset.fold max ⊥ f Finset.univ) (funext e2)

/-- The largest score of a row. -/
abbrev top : EReal := max ⊥ (Finset.fold max ⊥ (rowScores x0 x1 x2 x4 b n r g h) Finset.univ)

theorem v75_at : val_main_v75 (F := Ideal) x0 x1 x2 x4 (ix5 b n g h r) = top x0 x1 x2 x4 b n r g h := by
  have e1 : val_main_v74 (F := Ideal) (ix5 b n g h r) = (⊥ : EReal) := by
    rw [val_main_v74_apply]
    show Ideal.ofBits .f32 0xFF800000#32 = ⊥
    simp [Ideal.ofBits, Ideal.ieee]
  rw [val_main_v75_apply, e1, v73_at]
  rfl

theorem v79_at (j : Fin 641) : val_main_v79 (F := Ideal) x0 x1 x2 x4 (ix6 b n g h r j)
    = Ideal.exp (rowScores x0 x1 x2 x4 b n r g h j - top x0 x1 x2 x4 b n r g h) := by
  rw [val_main_v79_apply, val_main_v78_apply, v72_at, val_main_v77_apply, val_main_v76_apply, ← v75_at]
  refine congrArg Ideal.exp (congrArg₂ (· - ·) rfl (congrArg _ ?_))
  funext a; fin_cases a <;> rfl

theorem v80_at : val_main_v80 (F := Ideal) x0 x1 x2 x4 (ix5 b n g h r)
    = 0 + ∑ j, Ideal.exp (rowScores x0 x1 x2 x4 b n r g h j - top x0 x1 x2 x4 b n r g h) := by
  rw [val_main_v80_apply]
  refine congrArg₂ (· + ·) ?_ (Finset.sum_congr rfl fun j _ => ?_)
  · show Ideal.ofBits .f32 0x00000000#32 = 0
    simp [Ideal.ofBits, Ideal.ieee]
  · rw [← v79_at]
    refine congrArg _ ?_
    funext a; fin_cases a <;> rfl

theorem v83_at (j : Fin 641) : val_main_v83 (F := Ideal) x0 x1 x2 x4 (ix6 b n g h r j)
    = weight (winScore x1 x2 b n r g h) (ctxScore x1 x4 b n r g h) (x0 (ix1 ⟨g.val * 4 + h.val, by omega⟩))
        (rowScores x0 x1 x2 x4 b n r g h j) := by
  have e : val_main_v82 (F := Ideal) x0 x1 x2 x4 (ix6 b n g h r j) = val_main_v80 (F := Ideal) x0 x1 x2 x4 (ix5 b n g h r) := by
    rw [val_main_v82_apply, val_main_v81_apply]
    refine congrArg _ ?_
    funext a; fin_cases a <;> rfl
  rw [val_main_v83_apply, v79_at, e, v80_at]
  rfl

theorem rowScores_win (c : Fin 384) :
    rowScores x0 x1 x2 x4 b n r g h ⟨c.val, by omega⟩ = winScore x1 x2 b n r g h c := by
  unfold rowScores allScores
  exact dif_pos c.isLt

theorem rowScores_ctx (c : Fin 256) :
    rowScores x0 x1 x2 x4 b n r g h ⟨384 + c.val, by omega⟩ = ctxScore x1 x4 b n r g h c := by
  have hc := c.isLt
  unfold rowScores allScores
  rw [dif_neg (by dsimp; omega), dif_pos (by dsimp; omega)]
  refine congrArg _ (Fin.ext ?_)
  dsimp; omega

theorem v84_at (c : Fin 384) : val_main_v84 (F := Ideal) x0 x1 x2 x4 (ix6 b n g h r c)
    = weight (winScore x1 x2 b n r g h) (ctxScore x1 x4 b n r g h) (x0 (ix1 ⟨g.val * 4 + h.val, by omega⟩))
        (winScore x1 x2 b n r g h c) := by
  rw [← rowScores_win x0 x1 x2 x4, ← v83_at, val_main_v84_apply]
  refine congrArg _ ?_
  funext a; fin_cases a <;> simp [idx_main_v84] <;> rfl

theorem v87_at (c : Fin 256) : val_main_v87 (F := Ideal) x0 x1 x2 x4 (ix6 b n g h r c)
    = weight (winScore x1 x2 b n r g h) (ctxScore x1 x4 b n r g h) (x0 (ix1 ⟨g.val * 4 + h.val, by omega⟩))
        (ctxScore x1 x4 b n r g h c) := by
  rw [← rowScores_ctx x0 x1 x2 x4, ← v83_at, val_main_v87_apply]
  refine congrArg _ ?_
  funext a; fin_cases a <;> simp [idx_main_v87] <;> rfl

theorem v85_at (d : Fin 64) : val_main_v85 (F := Ideal) x0 x1 x2 x3 x4 (ix6 b n g d h r)
    = ∑ c : Fin 384, val_main_v25 (F := Ideal) x3 (ix5 b n c g d) * val_main_v84 (F := Ideal) x0 x1 x2 x4 (ix6 b n g h r c) := by
  rw [val_main_v85_apply]
  refine Finset.sum_congr rfl fun c _ => ?_
  refine congrArg₂ (· * ·) (congrArg _ ?_) (congrArg _ ?_) <;> funext a <;> fin_cases a <;> rfl

theorem v88_at (d : Fin 64) : val_main_v88 (F := Ideal) x0 x1 x2 x4 x5 (ix6 b g d n h r)
    = ∑ c : Fin 256, val_main_v11 (F := Ideal) x5 (ix4 b c g d) * val_main_v87 (F := Ideal) x0 x1 x2 x4 (ix6 b n g h r c) := by
  rw [val_main_v88_apply]
  refine Finset.sum_congr rfl fun c _ => ?_
  refine congrArg₂ (· * ·) (congrArg _ ?_) (congrArg _ ?_) <;> funext a <;> fin_cases a <;> rfl

/-- The reference's result at an element is the quotient softmax of the row's scores. -/
theorem result_at (d : Fin 64) :
    val_main_v92 (F := Ideal) x0 x1 x2 x3 x4 x5 (ix3 b ⟨n.val * 128 + r.val, by omega⟩ ⟨g.val * 256 + h.val * 64 + d.val, by omega⟩)
      = refRow (winScore x1 x2 b n r g h) (ctxScore x1 x4 b n r g h) (x0 (ix1 ⟨g.val * 4 + h.val, by omega⟩))
          (fun c => val_main_v25 (F := Ideal) x3 (ix5 b n c g d)) (fun c => x5 (ix3 b c ⟨g.val * 64 + d.val, by omega⟩)) := by
  have e : val_main_v92 (F := Ideal) x0 x1 x2 x3 x4 x5 (ix3 b ⟨n.val * 128 + r.val, by omega⟩ ⟨g.val * 256 + h.val * 64 + d.val, by omega⟩)
      = val_main_v90 (F := Ideal) x0 x1 x2 x3 x4 x5 (ix6 b n r g h d) := by
    show val_main_v91 (F := Ideal) x0 x1 x2 x3 x4 x5 _ = _
    unfold val_main_v91
    rw [shapeCast_apply _ _ _ (ix6 b n r g h d)]
    rw [Shape.rowMajor_val_three, Shape.rowMajor_val_six]
    simp
    omega
  have e1 : val_main_v86 (F := Ideal) x0 x1 x2 x3 x4 (ix6 b n r g h d) = val_main_v85 (F := Ideal) x0 x1 x2 x3 x4 (ix6 b n g d h r) := by
    rw [val_main_v86_apply]
    refine congrArg _ ?_; funext a; fin_cases a <;> rfl
  have e2 : val_main_v89 (F := Ideal) x0 x1 x2 x4 x5 (ix6 b n r g h d) = val_main_v88 (F := Ideal) x0 x1 x2 x4 x5 (ix6 b g d n h r) := by
    rw [val_main_v89_apply]
    refine congrArg _ ?_; funext a; fin_cases a <;> rfl
  rw [e, val_main_v90_apply, e1, e2, v85_at, v88_at]
  simp only [v84_at, v87_at, v11_at]
  rfl

end Row

end Cert.ReferenceIdeal.Read
-- ==== Proof.Attention.lean ====
module

public import proofs.«01_k».proof.Pre_scores_finite
public import proofs.«01_k».proof.Proof.KernelValue
public import proofs.«01_k».proof.Proof.RefValue

/-! The kernel's result is the reference's: the same rows of scores, the kernel's in base-2 units. -/

@[expose] public section

set_option maxRecDepth 16384

noncomputable section

namespace Cert.Attention

open Idealize.ShloMosaic
open Cert.ReferenceIdeal Cert.ReferenceIdeal.Read
open Cert.KernelIdeal.Gen (kernelOut kernelRow kernelOut_at seen seen_val InBand column_split row_split)

theorem eight_eq : Ideal.ofBits .f32 0x41000000#32 = ((8 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem eighth_eq : Ideal.ofBits .f32 0x3E000000#32 = ((1 / 8 : ℝ) : EReal) := by
  simp [Ideal.ofBits, Ideal.ieee]
  rw [← EReal.coe_mul]
  norm_num

theorem lam_eq : lam = ((8 * Real.log 2 : ℝ) : EReal) := by
  unfold lam
  rw [eight_eq, two_eq, EReal.coe_mul]
  refine congrArg _ ?_
  rw [Ideal.log_coe, if_neg (by norm_num)]

theorem coe_sum {n : ℕ} (f : Fin n → ℝ) : ((∑ c, f c : ℝ) : EReal) = ∑ c, (f c : EReal) := by
  induction (Finset.univ : Finset (Fin n)) using Finset.induction_on with
  | empty => simp
  | insert a s ha ih => rw [Finset.sum_insert ha, Finset.sum_insert ha, ← ih, EReal.coe_add]

/-- A value is a real number. -/
def IsReal (x : EReal) : Prop := ∃ a : ℝ, x = (a : EReal)

theorem dot_real {n : ℕ} (q k : Fin n → EReal) (hq : ∀ x, IsReal (q x)) (hk : ∀ x, IsReal (k x)) :
    ∃ a : ℝ, ∑ x, q x * k x = (a : EReal) := by
  choose qr eq using hq
  choose kr ek using hk
  refine ⟨∑ x, qr x * kr x, ?_⟩
  rw [coe_sum]
  exact Finset.sum_congr rfl fun x _ => by rw [eq, ek, EReal.coe_mul]

/-- The reference's score is the kernel's times ln 2. -/
theorem dot_scaled {n : ℕ} (q k : Fin n → EReal) (hq : ∀ x, IsReal (q x)) (hk : ∀ x, IsReal (k x)) :
    scaled (∑ x, q x * k x) = (∑ x, k x * (q x * lam)) * Ideal.ofBits .f32 0x3E000000#32 := by
  choose qr eq using hq
  choose kr ek using hk
  have e1 : ∑ x, q x * k x = ((∑ x, qr x * kr x : ℝ) : EReal) := by
    rw [coe_sum]
    exact Finset.sum_congr rfl fun x _ => by rw [eq, ek, EReal.coe_mul]
  have e2 : ∑ x, k x * (q x * lam) = ((∑ x, kr x * (qr x * (8 * Real.log 2)) : ℝ) : EReal) := by
    rw [coe_sum]
    exact Finset.sum_congr rfl fun x _ => by rw [eq, ek, lam_eq, EReal.coe_mul (kr x), EReal.coe_mul (qr x)]
  rw [e1, e2, eighth_eq, scaled_coe, ← EReal.coe_mul]
  refine congrArg _ ?_
  rw [Finset.mul_sum, Finset.sum_mul]
  refine Finset.sum_congr rfl fun x _ => ?_
  ring

/-- Finite sinks, queries and keys: the two results at row `n*128 + r` of batch `b`, head `g*4 + h`, lane `d`. -/
theorem entry_eq (s : FVec Ideal S8 .f32) (q : FVec Ideal S4x4096x512 .bf16) (k v : FVec Ideal S4x4096x128 .bf16)
    (kc vc : FVec Ideal S4x256x128 .bf16) (hs : ∀ i, IsReal (s i)) (hq : ∀ i, IsReal (q i)) (hk : ∀ i, IsReal (k i)) (hkc : ∀ i, IsReal (kc i))
    (b : Fin 4) (n : Fin 32) (r : Fin 128) (g : Fin 2) (h : Fin 4) (d : Fin 64) :
    kernelOut s q k v kc vc (ix3 b ⟨n.val * 128 + r.val, by omega⟩ ⟨g.val * 256 + h.val * 64 + d.val, by omega⟩)
      = val_main_v92 (F := Ideal) s q k v kc vc (ix3 b ⟨n.val * 128 + r.val, by omega⟩ ⟨g.val * 256 + h.val * 64 + d.val, by omega⟩) := by
  rw [result_at, kernelOut_at]
  obtain ⟨σ, eσ⟩ := hs (ix1 ⟨g.val * 4 + h.val, by omega⟩)
  unfold kernelRow
  have el : s (ix1 ⟨g.val * 4 + h.val, by omega⟩) * (((Real.log 2)⁻¹ : ℝ) : EReal) = ((σ * (Real.log 2)⁻¹ : ℝ) : EReal) := by
    rw [eσ, EReal.coe_mul]
  rw [el, rows_eq _ _ _ _ (fun c => val_main_v25 (F := Ideal) v (ix5 b n c g d))]
  · refine congr (congr (congr (congr (congrArg refRow (funext fun c => ?_)) (funext fun c => ?_)) ?_) rfl) rfl
    · unfold winScore
      by_cases hv : InBand n r c
      · rw [if_pos hv, dif_pos hv, dot_scaled _ _ (fun _ => hq _) (fun _ => hk _)]
        have es : seen n c = ⟨n.val * 128 + c.val - 128, by have := hv.2.2; omega⟩ := Fin.ext (seen_val n r c hv)
        rw [es]
      · rw [if_neg hv, dif_neg hv, scaled_bot]
    · exact dot_scaled _ _ (fun _ => hq _) (fun _ => hkc _)
    · rw [scaled_coe, eσ]
      refine congrArg _ ?_
      field_simp [log_two_pos.ne']
  · intro c
    by_cases hv : InBand n r c
    · rw [if_pos hv]
      exact Or.inr (dot_real _ _ (fun _ => hq _) (fun _ => hk _))
    · rw [if_neg hv]
      exact Or.inl rfl
  · intro c
    exact Or.inr (dot_real _ _ (fun _ => hq _) (fun _ => hkc _))
  · intro c hc
    by_cases hv : InBand n r c
    · rw [v25_at, dif_pos hv.2]
      have es : seen n c = ⟨n.val * 128 + c.val - 128, by have := hv.2.2; omega⟩ := Fin.ext (seen_val n r c hv)
      rw [es]
    · exact absurd (if_neg hv) hc

/-- Finite sinks, queries and keys: the kernel's result array is the reference's. -/
theorem kernel_eq_reference (s : FVec Ideal S8 .f32) (q : FVec Ideal S4x4096x512 .bf16) (k v : FVec Ideal S4x4096x128 .bf16)
    (kc vc : FVec Ideal S4x256x128 .bf16) (hs : ∀ i, IsReal (s i)) (hq : ∀ i, IsReal (q i)) (hk : ∀ i, IsReal (k i)) (hkc : ∀ i, IsReal (kc i)) :
    kernelOut s q k v kc vc = val_main_v92 (F := Ideal) s q k v kc vc := by
  funext i
  obtain ⟨n, r, er⟩ := row_split (i 1)
  obtain ⟨g, h, d, ec⟩ := column_split (i 2)
  have ei : i = ix3 (i 0) ⟨n.val * 128 + r.val, by omega⟩ ⟨g.val * 256 + h.val * 64 + d.val, by omega⟩ := by
    rw [← er, ← ec]
    exact eq_ix3 i
  exact (congrArg _ ei).trans ((entry_eq s q k v kc vc hs hq hk hkc (i 0) n r g h d).trans (congrArg _ ei.symm))

end Cert.Attention

/-! ## The precondition -/

namespace Cert.Pre_scores_finite

open Idealize.ShloMosaic

instance facts : Facts where
  bcast_S_S8 := by decide
  bitsLt_bf16_f32 := by decide
  bcast_S_S4x4096x512 := by decide
  bcast_S_S4x4096x128 := by decide
  bcast_S_S4x256x128 := by decide

/-- A value whose size is below infinity is a real number. -/
theorem real_of_below (x : EReal) (h : FloatOps.cmpf (F := Ideal) (φ := .f32) .olt (FloatOps.hostAbsf (F := Ideal) (φ := .f32) x) (Ideal.ofBits .f32 0x7F800000#32) = 1#1) :
    Cert.Attention.IsReal x := by
  change BitVec.ofBool (decide (max x (-x) < Ideal.ofBits .f32 0x7F800000#32)) = 1#1 at h
  have htop : Ideal.ofBits .f32 0x7F800000#32 = ⊤ := by simp [Ideal.ofBits, Ideal.ieee]
  rw [htop] at h
  induction x using EReal.rec with
  | bot => simp at h
  | top => simp at h
  | coe a => exact ⟨a, rfl⟩

theorem reals {x0 x1 x2 x3 x4 x5} (h0 : (fn (F := Ideal) x0 x1 x2 x3 x4 x5).1 = fun _ => 1#1)
    (h1 : (fn (F := Ideal) x0 x1 x2 x3 x4 x5).2.1 = fun _ => 1#1)
    (h2 : (fn (F := Ideal) x0 x1 x2 x3 x4 x5).2.2.1 = fun _ => 1#1)
    (h4 : (fn (F := Ideal) x0 x1 x2 x3 x4 x5).2.2.2 = fun _ => 1#1) :
    (∀ i, Cert.Attention.IsReal (x0 i)) ∧ (∀ i, Cert.Attention.IsReal (x1 i))
      ∧ (∀ i, Cert.Attention.IsReal (x2 i)) ∧ (∀ i, Cert.Attention.IsReal (x4 i)) :=
  ⟨fun i => real_of_below _ (congrFun h0 i), fun i => real_of_below _ (congrFun h1 i),
    fun i => real_of_below _ (congrFun h2 i), fun i => real_of_below _ (congrFun h4 i)⟩

end Cert.Pre_scores_finite
-- ==== Proof.AttentionClaims.lean ====
module

public import proofs.«01_k».proof.Defs
public import proofs.«01_k».proof.Proof.Attention
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Adequacy
public import Idealize.ShloMosaic.Init

/-! The attention's claims, from its value theorem and the printed runs. -/

@[expose] public section

noncomputable section

namespace Cert.AttentionClaims

open Idealize.ShloMosaic Idealize.SL.Sem

theorem reference_quiet : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- The kernel's array and the reference's, of arguments that agree and whose sinks, queries and keys are finite. -/
theorem algebraic : Cert.algebraic_KernelIdeal_ReferenceIdeal_pre_scores_finite := by
  intro m ρ m' ρ' hpre hagree
  refine ⟨fun c => Cert.ReferenceIdeal.Value.res_main_v92 m' c, ?_, ?_⟩
  · refine (θ_run Cert.KernelIdeal.defs _ _).mono (fun _ h c => ⟨((h c).1.trans (Cert.KernelIdeal.Gen.final_out m c)).trans ?_, (h c).2⟩)
      (Cert.KernelIdeal.Value.run_blocks (F := Ideal) m ρ)
    obtain ⟨h0, h1, h2, h4⟩ := hpre c
    obtain ⟨r0, r1, r2, r4⟩ := Cert.Pre_scores_finite.reals h0 h1 h2 h4
    obtain ⟨a0, a1, a2, a3, a4, a5⟩ := hagree c
    refine (Cert.Attention.kernel_eq_reference _ _ _ _ _ _ r0 r1 r2 r4).trans ?_
    refine Eq.trans ?_ (Cert.ReferenceIdeal.Read.val_main_v92_eq (F := Ideal) m' c).symm
    rw [a0, a1, a2, a3, a4, a5]
  · exact Cert.ReferenceIdeal.Value.run (F := Ideal) m' ρ'

end Cert.AttentionClaims
-- ==== Proof.ExpertsSame.lean ====
/- The experts print the same at both carriers: nothing was renamed, so the two programs are one, body by body. -/
module

public import proofs.«01_k».proof.Experts
public import proofs.«01_k».proof.ExpertsIdeal
public import proofs.«01_k».proof.Proof.Gen.Experts
public import proofs.«01_k».proof.Proof.Gen.ExpertsIdeal
public import Idealize.ShloMosaic.Adequacy
public import Idealize.ShloMosaic.Init

@[expose] public section

noncomputable section

namespace Cert.ExpertsSame

open Idealize.ShloMosaic

variable {F : FTy → Type} [FloatOps F]

/-- The two bodies. -/
theorem bodies : Cert.Experts.cc0_moe_experts (F := F) = Cert.ExpertsIdeal.cc0_moe_experts (F := F) := rfl

set_option maxHeartbeats 2000000 in
/-- The two tables of procedures before the pipeline is laid in. -/
theorem bare : Cert.Experts.defs₀ (F := F) = Cert.ExpertsIdeal.defs₀ (F := F) := by
  unfold Cert.Experts.defs₀ Cert.ExpertsIdeal.defs₀
  refine congrArg Defs.onTc (funext fun l => funext fun x => ?_)
  match l, x with
  | 0, (t, s) => simp only [bodies]; rfl
  | ⟨n + 1, h⟩, _ => exact absurd h (Nat.not_lt.2 (Nat.le_add_left _ _))

/-- The two programs' procedures. -/
theorem all : Cert.Experts.defs (F := F) = Cert.ExpertsIdeal.defs (F := F) := by
  unfold Cert.Experts.defs Cert.ExpertsIdeal.defs
  exact congrArg (Pipeline.defs Cert.ExpertsIdeal.pcfgs) bare

end Cert.ExpertsSame

end
-- ==== Proof.ExpertsRun.lean ====
/- The experts' kernel body run at one grid point, in its two cases: a tile of rows in use, and a tile of padding. -/
module

public import proofs.«01_k».proof.Proof.Gen.ExpertsIdeal.Skeleton
public import Idealize.ShloMosaic.Lib.Pipeline.FrameBody
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.ValueKit
public import Idealize.ShloMosaic.Lib.Writes
public import Idealize.ShloMosaic.Lib.Ring
public import Idealize.ShloMosaic.Lib.Exec
public import Idealize.ShloMosaic.Lib.Tactic
public import Idealize.ShloMosaic.Lib.VecWindow

@[expose] public section

set_option maxRecDepth 16384

noncomputable section

namespace Cert.ExpertsRun

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three tables the call prefetches: the two experts of each tile, and the number of tiles in use. -/
abbrev firstTab : Memref sig .tc .smem S92 .i32 := Memref.whole main_arg0
abbrev secondTab : Memref sig .tc .smem S92 .i32 := Memref.whole main_arg1
abbrev countTab : Memref sig .tc .smem S1 .i32 := Memref.whole main_arg2

/-- The word the body reads of the third table: how many tiles are in use. -/
abbrev countWord (T2 : S1.Idx → Elt F .i32) : Elt F .i32 :=
  View.readAt (Elt F) countTab.view (Rect.unit (s := S1) ![0] S1.size Facts₀.inb_S1_S1_0).toLoadRect T2 (Shape.Idx.first (Facts₀.numel1_S1.symm ▸ Nat.one_pos))

/-- One staging buffer of the output's window, through which the run's result is read back. -/
abbrev outView : View sig .tc .vmem S256x1024 .f32 := (Memref.whole cc0_stg7_0 : Memref sig .tc .vmem S256x1024 .f32).view

section

variable (c : Dev nD) (i : grid0.Coords)
  (b4 : Memref sig .tc .vmem S256x1152 .f32) (h4 : b4.IsWhole)
  (b5 : Memref sig .tc .vmem S1x1024x512 .f32) (h5 : b5.IsWhole)
  (b6 : Memref sig .tc .vmem S1x1024x512 .f32) (h6 : b6.IsWhole)
  (b7 : Memref sig .tc .vmem S1x512x1024 .f32) (h7 : b7.IsWhole)
  (b8 : Memref sig .tc .vmem S1x1024x512 .f32) (h8 : b8.IsWhole)
  (b9 : Memref sig .tc .vmem S1x1024x512 .f32) (h9 : b9.IsWhole)
  (b10 : Memref sig .tc .vmem S1x512x1024 .f32) (h10 : b10.IsWhole)
  (b11 : Memref sig .tc .vmem S256x1024 .f32) (h11 : b11.IsWhole)
  (T0 T1 : S92.Idx → Elt F .i32) (T2 : S1.Idx → Elt F .i32)
  (x0 : S256x1152.Idx → Elt F .f32) (x1 x2 : S1x1024x512.Idx → Elt F .f32) (x3 : S1x512x1024.Idx → Elt F .f32)
  (x4 x5 : S1x1024x512.Idx → Elt F .f32) (x6 : S1x512x1024.Idx → Elt F .f32)

/-- What the body holds of its inputs and tables, before and after: the seven blocks at their contents, the tables. -/
def held : sProp 𝕄 :=
  iprop((b4.view.loc (c : Thread nD τ) ↦[b4.view.set]{fullShare} b4.view.rep x0)
    ∗ (b5.view.loc (c : Thread nD τ) ↦[b5.view.set]{fullShare} b5.view.rep x1)
    ∗ (b6.view.loc (c : Thread nD τ) ↦[b6.view.set]{fullShare} b6.view.rep x2)
    ∗ (b7.view.loc (c : Thread nD τ) ↦[b7.view.set]{fullShare} b7.view.rep x3)
    ∗ (b8.view.loc (c : Thread nD τ) ↦[b8.view.set]{fullShare} b8.view.rep x4)
    ∗ (b9.view.loc (c : Thread nD τ) ↦[b9.view.set]{fullShare} b9.view.rep x5)
    ∗ (b10.view.loc (c : Thread nD τ) ↦[b10.view.set]{fullShare} b10.view.rep x6)
    ∗ (firstTab.view.loc (c : Thread nD τ) ↦{fullShare.right} T0)
    ∗ (secondTab.view.loc (c : Thread nD τ) ↦{fullShare.right} T1)
    ∗ (countTab.view.loc (c : Thread nD τ) ↦{fullShare.right} T2))

/-- The body at a grid point on its staging buffers. -/
abbrev body : Prog (TpuEff nD τ sig (Elt F) Λ₀ .tc) PUnit :=
  cc0_moe_experts i firstTab (Memref.isWhole_whole _) secondTab (Memref.isWhole_whole _) countTab (Memref.isWhole_whole _) b4 h4 b5 h5 b6 h6 b7 h7 b8 h8 b9 h9 b10 h10 b11 h11

set_option backward.proofsInPublic true in
set_option maxHeartbeats 8000000 in
/-- A tile in use: the body runs, leaving in the output's buffer the pieces this finds. -/
def liveRun (d1 : ¬(k0_cond1 i (countWord T2) = 1#1)) (d2 : k0_cond2 i (countWord T2) = 1#1) :
    { out : List (View.Piece (Elt F) S256x1024 .f32) //
      ∀ (K : PUnit → sProp 𝕄),
        iprop(held c b4 b5 b6 b7 b8 b9 b10 T0 T1 T2 x0 x1 x2 x3 x4 x5 x6 ∗ (∃ d, owns (c : Thread nD τ) b11 fullShare d)
          ∗ (iprop(held c b4 b5 b6 b7 b8 b9 b10 T0 T1 T2 x0 x1 x2 x3 x4 x5 x6
              ∗ (∃ f, b11.view.loc (c : Thread nD τ) ↦[b11.view.set]{fullShare} b11.view.writes (Elt F) f out)) -∗ K ⟨⟩))
          ⊢ wp frame (wpE (defs₀ (F := F)) Variants.none c none) Set.univ (body i b4 h4 b5 h5 b6 h6 b7 h7 b8 h8 b9 h9 b10 h10 b11 h11) K } :=
  ⟨_, fun K => by
    unfold owns held body
    rw [cc0_moe_experts_eq_skeleton]; unfold cc0_moe_experts_skel
    iintro ⟨⟨H0, H1, H2, H3, H4, H5, H6, HT0, HT1, HT2⟩, ⟨%d7, %f7, -, HO7⟩, Hk⟩
    have hT0 : firstTab.IsWhole := Memref.isWhole_whole _
    have hT1 : secondTab.IsWhole := Memref.isWhole_whole _
    have hT2 : countTab.IsWhole := Memref.isWhole_whole _
    sl_exec! (disch := first | (guard_target = ¬(k0_cond1 _ _ = _); exact d1) | (guard_target = k0_cond2 _ _ = _; exact d2))
    sl_step
    iapply Hk
    isplitl [H0 H1 H2 H3 H4 H5 H6 HT0 HT1 HT2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      iexact HT2
    iexists _; iexact HO7⟩

set_option backward.proofsInPublic true in
set_option maxHeartbeats 8000000 in
/-- A tile of padding: the body runs, leaving in the output's buffer the pieces this finds. -/
def padRun (d1 : k0_cond1 i (countWord T2) = 1#1) (d2 : ¬(k0_cond2 i (countWord T2) = 1#1)) :
    { out : List (View.Piece (Elt F) S256x1024 .f32) //
      ∀ (K : PUnit → sProp 𝕄),
        iprop(held c b4 b5 b6 b7 b8 b9 b10 T0 T1 T2 x0 x1 x2 x3 x4 x5 x6 ∗ (∃ d, owns (c : Thread nD τ) b11 fullShare d)
          ∗ (iprop(held c b4 b5 b6 b7 b8 b9 b10 T0 T1 T2 x0 x1 x2 x3 x4 x5 x6
              ∗ (∃ f, b11.view.loc (c : Thread nD τ) ↦[b11.view.set]{fullShare} b11.view.writes (Elt F) f out)) -∗ K ⟨⟩))
          ⊢ wp frame (wpE (defs₀ (F := F)) Variants.none c none) Set.univ (body i b4 h4 b5 h5 b6 h6 b7 h7 b8 h8 b9 h9 b10 h10 b11 h11) K } :=
  ⟨_, fun K => by
    unfold owns held body
    rw [cc0_moe_experts_eq_skeleton]; unfold cc0_moe_experts_skel
    iintro ⟨⟨H0, H1, H2, H3, H4, H5, H6, HT0, HT1, HT2⟩, ⟨%d7, %f7, -, HO7⟩, Hk⟩
    have hT0 : firstTab.IsWhole := Memref.isWhole_whole _
    have hT1 : secondTab.IsWhole := Memref.isWhole_whole _
    have hT2 : countTab.IsWhole := Memref.isWhole_whole _
    sl_exec! (disch := first | (guard_target = k0_cond1 _ _ = _; exact d1) | (guard_target = ¬(k0_cond2 _ _ = _); exact d2))
    sl_step
    iapply Hk
    isplitl [H0 H1 H2 H3 H4 H5 H6 HT0 HT1 HT2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      iexact HT2
    iexists _; iexact HO7⟩

/-- What a tile in use leaves: the two experts' outputs, each scaled by the row's own weight, summed. -/
def liveOut : S256x1024.Idx → Elt F .f32 :=
  k0_pay2 (k0_pay4 x0 x1 x2 x3) (k0_pay5 x0) (k0_pay6 x0 x4) (k0_pay7 x0 x5) (Scalar.ofBits .f32 0x00000000#32) x6

/-- What the body leaves in the output's buffer. -/
def result : S256x1024.Idx → Elt F .f32 :=
  if k0_cond2 i (countWord T2) = 1#1 then liveOut x0 x1 x2 x3 x4 x5 x6 else k0_pay1 (F := F)

omit [FloatOps F] in
/-- The two tests of the body are each other's negation. -/
theorem first_test (w : BitVec 32) : k0_cond1 i w = 1#1 ↔ ¬(k0_cond2 i w = 1#1) := by
  unfold k0_cond1 k0_cond2
  exact (by decide : ∀ v : BitVec 1, Scalar.cmpi CmpIPredicate.ne (Scalar.extui (Scalar.xori v 1#1)) 0#32 = 1#1 ↔
    ¬Scalar.cmpi CmpIPredicate.ne (Scalar.extui v) 0#32 = 1#1) _

/-! A load of a whole block reads the block. -/

theorem load_rows (b : Memref sig .tc .vmem S256x1152 .f32) (x : S256x1152.Idx → Elt F .f32) (inb) :
    View.readAt (Elt F) b.view (Rect.unit (s := S256x1152) ![0, 0] ![256, 1152] inb).toLoadRect (b.view.rep x) = x := View.readAt_rep_full b.view x inb

theorem load_in (b : Memref sig .tc .vmem S1x1024x512 .f32) (x : S1x1024x512.Idx → Elt F .f32) (inb) :
    View.readAt (Elt F) b.view (Rect.unit (s := S1x1024x512) ![0, 0, 0] ![1, 1024, 512] inb).toLoadRect (b.view.rep x) = x := View.readAt_rep_full b.view x inb

theorem load_out (b : Memref sig .tc .vmem S1x512x1024 .f32) (x : S1x512x1024.Idx → Elt F .f32) (inb) :
    View.readAt (Elt F) b.view (Rect.unit (s := S1x512x1024) ![0, 0, 0] ![1, 512, 1024] inb).toLoadRect (b.view.rep x) = x := View.readAt_rep_full b.view x inb

theorem live_leaves (d1 : ¬(k0_cond1 i (countWord T2) = 1#1)) (d2 : k0_cond2 i (countWord T2) = 1#1) (f : b11.view.ty.Contents (Elt F)) :
    b11.view.read (Elt F) (b11.view.writes (Elt F) f
      (liveRun c i b4 h4 b5 h5 b6 h6 b7 h7 b8 h8 b9 h9 b10 h10 b11 h11 T0 T1 T2 x0 x1 x2 x3 x4 x5 x6 d1 d2).1)
      = liveOut x0 x1 x2 x3 x4 x5 x6 := by
  rw [View.read_writes_eq_canon _ _ _ fun y => View.cover_of_tiledL _ S256x1024.size (by sl_kernel_rfl) y]
  unfold liveRun liveRun.sl.HO7_1
  rw [View.canon_cons_unit_lit _ _ _ (by decide)]
  unfold liveRun.sl.r_1 liveRun.sl.r_2 liveRun.sl.r_3 liveRun.sl.r_4 liveRun.sl.cst_24 liveOut
  simp only [load_rows, load_in, load_out]

theorem pad_leaves (d1 : k0_cond1 i (countWord T2) = 1#1) (d2 : ¬(k0_cond2 i (countWord T2) = 1#1)) (f : b11.view.ty.Contents (Elt F)) :
    b11.view.read (Elt F) (b11.view.writes (Elt F) f
      (padRun c i b4 h4 b5 h5 b6 h6 b7 h7 b8 h8 b9 h9 b10 h10 b11 h11 T0 T1 T2 x0 x1 x2 x3 x4 x5 x6 d1 d2).1)
      = k0_pay1 (F := F) := by
  rw [View.read_writes_eq_canon _ _ _ fun y => View.cover_of_tiledL _ S256x1024.size (by sl_kernel_rfl) y]
  unfold padRun padRun.sl.HO7_1
  rw [View.canon_cons_unit_lit _ _ _ (by decide)]

/-- The body at a grid point, either case: it ends with the output's buffer at `result`. -/
theorem body_runs (K : PUnit → sProp 𝕄) :
    iprop(held c b4 b5 b6 b7 b8 b9 b10 T0 T1 T2 x0 x1 x2 x3 x4 x5 x6 ∗ (∃ d, owns (c : Thread nD τ) b11 fullShare d)
      ∗ (iprop(held c b4 b5 b6 b7 b8 b9 b10 T0 T1 T2 x0 x1 x2 x3 x4 x5 x6
          ∗ owns (c : Thread nD τ) b11 fullShare (result i T2 x0 x1 x2 x3 x4 x5 x6)) -∗ K ⟨⟩))
      ⊢ wp frame (wpE (defs₀ (F := F)) Variants.none c none) Set.univ (body i b4 h4 b5 h5 b6 h6 b7 h7 b8 h8 b9 h9 b10 h10 b11 h11) K := by
  by_cases d2 : k0_cond2 i (countWord T2) = 1#1
  · have d1 : ¬(k0_cond1 i (countWord T2) = 1#1) := fun h => (first_test i _).mp h d2
    rw [result, if_pos d2]
    iintro ⟨H, Ho, Hk⟩
    iapply ((liveRun c i b4 h4 b5 h5 b6 h6 b7 h7 b8 h8 b9 h9 b10 h10 b11 h11 T0 T1 T2 x0 x1 x2 x3 x4 x5 x6 d1 d2).2 K)
    isplitl [H]; · iexact H
    isplitl [Ho]; · iexact Ho
    iintro ⟨H, ⟨%e, He⟩⟩
    iapply Hk
    isplitl [H]; · iexact H
    unfold owns; iexists _; isplitr; swap
    · iexact He
    · ipureintro; exact live_leaves c i b4 h4 b5 h5 b6 h6 b7 h7 b8 h8 b9 h9 b10 h10 b11 h11 T0 T1 T2 x0 x1 x2 x3 x4 x5 x6 d1 d2 _
  · have d1 : k0_cond1 i (countWord T2) = 1#1 := (first_test i _).mpr d2
    rw [result, if_neg d2]
    iintro ⟨H, Ho, Hk⟩
    iapply ((padRun c i b4 h4 b5 h5 b6 h6 b7 h7 b8 h8 b9 h9 b10 h10 b11 h11 T0 T1 T2 x0 x1 x2 x3 x4 x5 x6 d1 d2).2 K)
    isplitl [H]; · iexact H
    isplitl [Ho]; · iexact Ho
    iintro ⟨H, ⟨%e, He⟩⟩
    iapply Hk
    isplitl [H]; · iexact H
    unfold owns; iexists _; isplitr; swap
    · iexact He
    · ipureintro; exact pad_leaves c i b4 h4 b5 h5 b6 h6 b7 h7 b8 h8 b9 h9 b10 h10 b11 h11 T0 T1 T2 x0 x1 x2 x3 x4 x5 x6 d1 d2 _

end

end Cert.ExpertsRun

end
-- ==== Proof.ExpertsPipe.lean ====
/- The experts' launch: the pipeline at the tables the memory holds, its proof data, and the run of the whole program. -/
module

public import proofs.«01_k».proof.Proof.Gen.ExpertsIdeal.Launch
public import proofs.«01_k».proof.Proof.ExpertsRun
public import Idealize.ShloMosaic.Adequacy
public import Idealize.ShloMosaic.Init

@[expose] public section

set_option maxRecDepth 16384

noncomputable section

namespace Cert.ExpertsPipe

open Cert.ExpertsIdeal Cert.ExpertsIdeal.Gen Cert.ExpertsRun
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

variable (a : (pcfg0 (F := F)).Adm)
variable (m : (ℓ : Loc nD τ sig) → Buf (Elt F) ℓ) (ρ : Dev nD → PrngReg)

/-- The pipeline at the tables `a`, and the list of pipelines it is the one member of. -/
abbrev cfgA : Pipeline.Cfg sig Λ₀ := cfg0 (F := F) a
abbrev pcs : Fin 1 → Pipeline.Cfg sig Λ₀ := Pipeline.pin (pcfgs (F := F)) fun _ => a

/-- The launch memory holds the tables `a`. -/
def Pinned : Prop := ∀ (c : Dev nD) (j : Fin 3), m ((c : Thread nD τ).loc (pre0.ref j)) = a.1 j

/-- The three tables, each at its own shape. -/
abbrev tab0 : S92.Idx → Elt F .i32 := a.1 0
abbrev tab1 : S92.Idx → Elt F .i32 := a.1 1
abbrev tab2 : S1.Idx → Elt F .i32 := a.1 2

abbrev crd (t : Fin (cfgA a).N) : (cfgA a).grid.Coords := (cfgA a).grid.coords t

/-- Each window's current staging buffer at a point. -/
abbrev ms0 (t : Fin (cfgA a).N) : Memref sig .tc .vmem S256x1152 .f32 := spec0_0.stage ((cfgA a).slots t (0 : Fin 8))
abbrev hs0 (t : Fin (cfgA a).N) : (ms0 a t).IsWhole := hstage0_0 (((cfgA a).slots t (0 : Fin 8)).cast nbuf0_0)
abbrev ms1 (t : Fin (cfgA a).N) : Memref sig .tc .vmem S1x1024x512 .f32 := spec0_1.stage ((cfgA a).slots t (1 : Fin 8))
abbrev hs1 (t : Fin (cfgA a).N) : (ms1 a t).IsWhole := hstage0_1 (((cfgA a).slots t (1 : Fin 8)).cast nbuf0_1)
abbrev ms2 (t : Fin (cfgA a).N) : Memref sig .tc .vmem S1x1024x512 .f32 := spec0_2.stage ((cfgA a).slots t (2 : Fin 8))
abbrev hs2 (t : Fin (cfgA a).N) : (ms2 a t).IsWhole := hstage0_2 (((cfgA a).slots t (2 : Fin 8)).cast nbuf0_2)
abbrev ms3 (t : Fin (cfgA a).N) : Memref sig .tc .vmem S1x512x1024 .f32 := spec0_3.stage ((cfgA a).slots t (3 : Fin 8))
abbrev hs3 (t : Fin (cfgA a).N) : (ms3 a t).IsWhole := hstage0_3 (((cfgA a).slots t (3 : Fin 8)).cast nbuf0_3)
abbrev ms4 (t : Fin (cfgA a).N) : Memref sig .tc .vmem S1x1024x512 .f32 := spec0_4.stage ((cfgA a).slots t (4 : Fin 8))
abbrev hs4 (t : Fin (cfgA a).N) : (ms4 a t).IsWhole := hstage0_4 (((cfgA a).slots t (4 : Fin 8)).cast nbuf0_4)
abbrev ms5 (t : Fin (cfgA a).N) : Memref sig .tc .vmem S1x1024x512 .f32 := spec0_5.stage ((cfgA a).slots t (5 : Fin 8))
abbrev hs5 (t : Fin (cfgA a).N) : (ms5 a t).IsWhole := hstage0_5 (((cfgA a).slots t (5 : Fin 8)).cast nbuf0_5)
abbrev ms6 (t : Fin (cfgA a).N) : Memref sig .tc .vmem S1x512x1024 .f32 := spec0_6.stage ((cfgA a).slots t (6 : Fin 8))
abbrev hs6 (t : Fin (cfgA a).N) : (ms6 a t).IsWhole := hstage0_6 (((cfgA a).slots t (6 : Fin 8)).cast nbuf0_6)
abbrev ms7 (t : Fin (cfgA a).N) : Memref sig .tc .vmem S256x1024 .f32 := spec0_7.stage ((cfgA a).slots t (7 : Fin 8))
abbrev hs7 (t : Fin (cfgA a).N) : (ms7 a t).IsWhole := hstage0_7 (((cfgA a).slots t (7 : Fin 8)).cast nbuf0_7)

/-- Window `w`'s block at a point, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- What the body leaves in the output's buffer at a point, from the blocks there. -/
def left (c : Dev nD) (t : Fin (cfgA a).N) : S256x1024.Idx → Elt F .f32 :=
  result (crd a t) (tab2 a) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t)

/-- What the body keeps of the tables at every point. -/
def Phi (c : Dev nD) : sProp 𝕄 :=
  iprop((firstTab.view.loc (c : Thread nD τ) ↦{fullShare.right} tab0 a) ∗ (secondTab.view.loc (c : Thread nD τ) ↦{fullShare.right} tab1 a)
    ∗ (countTab.view.loc (c : Thread nD τ) ↦{fullShare.right} tab2 a))

/-- The proof data of the one pipeline on core `c`; an array several windows are on is shared between them. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 8) t
    | ⟨1, _⟩ => iblk a m ρ c (1 : Fin 8) t
    | ⟨2, _⟩ => iblk a m ρ c (2 : Fin 8) t
    | ⟨3, _⟩ => iblk a m ρ c (3 : Fin 8) t
    | ⟨4, _⟩ => iblk a m ρ c (4 : Fin 8) t
    | ⟨5, _⟩ => iblk a m ρ c (5 : Fin 8) t
    | ⟨6, _⟩ => iblk a m ρ c (6 : Fin 8) t
    | ⟨7, _⟩ => left a m ρ c t
  Φ _ := Phi a c
  q w := Pipeline.shareOf spec0 w
  owed _ := 0

theorem after_0 (c : Dev nD) (t : Fin (cfgA a).N) : (dats a m ρ 0 c).after (0 : Fin 8) t = iblk a m ρ c (0 : Fin 8) t := rfl
theorem after_1 (c : Dev nD) (t : Fin (cfgA a).N) : (dats a m ρ 0 c).after (1 : Fin 8) t = iblk a m ρ c (1 : Fin 8) t := rfl
theorem after_2 (c : Dev nD) (t : Fin (cfgA a).N) : (dats a m ρ 0 c).after (2 : Fin 8) t = iblk a m ρ c (2 : Fin 8) t := rfl
theorem after_3 (c : Dev nD) (t : Fin (cfgA a).N) : (dats a m ρ 0 c).after (3 : Fin 8) t = iblk a m ρ c (3 : Fin 8) t := rfl
theorem after_4 (c : Dev nD) (t : Fin (cfgA a).N) : (dats a m ρ 0 c).after (4 : Fin 8) t = iblk a m ρ c (4 : Fin 8) t := rfl
theorem after_5 (c : Dev nD) (t : Fin (cfgA a).N) : (dats a m ρ 0 c).after (5 : Fin 8) t = iblk a m ρ c (5 : Fin 8) t := rfl
theorem after_6 (c : Dev nD) (t : Fin (cfgA a).N) : (dats a m ρ 0 c).after (6 : Fin 8) t = iblk a m ρ c (6 : Fin 8) t := rfl
theorem after_7 (c : Dev nD) (t : Fin (cfgA a).N) : (dats a m ρ 0 c).after (7 : Fin 8) t = left a m ρ c t := rfl

/-! Each input window holds its block when the body runs, fetched there or not. -/

theorem before_0 (c : Dev nD) (t : Fin (cfgA a).N) (d) : (dats a m ρ 0 c).before (0 : Fin 8) t d = iblk a m ρ c (0 : Fin 8) t :=
  ((dats a m ρ 0 c).before_in_eq_fetched (0 : Fin 8) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 8) t d = iblk a m ρ c (1 : Fin 8) t :=
  ((dats a m ρ 0 c).before_in_eq_fetched (1 : Fin 8) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 8) t d = iblk a m ρ c (2 : Fin 8) t :=
  ((dats a m ρ 0 c).before_in_eq_fetched (2 : Fin 8) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m ρ 0 c).before (3 : Fin 8) t d = iblk a m ρ c (3 : Fin 8) t :=
  ((dats a m ρ 0 c).before_in_eq_fetched (3 : Fin 8) rfl (fun _ => rfl) (fun _ _ _ => rfl) (fun t => by rw [after_3]; unfold Dat.blockOf iblk; rfl) t d).trans
    (by unfold Dat.fetched Dat.blockOf iblk; rfl)
theorem before_4 (c : Dev nD) (t : Fin (cfgA a).N) (d) : (dats a m ρ 0 c).before (4 : Fin 8) t d = iblk a m ρ c (4 : Fin 8) t :=
  ((dats a m ρ 0 c).before_in_eq_fetched (4 : Fin 8) rfl (fun _ => rfl) (fun _ _ _ => rfl) (fun t => by rw [after_4]; unfold Dat.blockOf iblk; rfl) t d).trans
    (by unfold Dat.fetched Dat.blockOf iblk; rfl)
theorem before_5 (c : Dev nD) (t : Fin (cfgA a).N) (d) : (dats a m ρ 0 c).before (5 : Fin 8) t d = iblk a m ρ c (5 : Fin 8) t :=
  ((dats a m ρ 0 c).before_in_eq_fetched (5 : Fin 8) rfl (fun _ => rfl) (fun _ _ _ => rfl) (fun t => by rw [after_5]; unfold Dat.blockOf iblk; rfl) t d).trans
    (by unfold Dat.fetched Dat.blockOf iblk; rfl)
theorem before_6 (c : Dev nD) (t : Fin (cfgA a).N) (d) : (dats a m ρ 0 c).before (6 : Fin 8) t d = iblk a m ρ c (6 : Fin 8) t :=
  ((dats a m ρ 0 c).before_in_eq_fetched (6 : Fin 8) rfl (fun _ => rfl) (fun _ _ _ => rfl) (fun t => by rw [after_6]; unfold Dat.blockOf iblk; rfl) t d).trans
    (by unfold Dat.fetched Dat.blockOf iblk; rfl)

/-- The body writes the output at every point: one of its two tests always holds. -/
theorem live (i : (cfgA a).grid.Coords) : (cfgA a).idle (7 : Fin 8) i = false := by
  have key : ∀ w : BitVec 32, (!(k0_cond1 i w == 1#1) && !(k0_cond2 i w == 1#1)) = false := fun w => by
    by_cases h : k0_cond2 i w = 1#1
    · simp [h]
    · simp [(first_test i w).mpr h]
  exact key _

set_option maxHeartbeats 4000000 in
/-- The body's obligation at a point: the inputs hold their blocks, the body runs, the output holds what it leaves. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 8) t d))
        ∗ (∃ d, owns (c : Thread nD τ) (ms1 a t) fullShare ((dats a m ρ 0 c).before (1 : Fin 8) t d))
        ∗ (∃ d, owns (c : Thread nD τ) (ms2 a t) fullShare ((dats a m ρ 0 c).before (2 : Fin 8) t d))
        ∗ (∃ d, owns (c : Thread nD τ) (ms3 a t) fullShare ((dats a m ρ 0 c).before (3 : Fin 8) t d))
        ∗ (∃ d, owns (c : Thread nD τ) (ms4 a t) fullShare ((dats a m ρ 0 c).before (4 : Fin 8) t d))
        ∗ (∃ d, owns (c : Thread nD τ) (ms5 a t) fullShare ((dats a m ρ 0 c).before (5 : Fin 8) t d))
        ∗ (∃ d, owns (c : Thread nD τ) (ms6 a t) fullShare ((dats a m ρ 0 c).before (6 : Fin 8) t d))
        ∗ (∃ d, owns (c : Thread nD τ) (ms7 a t) fullShare ((dats a m ρ 0 c).before (7 : Fin 8) t d)))
      ⊢ wp frame (wpE (defs₀ (F := F)) Variants.none c none) Set.univ (body (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t)) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [live a]
  simp only [before_0, before_1, before_2, before_3, before_4, before_5, before_6, after_0, after_1, after_2, after_3, after_4, after_5, after_6, after_7]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi left
  iintro ⟨⟨HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (tab0 a) (tab1 a) (tab2 a) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t) _)
  unfold held
  isplitl [H0 H1 H2 H3 H4 H5 H6 HT0 HT1 HT2]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    iexact HT2
  isplitl [H7]; · iexists _; iexact H7
  iintro ⟨⟨H0, H1, H2, H3, H4, H5, H6, HT0, HT1, HT2⟩, H7⟩
  isplitl [HT0 HT1 HT2]
  · isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexact H7

theorem body_obligation (c : Dev nD) : BodyObligation (dats a m ρ 0 c) (defs₀ (F := F)) Variants.none () Set.univ := fun t => by
  rw [bigSep_W0]
  exact sound_body a m ρ c t

/-! ## The launch -/

/-- The rounds library's launch element. -/
def u₀ : UR sig nD τ :=
  initOf (Pipeline.cells (pcs a) (cellOf_inj fun _ => a)) (Pipeline.launchToks (pcs a) (cellOf_inj fun _ => a))

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1, HT2⟩, -⟩
  isplitl [HT0]; · iexact HT0
  isplitl [HT1]; · iexact HT1
  iexact HT2

theorem phi_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨-, -, -⟩
  isplitr <;> iempintro

/-- At the end every array holds what the pipeline computes, every table what it held. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From a memory that holds the tables `a`, every run ends in `QC`, with every counter at zero. -/
theorem run_main (hp : Pinned a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () (cellOf_inj fun _ => a) (0 : Fin 1)
    winFacts₀0 preFacts0 EP defs₀ Variants.none m ρ main
    (hbody := fun c => (body_obligation a m ρ c).loose) (hne := block_pos0)
    (harr := arr_whole0) (hstage := stage_whole0) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats a m ρ 0 c).arrays_split_shared sharedIn0 arr_whole0 (fun _ _ => rfl) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Where every array holds what the pipeline computes, the arguments are as at launch: no window writes one. -/
theorem kept (hp : Pinned a m) {r : PUnit × MemSt nD τ sig (Elt F)} (h : QC a m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 0).trans (hp c 0).symm, ((h c).2 1).trans (hp c 1).symm, ((h c).2 2).trans (hp c 2).symm,
    ((h c).1 (0 : Fin 8)).trans ((dats a m ρ 0 c).arrAt_in (0 : Fin 8) rfl _), ((h c).1 (1 : Fin 8)).trans ((dats a m ρ 0 c).arrAt_in (1 : Fin 8) rfl _),
    ((h c).1 (2 : Fin 8)).trans ((dats a m ρ 0 c).arrAt_in (2 : Fin 8) rfl _), ((h c).1 (3 : Fin 8)).trans ((dats a m ρ 0 c).arrAt_in (3 : Fin 8) rfl _)⟩

/-- The frame from a memory that holds the tables `a`: the arguments end unchanged, every counter at zero. -/
theorem frame (hp : Pinned a m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => kept a m ρ hp h.1 c, h.2⟩) (run_main a m ρ hp)

end Cert.ExpertsPipe

end
-- ==== Proof.ExpertsTables.lean ====
/- The experts' tables: what the preconditions say of them, and the blocks the pipeline takes at them. -/
module

public import proofs.«01_k».proof.Pre_tables
public import proofs.«01_k».proof.Pre_gated
public import proofs.«01_k».proof.Proof.ExpertsPipe
public import Idealize.ShloMosaic.Lib.Pointwise

@[expose] public section

noncomputable section

namespace Cert.ExpertsTables

open Cert.ExpertsIdeal Cert.ExpertsIdeal.Gen Cert.ExpertsRun Cert.ExpertsPipe
open Idealize.ShloMosaic
open Idealize.ShloMosaic.TcCoe

/-- Every tile's two experts are among the sixteen, and at least one tile is in use. -/
structure Tables (T0 T1 : S92.Idx → BitVec 32) (T2 : S1.Idx → BitVec 32) : Prop where
  first : ∀ x, (T0 x).toNat < 16
  second : ∀ x, (T1 x).toNat < 16
  count : ∀ x, 1 ≤ (T2 x).toNat ∧ (T2 x).toNat < 2 ^ 31

/-! ## The words' comparisons as comparisons of numbers -/

theorem bool_one (b : Bool) : BitVec.ofBool b = 1#1 ↔ b = true := by cases b <;> decide

theorem expert_word (w : BitVec 32) (h0 : IntOp.cmpi .sge w 0#32 = 1#1) (h1 : IntOp.cmpi .slt w 16#32 = 1#1) : w.toNat < 16 := by
  simp only [IntOp.cmpi, bool_one, BitVec.slt, BitVec.sle, decide_eq_true_eq] at h0 h1
  rw [BitVec.toInt_eq_toNat_cond, BitVec.toInt_eq_toNat_cond] at h0 h1
  have := w.isLt
  simp at h0 h1
  split at h0 <;> omega

theorem count_word (w : BitVec 32) (h : IntOp.cmpi .sge w 1#32 = 1#1) : 1 ≤ w.toNat ∧ w.toNat < 2 ^ 31 := by
  simp only [IntOp.cmpi, bool_one, BitVec.slt, BitVec.sle, decide_eq_true_eq] at h
  rw [BitVec.toInt_eq_toNat_cond, BitVec.toInt_eq_toNat_cond] at h
  have := w.isLt
  simp at h
  split at h <;> omega

/-- The block of rows of tile `s`: the tile itself, or the last tile in use. -/
theorem row_word (s : ℕ) (hs : s < 92) (w : BitVec 32) (hw : 1 ≤ w.toNat ∧ w.toNat < 2 ^ 31) :
    (Scalar.minsi (BitVec.ofNat 32 s) (Scalar.subi w 1#32)).toNat = min s (w.toNat - 1) := by
  have hsub : (w - 1#32).toNat = w.toNat - 1 := by
    rw [BitVec.toNat_sub]; simp; omega
  have hof : (BitVec.ofNat 32 s).toNat = s := by simp; omega
  have key : (BitVec.ofNat 32 s).slt (w - 1#32) = decide (s < w.toNat - 1) := by
    unfold BitVec.slt
    rw [BitVec.toInt_eq_toNat_cond, BitVec.toInt_eq_toNat_cond, hsub, hof]
    rw [if_pos (by omega), if_pos (by omega)]
    simp
  show (IntOp.minsi (BitVec.ofNat 32 s) (w - 1#32)).toNat = _
  unfold IntOp.minsi
  rw [key]
  by_cases h : s < w.toNat - 1
  · simp only [h, decide_true, ↓reduceIte, hof]; omega
  · simp only [h, decide_false, Bool.false_eq_true, ↓reduceIte, hsub]; omega

/-- Whether tile `s` is in use, as the body tests it. -/
theorem live_word (i : grid0.Coords) (w : BitVec 32) (hw : w.toNat < 2 ^ 31) : k0_cond2 i w = 1#1 ↔ (i 0).val < w.toNat := by
  have hs : (i 0).val < 92 := (i 0).isLt
  have hof : (BitVec.ofNat 32 (i 0).val).toNat = (i 0).val := by simp; omega
  have e : k0_cond2 i w = 1#1 ↔ IntOp.cmpi .slt (BitVec.ofNat 32 (i 0).val) w = 1#1 := by
    unfold k0_cond2
    exact (by decide : ∀ v : BitVec 1, Scalar.cmpi CmpIPredicate.ne (Scalar.extui v) 0#32 = 1#1 ↔ v = 1#1) _
  rw [e]
  simp only [IntOp.cmpi, bool_one, BitVec.slt, decide_eq_true_eq]
  rw [BitVec.toInt_eq_toNat_cond, BitVec.toInt_eq_toNat_cond, hof, if_pos (by omega), if_pos (by omega)]
  omega

/-! ## The preconditions, read -/

instance tables_facts : Cert.Pre_tables.Facts where
  bcast_S_S92 := by decide
  bcast_S_S1 := by decide

instance gated_facts : Cert.Pre_gated.Facts where
  slices_S23552x1152_S23552x2_0_1024 := by decide
  bcast_S_S92 := by decide
  bcast_S_S1 := by decide
  bcast_S_S23552x2 := by decide

theorem of_words {T0 T1 : S92.Idx → BitVec 32} {T2 : S1.Idx → BitVec 32}
    (a0 : ∀ x, IntOp.cmpi .sge (T0 x) 0#32 = 1#1) (a1 : ∀ x, IntOp.cmpi .slt (T0 x) 16#32 = 1#1)
    (b0 : ∀ x, IntOp.cmpi .sge (T1 x) 0#32 = 1#1) (b1 : ∀ x, IntOp.cmpi .slt (T1 x) 16#32 = 1#1)
    (n : ∀ x, IntOp.cmpi .sge (T2 x) 1#32 = 1#1) : Tables T0 T1 T2 :=
  ⟨fun x => expert_word _ (a0 x) (a1 x), fun x => expert_word _ (b0 x) (b1 x), fun x => count_word _ (n x)⟩

theorem of_tables {F : FTy → Type} [FloatOps F] {x0 x1 x2 x3 x4 x5 x6}
    (a0 : (Cert.Pre_tables.fn (F := F) x0 x1 x2 x3 x4 x5 x6).1 = fun _ => 1#1)
    (a1 : (Cert.Pre_tables.fn (F := F) x0 x1 x2 x3 x4 x5 x6).2.1 = fun _ => 1#1)
    (b0 : (Cert.Pre_tables.fn (F := F) x0 x1 x2 x3 x4 x5 x6).2.2.1 = fun _ => 1#1)
    (b1 : (Cert.Pre_tables.fn (F := F) x0 x1 x2 x3 x4 x5 x6).2.2.2.1 = fun _ => 1#1)
    (n : (Cert.Pre_tables.fn (F := F) x0 x1 x2 x3 x4 x5 x6).2.2.2.2 = fun _ => 1#1) : Tables x0 x1 x2 :=
  of_words (fun x => congrFun a0 x) (fun x => congrFun a1 x) (fun x => congrFun b0 x) (fun x => congrFun b1 x) (fun x => congrFun n x)

theorem of_gated {F : FTy → Type} [FloatOps F] {x0 x1 x2 x3 x4 x5 x6}
    (a0 : (Cert.Pre_gated.fn (F := F) x0 x1 x2 x3 x4 x5 x6).1 = fun _ => 1#1)
    (a1 : (Cert.Pre_gated.fn (F := F) x0 x1 x2 x3 x4 x5 x6).2.1 = fun _ => 1#1)
    (b0 : (Cert.Pre_gated.fn (F := F) x0 x1 x2 x3 x4 x5 x6).2.2.1 = fun _ => 1#1)
    (b1 : (Cert.Pre_gated.fn (F := F) x0 x1 x2 x3 x4 x5 x6).2.2.2.1 = fun _ => 1#1)
    (n : (Cert.Pre_gated.fn (F := F) x0 x1 x2 x3 x4 x5 x6).2.2.2.2.1 = fun _ => 1#1) : Tables x0 x1 x2 :=
  of_words (fun x => congrFun a0 x) (fun x => congrFun a1 x) (fun x => congrFun b0 x) (fun x => congrFun b1 x) (fun x => congrFun n x)

/-- The two weights of every row are at least zero and below infinity. -/
theorem weights {x0 x1 x2 x3 x4 x5 x6}
    (lo : (Cert.Pre_gated.fn (F := Ideal) x0 x1 x2 x3 x4 x5 x6).2.2.2.2.2.1 = fun _ => 1#1)
    (hi : (Cert.Pre_gated.fn (F := Ideal) x0 x1 x2 x3 x4 x5 x6).2.2.2.2.2.2 = fun _ => 1#1)
    (r : Fin 23552) (k : Fin 2) :
    (0 : EReal) ≤ x3 (ix2 r ⟨1024 + k.val, by omega⟩) ∧ x3 (ix2 r ⟨1024 + k.val, by omega⟩) < (⊤ : EReal) := by
  have e : extractStridedSlice Cert.Pre_gated.S23552x2 ![0, 1024] x3 Cert.Pre_gated.Facts.slices_S23552x1152_S23552x2_0_1024 (ix2 r k)
      = x3 (ix2 r ⟨1024 + k.val, by omega⟩) := congrArg x3 (by funext a; fin_cases a <;> simp [ix2])
  have hl := congrFun lo (ix2 r k)
  have hh := congrFun hi (ix2 r k)
  change BitVec.ofBool (decide (Ideal.ofBits .f32 0x00000000#32 ≤ extractStridedSlice Cert.Pre_gated.S23552x2 ![0, 1024] x3 Cert.Pre_gated.Facts.slices_S23552x1152_S23552x2_0_1024 (ix2 r k))) = 1#1 at hl
  change BitVec.ofBool (decide (extractStridedSlice Cert.Pre_gated.S23552x2 ![0, 1024] x3 Cert.Pre_gated.Facts.slices_S23552x1152_S23552x2_0_1024 (ix2 r k) < Ideal.ofBits .f32 0x7F800000#32)) = 1#1 at hh
  rw [bool_one, decide_eq_true_eq, e] at hl hh
  have h0 : Ideal.ofBits .f32 0x00000000#32 = (0 : EReal) := by simp [Ideal.ofBits, Ideal.ieee]
  have ht : Ideal.ofBits .f32 0x7F800000#32 = (⊤ : EReal) := by simp [Ideal.ofBits, Ideal.ieee]
  rw [h0] at hl
  rw [ht] at hh
  exact ⟨hl, hh⟩

/-! ## The pipeline's side condition -/

variable {F : FTy → Type} [FloatOps F]

/-- A block whose first coordinate is in range is inside an array of sixteen of them. -/
theorem inside3 {n : ℕ} (hn : n < 16) {p q : ℕ} : ∀ a : Fin 3, (![n, 0, 0] a + 1) * (![1, p, q] : Fin 3 → ℕ) a ≤ (![16, p, q] : Fin 3 → ℕ) a := by
  intro a; fin_cases a <;> simp <;> omega

theorem inside2 {n : ℕ} (hn : n < 92) : ∀ a : Fin 2, (![n, 0] a + 1) * (![256, 1152] : Fin 2 → ℕ) a ≤ (![23552, 1152] : Fin 2 → ℕ) a := by
  intro a; fin_cases a <;> simp <;> omega

variable (pf : pre0.Contents (Elt F))

/-- The tables' words at a tile. -/
def firstOf (i : grid0.Coords) : ℕ := (show BitVec 32 from pf 0 (ix1 (i 0))).toNat
def secondOf (i : grid0.Coords) : ℕ := (show BitVec 32 from pf 1 (ix1 (i 0))).toNat
def countOf : ℕ := (show BitVec 32 from pf 2 (ix1 (0 : Fin 1))).toNat

theorem table_point (i : grid0.Coords) : (Rect.unit (s := S92) (k0_off1 i) S1.size (Facts₀.k0_off1_inb i)).emb (Shape.Idx.first (Facts₀.numel1_S1.symm ▸ Nat.one_pos)) = ix1 (i 0) := by
  have hs : (i 0).val < 92 := (i 0).isLt
  funext a
  fin_cases a
  apply Fin.ext
  simp [ix1, k0_off1, Scalar.indexCast]
  omega

theorem count_point : (Rect.unit (s := S1) ![0] S1.size Facts₀.inb_S1_S1_0).emb (Shape.Idx.first (Facts₀.numel1_S1.symm ▸ Nat.one_pos)) = ix1 (0 : Fin 1) := by
  funext a
  fin_cases a
  exact Subsingleton.elim (α := Fin 1) _ _

variable {pf}

theorem rows_block (h : Tables (pf 0) (pf 1) (pf 2)) (i : grid0.Coords) :
    cc0_transform_0 Facts₀.inb_S1_S1_0 Facts₀.numel1_S1 pf i = ![min (i 0).val (countOf pf - 1), 0] := by
  show ![BitVec.toNat (Scalar.minsi (BitVec.ofNat 32 (i 0).val) (Scalar.subi (show BitVec 32 from pf 2
    ((Rect.unit (s := S1) ![0] S1.size Facts₀.inb_S1_S1_0).emb (Shape.Idx.first (Facts₀.numel1_S1.symm ▸ Nat.one_pos)))) 1#32)), 0] = _
  rw [count_point, row_word _ (i 0).isLt _ (h.count _)]; rfl

theorem first_block (i : grid0.Coords) :
    cc0_transform_1 Facts₀.k0_off1_inb Facts₀.numel1_S1 pf i = ![firstOf pf i, 0, 0] := by
  show ![BitVec.toNat (show BitVec 32 from pf 0 ((Rect.unit (s := S92) (k0_off1 i) S1.size (Facts₀.k0_off1_inb i)).emb (Shape.Idx.first (Facts₀.numel1_S1.symm ▸ Nat.one_pos)))), 0, 0] = _
  rw [table_point]; rfl

theorem second_block (i : grid0.Coords) :
    cc0_transform_4 Facts₀.k0_off1_inb Facts₀.numel1_S1 pf i = ![secondOf pf i, 0, 0] := by
  show ![BitVec.toNat (show BitVec 32 from pf 1 ((Rect.unit (s := S92) (k0_off1 i) S1.size (Facts₀.k0_off1_inb i)).emb (Shape.Idx.first (Facts₀.numel1_S1.symm ▸ Nat.one_pos)))), 0, 0] = _
  rw [table_point]; rfl

/-- The other index maps are these two's. -/
theorem maps (i : grid0.Coords) :
    cc0_transform_2 Facts₀.k0_off1_inb Facts₀.numel1_S1 pf i = ![firstOf pf i, 0, 0]
    ∧ cc0_transform_3 Facts₀.k0_off1_inb Facts₀.numel1_S1 pf i = ![firstOf pf i, 0, 0]
    ∧ cc0_transform_5 Facts₀.k0_off1_inb Facts₀.numel1_S1 pf i = ![secondOf pf i, 0, 0]
    ∧ cc0_transform_6 Facts₀.k0_off1_inb Facts₀.numel1_S1 pf i = ![secondOf pf i, 0, 0] :=
  ⟨first_block i, first_block i, second_block i, second_block i⟩

/-- Tables as the precondition has them are ones the pipeline runs at: every block is inside its array. -/
theorem ok (h : Tables (pf 0) (pf 1) (pf 2)) : ok0 pf := by
  have hr : ∀ i : grid0.Coords, min (i 0).val (countOf pf - 1) < 92 := fun i => lt_of_le_of_lt (min_le_left _ _) (i 0).isLt
  refine ⟨fun i => ⟨?_, Or.inl rfl⟩, fun i => ⟨?_, Or.inl rfl⟩, fun i => ⟨?_, Or.inl rfl⟩, fun i => ⟨?_, Or.inl rfl⟩, fun i => ⟨?_, Or.inl rfl⟩,
    fun i => ⟨?_, Or.inl rfl⟩, fun i => ⟨?_, Or.inl rfl⟩⟩
  · rw [rows_block h]; exact inside2 (hr i)
  · rw [first_block]; exact inside3 (h.first _)
  · rw [(maps i).1]; exact inside3 (h.first _)
  · rw [(maps i).2.1]; exact inside3 (h.first _)
  · rw [second_block]; exact inside3 (h.second _)
  · rw [(maps i).2.2.1]; exact inside3 (h.second _)
  · rw [(maps i).2.2.2]; exact inside3 (h.second _)

end Cert.ExpertsTables

end
-- ==== Proof.ExpertsMath.lean ====
/- The experts' mathematics on extended reals: one expert's output at a row and a column, and how a row's weight passes through it. -/
module

public import Idealize.ShloMosaic.PureOps.Ideal
public import Idealize.ShloMosaic.Lib.Pointwise

@[expose] public section

noncomputable section

namespace Cert.ExpertsMath

open Idealize.ShloMosaic

/-- `v` times the logistic of `v`, as the quotient `v / (1 + e⁻ᵛ)`. -/
def silu (v : EReal) : EReal := Ideal.div v (1 + Ideal.exp (-v))

/-- One expert's hidden unit of a row: the row through its gate, gated, times the row through its up weights. -/
def hidden (x gate up : Fin 1024 → EReal) : EReal := silu (∑ k, x k * gate k) * ∑ k, x k * up k

theorem exp_nonneg (v : EReal) : 0 ≤ Ideal.exp v := by
  induction v using EReal.rec with
  | bot => exact le_refl _
  | top => exact le_top
  | coe r => exact EReal.coe_nonneg.mpr (Real.exp_pos r).le

theorem one_add_exp_ne_zero (v : EReal) : 1 + Ideal.exp v ≠ 0 := by
  have h : (0 : EReal) < 1 + Ideal.exp v := lt_of_lt_of_le zero_lt_one (le_add_of_nonneg_right (exp_nonneg v))
  exact h.ne'

/-- The quotient is the product with the reciprocal: the divisor is never zero. -/
theorem silu_eq_mul (v : EReal) : silu v = v * Ideal.div 1 (1 + Ideal.exp (-v)) := by
  unfold silu Ideal.div
  rw [if_neg (one_add_exp_ne_zero _), if_neg (one_add_exp_ne_zero _), one_mul]

/-- A weight at least zero and below infinity passes out of a sum. -/
theorem weighted_sum {n : ℕ} (a : EReal) (h0 : 0 ≤ a) (ht : a < ⊤) (h w : Fin n → EReal) :
    ∑ f, h f * a * w f = a * ∑ f, h f * w f := by
  have key : ∀ s : Finset (Fin n), ∑ f ∈ s, h f * a * w f = a * ∑ f ∈ s, h f * w f := by
    intro s
    induction s using Finset.cons_induction with
    | empty => simp
    | cons f s hf ih =>
      rw [Finset.sum_cons, Finset.sum_cons, ih, EReal.left_distrib_of_nonneg_of_ne_top h0 ht.ne, mul_comm (h f) a, mul_assoc]
  exact key Finset.univ

/-- The sum over all experts, each times the weights that fall on it, is the two chosen ones' weighted sum. -/
theorem chosen_two {n : ℕ} (p q : Fin n) (a b : EReal) (ha : 0 ≤ a) (hb : 0 ≤ b) (X : Fin n → EReal) :
    ∑ e, ((if e = p then a else 0) + (if e = q then b else 0)) * X e = a * X p + b * X q := by
  have split : ∀ e, ((if e = p then a else 0) + (if e = q then b else 0)) * X e
      = (if e = p then a * X e else 0) + (if e = q then b * X e else 0) := by
    intro e
    rw [EReal.right_distrib_of_nonneg (by split <;> simp [ha]) (by split <;> simp [hb])]
    congr 1 <;> split <;> simp
  simp only [split, Finset.sum_add_distrib, Finset.sum_ite_eq', Finset.mem_univ, if_true]

end Cert.ExpertsMath

end
-- ==== Proof.ExpertsBlock.lean ====
/- What one block of the experts' kernel holds on extended reals, element by element. -/
module

public import proofs.«01_k».proof.Proof.ExpertsMath
public import proofs.«01_k».proof.Proof.ExpertsRun

@[expose] public section

set_option maxRecDepth 16384

noncomputable section

namespace Cert.ExpertsBlock

open Cert.ExpertsIdeal Cert.ExpertsIdeal.Gen Cert.ExpertsRun Cert.ExpertsMath
open Idealize.ShloMosaic Idealize.ShloMosaic.TcCoe Idealize.ShloMosaic.Tactic

/-- A row's inputs and one expert's column, off the blocks. -/
abbrev rowOf (x : Vec Ideal S256x1152 .f32) (r : Fin 256) : Fin 1024 → EReal := fun k => x (ix2 r ⟨k.val, by omega⟩)
abbrev colOf (w : Vec Ideal S1x1024x512 .f32) (f : Fin 512) : Fin 1024 → EReal := fun k => w (ix3 0 k f)

/-- One expert's part of a row: its hidden units, each times the row's weight, through its down weights. -/
def part (x : Vec Ideal S256x1152 .f32) (gate up : Vec Ideal S1x1024x512 .f32) (down : Vec Ideal S1x512x1024 .f32) (k : Fin 1152)
    (r : Fin 256) (d : Fin 1024) : EReal :=
  ∑ f : Fin 512, hidden (rowOf x r) (colOf gate f) (colOf up f) * x (ix2 r k) * down (ix3 0 f d)

theorem zero_eq : Ideal.ofBits .f32 0x00000000#32 = 0 := by simp [Ideal.ofBits, Ideal.ieee]
theorem one_eq : Ideal.ofBits .f32 0x3F800000#32 = 1 := by
  simp [Ideal.ofBits, Ideal.ieee]
  rw [← EReal.coe_mul]; norm_num

theorem input_apply (x : Vec Ideal S256x1152 .f32) (r : Fin 256) (k : Fin 1024) : k0_pay3 x (ix2 r k) = x (ix2 r ⟨k.val, by omega⟩) := by
  pointwise [k0_pay3]

theorem weight_apply (x : Vec Ideal S256x1152 .f32) (r : Fin 256) : k0_pay5 x (ix2 r 0) = x (ix2 r ⟨1025, by omega⟩) := by
  pointwise [k0_pay5]

theorem gate_apply (x : Vec Ideal S256x1152 .f32) (w : Vec Ideal S1x1024x512 .f32) (r : Fin 256) (f : Fin 512) :
    k0_pay6 x w (ix2 r f) = ∑ k, rowOf x r k * colOf w f k := by
  pointwise [k0_pay6]
  simp only [input_apply]

theorem up_apply (x : Vec Ideal S256x1152 .f32) (w : Vec Ideal S1x1024x512 .f32) (r : Fin 256) (f : Fin 512) :
    k0_pay7 x w (ix2 r f) = ∑ k, rowOf x r k * colOf w f k := by
  pointwise [k0_pay7]
  simp only [input_apply]

theorem first_apply (x : Vec Ideal S256x1152 .f32) (gate up : Vec Ideal S1x1024x512 .f32) (down : Vec Ideal S1x512x1024 .f32) (r : Fin 256) (d : Fin 1024) :
    k0_pay4 x gate up down (ix2 r d) = part x gate up down ⟨1024, by omega⟩ r d := by
  pointwise [k0_pay4]
  simp only [input_apply]
  simp only [sub_eq_add_neg, zero_add]
  rfl

theorem second_apply (acc : FVec Ideal S256x1024 .f32) (w : FVec Ideal S256x1 .f32) (g u : FVec Ideal S256x512 .f32) (down : Vec Ideal S1x512x1024 .f32)
    (r : Fin 256) (d : Fin 1024) :
    k0_pay2 acc w g u (Scalar.ofBits .f32 0#32) down (ix2 r d)
      = acc (ix2 r d) + ∑ f : Fin 512, silu (g (ix2 r f)) * u (ix2 r f) * w (ix2 r 0) * down (ix3 0 f d) := by
  pointwise [k0_pay2]
  simp only [sub_eq_add_neg, zero_add]
  rfl

theorem pad_apply (r : Fin 256) (d : Fin 1024) : k0_pay1 (F := Ideal) (ix2 r d) = 0 := zero_eq

/-- A row of a tile in use: the two experts' parts, the row's two weights in columns 1024 and 1025. -/
theorem liveOut_apply (x : Vec Ideal S256x1152 .f32) (g0 u0 g1 u1 : Vec Ideal S1x1024x512 .f32) (d0 d1 : Vec Ideal S1x512x1024 .f32) (r : Fin 256) (d : Fin 1024) :
    liveOut x g0 u0 d0 g1 u1 d1 (ix2 r d) = part x g0 u0 d0 ⟨1024, by omega⟩ r d + part x g1 u1 d1 ⟨1025, by omega⟩ r d := by
  unfold liveOut
  rw [second_apply, first_apply, weight_apply]
  simp only [gate_apply, up_apply]
  rfl

end Cert.ExpertsBlock

end
-- ==== Proof.ExpertsRef.lean ====
/- What the experts' reference computes on extended reals, element by element. -/
module

public import proofs.«01_k».proof.Proof.Gen.ExpertsReferenceIdeal.Read
public import proofs.«01_k».proof.Proof.ExpertsMath
public import Idealize.ShloMosaic.Lib.Pointwise

@[expose] public section

set_option maxRecDepth 16384

noncomputable section

namespace Cert.ExpertsReferenceIdeal.Read

open Cert.ExpertsReferenceIdeal Cert.ExpertsReferenceIdeal.Gen Cert.ExpertsMath
open Idealize.ShloMosaic Idealize.ShloMosaic.TcCoe

/-- A row's tile. -/
abbrev tileOf (t : Fin 23552) : Fin 92 := ⟨t.val / 256, by omega⟩

theorem zero_eq : Ideal.ofBits .f32 0x00000000#32 = 0 := by simp [Ideal.ofBits, Ideal.ieee]
theorem one_eq : Ideal.ofBits .f32 0x3F800000#32 = 1 := by
  simp [Ideal.ofBits, Ideal.ieee]
  rw [← EReal.coe_mul]; norm_num

variable (x0 x1 : (⟨S92, .i32⟩ : BufTy).Contents (Elt Ideal)) (x2 : (⟨S1, .i32⟩ : BufTy).Contents (Elt Ideal))
  (x3 : (⟨S23552x1152, .f32⟩ : BufTy).Contents (Elt Ideal)) (x4 x5 : (⟨S16x1024x512, .f32⟩ : BufTy).Contents (Elt Ideal))
  (x6 : (⟨S16x512x1024, .f32⟩ : BufTy).Contents (Elt Ideal))

/-- A choice by the equality of an expert's number with a table's word. -/
theorem select_word (w : BitVec 32) (p e : Fin 16) (hw : w.toNat = p.val) (a : EReal) :
    Scalar.select (IntOp.cmpi .eq w (BitVec.ofNat 32 e.val)) a 0 = if e = p then a else 0 := by
  have hof : (BitVec.ofNat 32 e.val).toNat = e.val := by simp; omega
  have h : (w = BitVec.ofNat 32 e.val) ↔ e = p := by
    rw [← BitVec.toNat_inj, hw, hof, Fin.ext_iff]; exact eq_comm
  show (if BitVec.ofBool (w == BitVec.ofNat 32 e.val) = 1#1 then a else 0) = _
  by_cases he : e = p
  · rw [if_pos he, beq_iff_eq.mpr (h.mpr he)]; rfl
  · rw [if_neg he, beq_eq_false_iff_ne.mpr fun q => he (h.mp q)]; rfl

theorem first_word (t : Fin 23552) (e : Fin 16) : val_main_v8 (F := Ideal) x0 (ix2 t e) = x0 (ix1 (tileOf t)) := by
  rw [val_main_v8_apply, val_main_v7_apply, val_main_v6_apply, val_main_v5_apply]
  refine congrArg x0 (funext fun a => Fin.ext ?_)
  fin_cases a
  show (t.val * 1 + 0) / 256 = t.val / 256
  omega

theorem second_word (t : Fin 23552) (e : Fin 16) : val_main_v15 (F := Ideal) x1 (ix2 t e) = x1 (ix1 (tileOf t)) := by
  rw [val_main_v15_apply, val_main_v14_apply, val_main_v13_apply, val_main_v12_apply]
  refine congrArg x1 (funext fun a => Fin.ext ?_)
  fin_cases a
  show (t.val * 1 + 0) / 256 = t.val / 256
  omega

/-- The weights that fall on an expert at a row. -/
theorem weights_apply (t : Fin 23552) (e p q : Fin 16) (hp : (x0 (ix1 (tileOf t))).toNat = p.val) (hq : (x1 (ix1 (tileOf t))).toNat = q.val) :
    val_main_v19 (F := Ideal) x0 x1 x3 (ix2 t e)
      = (if e = p then x3 (ix2 t ⟨1024, by omega⟩) else 0) + (if e = q then x3 (ix2 t ⟨1025, by omega⟩) else (0 : EReal)) := by
  have h1 : val_main_v11 (F := Ideal) x0 x3 (ix2 t e) = if e = p then x3 (ix2 t ⟨1024, by omega⟩) else (0 : EReal) := by
    rw [← select_word _ p e hp, val_main_v11_apply, val_main_v10_apply, first_word, val_main_v9_apply, val_main_v4_apply, val_main_v3_apply,
      val_main_call0_v1_apply, val_main_v1_apply, val_main_call0_v2_apply, val_main_call0_v0_apply, val_main_cst_apply]
    refine congrArg₂ (Scalar.select _) (congrArg x3 (funext fun a => Fin.ext ?_)) zero_eq
    fin_cases a <;> rfl
  have h2 : val_main_v18 (F := Ideal) x1 x3 (ix2 t e) = if e = q then x3 (ix2 t ⟨1025, by omega⟩) else (0 : EReal) := by
    rw [← select_word _ q e hq, val_main_v18_apply, val_main_v17_apply, second_word, val_main_v16_apply, val_main_v4_apply, val_main_v3_apply,
      val_main_call1_v1_apply, val_main_v2_apply, val_main_call1_v2_apply, val_main_call1_v0_apply, val_main_cst_0_apply]
    refine congrArg₂ (Scalar.select _) (congrArg x3 (funext fun a => Fin.ext ?_)) zero_eq
    fin_cases a <;> rfl
  rw [val_main_v19_apply, h1, h2]
  rfl

/-- A row's inputs, and one hidden unit's column of an expert's weights. -/
abbrev rowOf (t : Fin 23552) : Fin 1024 → EReal := fun k => x3 (ix2 t ⟨k.val, by omega⟩)
abbrev colOf (w : (⟨S16x1024x512, .f32⟩ : BufTy).Contents (Elt Ideal)) (e : Fin 16) (f : Fin 512) : Fin 1024 → EReal := fun k => w (ix3 e k f)

theorem gate_apply (t : Fin 23552) (e : Fin 16) (f : Fin 512) :
    val_main_v20 (F := Ideal) x3 x4 (ix3 t e f) = ∑ k, rowOf x3 t k * colOf x4 e f k := by
  rw [val_main_v20_apply]
  refine Finset.sum_congr rfl fun k _ => ?_
  rw [val_main_v0_apply]
  refine congrArg₂ (· * ·) (congrArg x3 (funext fun a => Fin.ext ?_)) (congrArg x4 (funext fun a => Fin.ext ?_)) <;> fin_cases a <;> rfl

theorem up_apply (t : Fin 23552) (e : Fin 16) (f : Fin 512) :
    val_main_v22 (F := Ideal) x3 x5 (ix3 t e f) = ∑ k, rowOf x3 t k * colOf x5 e f k := by
  rw [val_main_v22_apply]
  refine Finset.sum_congr rfl fun k _ => ?_
  rw [val_main_v0_apply]
  refine congrArg₂ (· * ·) (congrArg x3 (funext fun a => Fin.ext ?_)) (congrArg x5 (funext fun a => Fin.ext ?_)) <;> fin_cases a <;> rfl

theorem hidden_apply (t : Fin 23552) (e : Fin 16) (f : Fin 512) :
    val_main_v23 (F := Ideal) x3 x4 x5 (ix3 t e f) = hidden (rowOf x3 t) (colOf x4 e f) (colOf x5 e f) := by
  have hs : val_main_v21 (F := Ideal) x3 x4 (ix3 t e f) = silu (∑ k, rowOf x3 t k * colOf x4 e f k) := by
    rw [silu_eq_mul, ← gate_apply, val_main_v21_apply, val_main_call2_v5_apply, val_main_call2_v4_apply, val_main_call2_cst_0_apply,
      val_main_call2_v3_apply, val_main_call2_v2_apply, val_main_call2_cst_apply]
    show _ * Ideal.div (Ideal.ofBits .f32 0x3F800000#32) (Ideal.ofBits .f32 0x3F800000#32 + Ideal.exp (-_)) = _
    rw [one_eq]
  rw [val_main_v23_apply, hs, up_apply]
  rfl

/-- One expert's output at a row and a column. -/
def expert (t : Fin 23552) (d : Fin 1024) (e : Fin 16) : EReal :=
  ∑ f : Fin 512, hidden (rowOf x3 t) (colOf x4 e f) (colOf x5 e f) * x6 (ix3 e f d)

theorem expert_apply (t : Fin 23552) (d : Fin 1024) (e : Fin 16) :
    val_main_v26 (F := Ideal) x3 x4 x5 x6 (ix3 e t d) = expert x3 x4 x5 x6 t d e := by
  rw [val_main_v26_apply]
  refine Finset.sum_congr rfl fun f _ => ?_
  rw [← hidden_apply]
  refine congrArg₂ (· * ·) (congrArg (val_main_v23 (F := Ideal) x3 x4 x5) (funext fun a => Fin.ext ?_)) (congrArg x6 (funext fun a => Fin.ext ?_)) <;>
    fin_cases a <;> rfl

/-- Every expert's output times the weights that fall on it, added up. -/
theorem mixed_apply (t : Fin 23552) (d : Fin 1024) :
    val_main_v29 (F := Ideal) x0 x1 x3 x4 x5 x6 (ix2 t d)
      = ∑ e : Fin 16, val_main_v19 (F := Ideal) x0 x1 x3 (ix2 t e) * expert x3 x4 x5 x6 t d e := by
  rw [val_main_v29_apply, val_main_cst_1_apply]
  show Ideal.ofBits .f32 0x00000000#32 + _ = _
  rw [zero_eq, zero_add]
  refine Finset.sum_congr rfl fun e _ => ?_
  rw [val_main_v28_apply, val_main_v27_apply, val_main_v25_apply, val_main_v24_apply]
  refine congrArg₂ (· * ·) (congrArg (val_main_v19 (F := Ideal) x0 x1 x3) (funext fun a => Fin.ext ?_)) (Eq.trans (congrArg _ (funext fun a => Fin.ext ?_)) (expert_apply x3 x4 x5 x6 t d e)) <;>
    fin_cases a <;> rfl

/-- Whether a row's tile is in use. -/
theorem used_word (s : ℕ) (hs : s < 92) (w : BitVec 32) (hw : w.toNat < 2 ^ 31) (a : EReal) :
    Scalar.select (IntOp.cmpi .slt (BitVec.ofNat 32 s) w) a 0 = if s < w.toNat then a else 0 := by
  have hof : (BitVec.ofNat 32 s).toNat = s := by simp; omega
  have key : (BitVec.ofNat 32 s).slt w = decide (s < w.toNat) := by
    unfold BitVec.slt
    rw [BitVec.toInt_eq_toNat_cond, BitVec.toInt_eq_toNat_cond, hof, if_pos (by omega), if_pos (by omega)]
    simp
  show (if BitVec.ofBool ((BitVec.ofNat 32 s).slt w) = 1#1 then a else 0) = _
  rw [key]
  by_cases h : s < w.toNat <;> simp [h]

theorem count_apply (i : S23552x1.Idx) : val_main_v35 (F := Ideal) x2 i = x2 (ix1 (0 : Fin 1)) := by
  rw [val_main_v35_apply]
  unfold val_main_v34
  exact congrArg x2 (funext fun a => by fin_cases a; exact Subsingleton.elim (α := Fin 1) _ _)

theorem tile_apply (t : Fin 23552) : val_main_v33 (F := Ideal) (ix2 t (0 : Fin 1)) = BitVec.ofNat 32 (t.val / 256) := by
  rw [val_main_v33_apply, val_main_v32_apply, val_main_v31_apply, val_main_v30_apply]
  show BitVec.ofNat 32 ((t.val * 1 + 0) / 256) = _
  rw [mul_one, add_zero]

/-- The reference's result at a row and a column: the two chosen experts' outputs, weighted, where the row's tile is in use, and zero elsewhere. -/
theorem result_apply (t : Fin 23552) (d : Fin 1024) (p q : Fin 16) (hp : (x0 (ix1 (tileOf t))).toNat = p.val) (hq : (x1 (ix1 (tileOf t))).toNat = q.val)
    (hn : (x2 (ix1 (0 : Fin 1))).toNat < 2 ^ 31) (ha : (0 : EReal) ≤ x3 (ix2 t ⟨1024, by omega⟩)) (hb : (0 : EReal) ≤ x3 (ix2 t ⟨1025, by omega⟩)) :
    val_main_v37 (F := Ideal) x0 x1 x2 x3 x4 x5 x6 (ix2 t d)
      = if t.val / 256 < (x2 (ix1 (0 : Fin 1))).toNat then
          x3 (ix2 t ⟨1024, by omega⟩) * expert x3 x4 x5 x6 t d p + x3 (ix2 t ⟨1025, by omega⟩) * expert x3 x4 x5 x6 t d q
        else (0 : EReal) := by
  rw [← chosen_two p q _ _ ha hb]
  simp only [← weights_apply x0 x1 x3 t _ p q hp hq]
  rw [← mixed_apply, ← used_word _ (by omega) _ hn, val_main_v37_apply, val_main_call3_v1_apply, val_main_v36_apply, count_apply, val_main_call3_v2_apply,
    val_main_call3_v0_apply, val_main_cst_2_apply]
  refine congrArg₂ (fun u v => Scalar.select (IntOp.cmpi .slt u _) _ v) ?_ zero_eq
  refine Eq.trans (congrArg _ (funext fun a => Fin.ext ?_)) (tile_apply t)
  fin_cases a <;> rfl

end Cert.ExpertsReferenceIdeal.Read

end
-- ==== Proof.ExpertsValue.lean ====
/- What the experts' kernel leaves in its result, element by element: the reference's value there. -/
module

public import proofs.«01_k».proof.Proof.ExpertsTables
public import proofs.«01_k».proof.Proof.ExpertsBlock
public import proofs.«01_k».proof.Proof.ExpertsRef
public import Idealize.ShloMosaic.Lib.Pipeline.ValueKit

@[expose] public section

set_option maxRecDepth 16384

noncomputable section

namespace Cert.ExpertsValue

open Cert.ExpertsIdeal Cert.ExpertsIdeal.Gen Cert.ExpertsRun Cert.ExpertsPipe Cert.ExpertsTables Cert.ExpertsBlock Cert.ExpertsMath
open Idealize.ShloMosaic Idealize.ShloMosaic.TcCoe Idealize.ShloMosaic.Tactic
open Idealize.ShloMosaic.Pipeline (Dat)

variable (a : (pcfg0 (F := Ideal)).Adm) (m : (ℓ : Loc nD τ sig) → Buf (Elt Ideal) ℓ) (ρ : Dev nD → PrngReg) (c : Dev nD)

abbrev xs : Vec Ideal S23552x1152 .f32 := m ((c : Thread nD τ).loc main_arg3)
abbrev gates : Vec Ideal S16x1024x512 .f32 := m ((c : Thread nD τ).loc main_arg4)
abbrev ups : Vec Ideal S16x1024x512 .f32 := m ((c : Thread nD τ).loc main_arg5)
abbrev downs : Vec Ideal S16x512x1024 .f32 := m ((c : Thread nD τ).loc main_arg6)

theorem coords_val : ∀ t : Fin grid0.N, (grid0.coords t 0).val = t.val := by decide +kernel

/-! ## The blocks of a point, off the arrays -/

section Blocks

variable (t : Fin grid0.N) (p q : Fin 16)
  (hT : Tables (a.1 0) (a.1 1) (a.1 2)) (hp : firstOf a.1 (grid0.coords t) = p.val) (hq : secondOf a.1 (grid0.coords t) = q.val)
  (hlive : t.val < countOf a.1)

include hT hlive in
theorem rows_at (r : Fin 256) (k : Fin 1152) (h : t.val * 256 + r.val < 23552) :
    iblk a m ρ c (0 : Fin 8) t (ix2 r k) = xs m c (ix2 ⟨t.val * 256 + r.val, h⟩ k) := by
  have e := rows_block hT (grid0.coords t)
  rw [coords_val, min_eq_left (by omega)] at e
  refine congrArg (xs m c) (funext fun x => Fin.ext ?_)
  fin_cases x
  · show cc0_transform_0 Facts₀.inb_S1_S1_0 Facts₀.numel1_S1 a.1 (grid0.coords t) 0 * 256 + 1 * r.val = t.val * 256 + r.val
    rw [e]; simp
  · show cc0_transform_0 Facts₀.inb_S1_S1_0 Facts₀.numel1_S1 a.1 (grid0.coords t) 1 * 1152 + 1 * k.val = k.val
    rw [e]; simp

theorem in_block (W : Vec Ideal S16x1024x512 .f32) (e : Fin 16) (ix : Fin 3 → ℕ) (he : ix = ![e.val, 0, 0]) (k : Fin 1024) (f : Fin 512)
    (j : S16x1024x512.Idx) (hj : ∀ x : Fin 3, (j x).val = ix x * (![1, 1024, 512] : Fin 3 → ℕ) x + 1 * (![0, k.val, f.val] : Fin 3 → ℕ) x) :
    W j = W (ix3 e k f) := by
  refine congrArg W (funext fun x => Fin.ext ((hj x).trans ?_))
  rw [he]
  fin_cases x <;> simp [ix3]

theorem out_block (W : Vec Ideal S16x512x1024 .f32) (e : Fin 16) (ix : Fin 3 → ℕ) (he : ix = ![e.val, 0, 0]) (f : Fin 512) (d : Fin 1024)
    (j : S16x512x1024.Idx) (hj : ∀ x : Fin 3, (j x).val = ix x * (![1, 512, 1024] : Fin 3 → ℕ) x + 1 * (![0, f.val, d.val] : Fin 3 → ℕ) x) :
    W j = W (ix3 e f d) := by
  refine congrArg W (funext fun x => Fin.ext ((hj x).trans ?_))
  rw [he]
  fin_cases x <;> simp [ix3]

include hp in
theorem gate0_at (k : Fin 1024) (f : Fin 512) : iblk a m ρ c (1 : Fin 8) t (ix3 0 k f) = gates m c (ix3 p k f) :=
  in_block (gates m c) p _ ((first_block (pf := a.1) (grid0.coords t)).trans (by rw [hp])) k f _ fun x => by fin_cases x <;> rfl

include hp in
theorem up0_at (k : Fin 1024) (f : Fin 512) : iblk a m ρ c (2 : Fin 8) t (ix3 0 k f) = ups m c (ix3 p k f) :=
  in_block (ups m c) p _ ((maps (pf := a.1) (grid0.coords t)).1.trans (by rw [hp])) k f _ fun x => by fin_cases x <;> rfl

include hp in
theorem down0_at (f : Fin 512) (d : Fin 1024) : iblk a m ρ c (3 : Fin 8) t (ix3 0 f d) = downs m c (ix3 p f d) :=
  out_block (downs m c) p _ ((maps (pf := a.1) (grid0.coords t)).2.1.trans (by rw [hp])) f d _ fun x => by fin_cases x <;> rfl

include hq in
theorem gate1_at (k : Fin 1024) (f : Fin 512) : iblk a m ρ c (4 : Fin 8) t (ix3 0 k f) = gates m c (ix3 q k f) :=
  in_block (gates m c) q _ ((second_block (pf := a.1) (grid0.coords t)).trans (by rw [hq])) k f _ fun x => by fin_cases x <;> rfl

include hq in
theorem up1_at (k : Fin 1024) (f : Fin 512) : iblk a m ρ c (5 : Fin 8) t (ix3 0 k f) = ups m c (ix3 q k f) :=
  in_block (ups m c) q _ ((maps (pf := a.1) (grid0.coords t)).2.2.1.trans (by rw [hq])) k f _ fun x => by fin_cases x <;> rfl

include hq in
theorem down1_at (f : Fin 512) (d : Fin 1024) : iblk a m ρ c (6 : Fin 8) t (ix3 0 f d) = downs m c (ix3 q f d) :=
  out_block (downs m c) q _ ((maps (pf := a.1) (grid0.coords t)).2.2.2.trans (by rw [hq])) f d _ fun x => by fin_cases x <;> rfl

end Blocks

/-! ## A point's block -/

open Cert.ExpertsReferenceIdeal.Read (expert result_apply tileOf)

/-- One expert's part of a row is the row's weight times that expert's output there. -/
theorem part_eq (x : Vec Ideal S256x1152 .f32) (gate up : Vec Ideal S1x1024x512 .f32) (down : Vec Ideal S1x512x1024 .f32)
    (X : Vec Ideal S23552x1152 .f32) (G U : Vec Ideal S16x1024x512 .f32) (D : Vec Ideal S16x512x1024 .f32)
    (R : Fin 23552) (e : Fin 16) (k : Fin 1152) (r : Fin 256) (d : Fin 1024)
    (hx : ∀ j, x (ix2 r j) = X (ix2 R j)) (hg : ∀ j f, gate (ix3 0 j f) = G (ix3 e j f)) (hu : ∀ j f, up (ix3 0 j f) = U (ix3 e j f))
    (hd : ∀ f, down (ix3 0 f d) = D (ix3 e f d)) (h0 : (0 : EReal) ≤ X (ix2 R k)) (ht : X (ix2 R k) < (⊤ : EReal)) :
    part x gate up down k r d = X (ix2 R k) * expert X G U D R d e := by
  unfold part expert
  rw [← weighted_sum _ h0 ht]
  refine Finset.sum_congr rfl fun f _ => ?_
  have e1 : rowOf x r = Cert.ExpertsReferenceIdeal.Read.rowOf X R := funext fun j => hx _
  have e2 : colOf gate f = Cert.ExpertsReferenceIdeal.Read.colOf G e f := funext fun j => hg j f
  have e3 : colOf up f = Cert.ExpertsReferenceIdeal.Read.colOf U e f := funext fun j => hu j f
  rw [e1, e2, e3, hx, hd]

theorem count_eq (T2 : S1.Idx → Elt Ideal .i32) : countWord (F := Ideal) T2 = T2 (ix1 (0 : Fin 1)) := congrArg T2 count_point

/-- What the body leaves at a point's row and column: the reference's value of that row. -/
theorem left_apply (hT : Tables (a.1 0) (a.1 1) (a.1 2))
    (hw : ∀ (R : Fin 23552) (k : Fin 2), (0 : EReal) ≤ xs m c (ix2 R ⟨1024 + k.val, by omega⟩) ∧ xs m c (ix2 R ⟨1024 + k.val, by omega⟩) < (⊤ : EReal))
    (t : Fin grid0.N) (r : Fin 256) (d : Fin 1024) (R : Fin 23552) (hR : R.val = t.val * 256 + r.val) :
    left a m ρ c t (ix2 r d)
      = Cert.ExpertsReferenceIdeal.Read.val_main_v37 (F := Ideal) (a.1 0) (a.1 1) (a.1 2) (xs m c) (gates m c) (ups m c) (downs m c) (ix2 R d) := by
  obtain ⟨R, hlt⟩ := R
  obtain rfl : R = t.val * 256 + r.val := hR
  have ht : t.val < 92 := N_0 ▸ t.isLt
  have htile : tileOf ⟨t.val * 256 + r.val, hlt⟩ = grid0.coords t 0 := Fin.ext (by rw [coords_val]; show (t.val * 256 + r.val) / 256 = t.val; omega)
  have hp : firstOf a.1 (grid0.coords t) < 16 := hT.first _
  have hq : secondOf a.1 (grid0.coords t) < 16 := hT.second _
  obtain ⟨ha, ha'⟩ := hw ⟨t.val * 256 + r.val, hlt⟩ 0
  obtain ⟨hb, hb'⟩ := hw ⟨t.val * 256 + r.val, hlt⟩ 1
  rw [result_apply (a.1 0) (a.1 1) (a.1 2) (xs m c) (gates m c) (ups m c) (downs m c) ⟨t.val * 256 + r.val, hlt⟩ d
    ⟨firstOf a.1 (grid0.coords t), hp⟩ ⟨secondOf a.1 (grid0.coords t), hq⟩ (by rw [htile]; rfl) (by rw [htile]; rfl) (hT.count _).2 ha hb]
  unfold left result
  by_cases h : t.val < countOf a.1
  · rw [if_pos (by rw [count_eq]; refine (live_word _ _ (hT.count _).2).mpr ?_; rw [coords_val]; exact h),
      if_pos (by show (t.val * 256 + r.val) / 256 < countOf a.1; omega), liveOut_apply]
    refine congrArg₂ (· + ·) ?_ ?_
    · exact part_eq _ _ _ _ _ _ _ _ _ ⟨_, hp⟩ _ _ _ (fun j => rows_at a m ρ c t hT h r j hlt) (gate0_at a m ρ c t ⟨_, hp⟩ rfl) (up0_at a m ρ c t ⟨_, hp⟩ rfl)
        (fun f => down0_at a m ρ c t ⟨_, hp⟩ rfl f d) ha ha'
    · exact part_eq _ _ _ _ _ _ _ _ _ ⟨_, hq⟩ _ _ _ (fun j => rows_at a m ρ c t hT h r j hlt) (gate1_at a m ρ c t ⟨_, hq⟩ rfl) (up1_at a m ρ c t ⟨_, hq⟩ rfl)
        (fun f => down1_at a m ρ c t ⟨_, hq⟩ rfl f d) hb hb'
  · rw [if_neg (by rw [count_eq]; intro g; have := (live_word _ _ (hT.count _).2).mp g; rw [coords_val] at this; exact h this),
      if_neg (by show ¬ (t.val * 256 + r.val) / 256 < countOf a.1; omega), Cert.ExpertsBlock.pad_apply]

/-! ## The output's blocks -/

theorem out_index : ∀ t : Fin grid0.N, cc0_transform_7 (grid0.coords t) = ![t.val, 0] := by decide +kernel
theorem out_flush : ∀ t : Fin grid0.N, Pipeline.Window.flushOf grid0 true cc0_transform_7 t = true := by decide +kernel

theorem out_covers : ((cfgA a).win (7 : Fin 8)).Covers := by
  refine ⟨fun x => ?_, fun β => ⟨⟨(β (0 : Fin 2)).val, ?_⟩, ?_, fun x => ⟨?_, Or.inl rfl⟩⟩⟩
  · exact (by decide : ∀ x : Fin 2, 0 < S256x1024.size x) x
  · have h : (β (0 : Fin 2)).val < (23552 + 256 - 1) / 256 := (β (0 : Fin 2)).isLt
    show (β (0 : Fin 2)).val < grid0.N
    rw [N_0]; omega
  · exact out_flush _
  · show cc0_transform_7 (grid0.coords _) x = _
    rw [out_index]
    have h : (β (1 : Fin 2)).val < (1024 + 1024 - 1) / 1024 := (β (1 : Fin 2)).isLt
    fin_cases x
    · rfl
    · show 0 = (β (1 : Fin 2)).val
      omega

/-- The result array after the run: the reference's. -/
theorem final_out (hT : Tables (a.1 0) (a.1 1) (a.1 2))
    (hw : ∀ (R : Fin 23552) (k : Fin 2), (0 : EReal) ≤ xs m c (ix2 R ⟨1024 + k.val, by omega⟩) ∧ xs m c (ix2 R ⟨1024 + k.val, by omega⟩) < (⊤ : EReal)) :
    (dats a m ρ 0 c).arrAt (7 : Fin 8) (cfgA a).N
      = Cert.ExpertsReferenceIdeal.Read.val_main_v37 (F := Ideal) (a.1 0) (a.1 1) (a.1 2) (xs m c) (gates m c) (ups m c) (downs m c) := by
  refine (dats a m ρ 0 c).arrAt_eq_of_covers (7 : Fin 8) _ (out_covers a) (fun t hf y => ?_) (Memref.isWhole_whole _)
  obtain ⟨r, d, rfl⟩ : ∃ (r : Fin 256) (d : Fin 1024), y = ix2 r d := ⟨y (0 : Fin 2), y (1 : Fin 2), funext fun x => by fin_cases x <;> rfl⟩
  have ht : t.val < 92 := N_0 ▸ t.isLt
  refine (left_apply a m ρ c hT hw t r d ⟨t.val * 256 + r.val, by omega⟩ rfl).trans ?_
  refine congrArg (Cert.ExpertsReferenceIdeal.Read.val_main_v37 (F := Ideal) (a.1 0) (a.1 1) (a.1 2) (xs m c) (gates m c) (ups m c) (downs m c)) (funext fun x => Fin.ext ?_)
  have e := out_index t
  fin_cases x
  · show t.val * 256 + r.val = cc0_transform_7 (grid0.coords t) 0 * 256 + 1 * r.val
    rw [e]; simp
  · show d.val = cc0_transform_7 (grid0.coords t) 1 * 1024 + 1 * d.val
    rw [e]; simp

end Cert.ExpertsValue

end
-- ==== Proof.ExpertsClaims.lean ====
/- The experts' claims, from the launch's run, the value of its result and the printed run of the reference. -/
module

public import proofs.«01_k».proof.Defs
public import proofs.«01_k».proof.Proof.ExpertsSame
public import proofs.«01_k».proof.Proof.ExpertsValue
public import proofs.«01_k».proof.Proof.Gen.ExpertsReferenceIdeal.Run

@[expose] public section

noncomputable section

namespace Cert.ExpertsClaims

open Cert.ExpertsIdeal Cert.ExpertsIdeal.Gen Cert.ExpertsPipe Cert.ExpertsTables
open Idealize.ShloMosaic Idealize.ShloMosaic.TcCoe Idealize.SL.Sem

section Adm

variable {F : FTy → Type} [FloatOps F] (m : (ℓ : Loc nD τ sig) → Buf (Elt F) ℓ)

/-- The tables a memory holds, on the one device. -/
abbrev held : pre0.Contents (Elt F) := fun j => m (((0 : Dev nD) : Thread nD τ).loc (pre0.ref j))

/-- As tables the pipeline runs at. -/
abbrev admOf (h : Tables (held m 0) (held m 1) (held m 2)) : (pcfg0 (F := F)).Adm := ⟨held m, ok h⟩

/-- The memory holds the tables the pipeline runs at. -/
theorem pinned (h : Tables (held m 0) (held m 1) (held m 2)) : Pinned (admOf m h) m := fun c j => by
  obtain rfl : c = 0 := Subsingleton.elim (α := Fin 1) _ _
  rfl

end Adm

/-- What `tables` says of a memory. -/
theorem ideal_tables {m : (ℓ : Loc nD τ sig) → Buf (Elt Ideal) ℓ} (h : Cert.Pre_ExpertsIdeal m) : Tables (held m 0) (held m 1) (held m 2) :=
  let ⟨a0, a1, b0, b1, n⟩ := h 0
  of_tables a0 a1 b0 b1 n

/-- What `gated` says of a memory's tables. -/
theorem gated_tables {m : (ℓ : Loc nD τ sig) → Buf (Elt Ideal) ℓ} (h : Cert.Pre_ExpertsIdeal_gated m) : Tables (held m 0) (held m 1) (held m 2) :=
  let ⟨a0, a1, b0, b1, n, _, _⟩ := h 0
  of_gated a0 a1 b0 b1 n

/-- What `tables` says of a memory of the deployed kernel. -/
theorem bits_tables {m : (ℓ : Loc nD τ sig) → Buf (Elt Bits) ℓ} (h : Cert.Pre_Experts m) : Tables (held m 0) (held m 1) (held m 2) :=
  let ⟨a0, a1, b0, b1, n⟩ := h 0
  of_tables a0 a1 b0 b1 n

/-- The idealised kernel's frame, its tables in range. -/
theorem ideal_quiet : Cert.quiescent_ExpertsIdeal := fun m ρ h => frame (admOf m (ideal_tables h)) m ρ (pinned m _)

/-- The same under `gated`. -/
theorem ideal_quiet_gated : Cert.quiescent_ExpertsIdeal_pre_gated := fun m ρ h => frame (admOf m (gated_tables h)) m ρ (pinned m _)

/-- The deployed kernel's frame: its procedures are the idealised kernel's. -/
theorem bits_quiet : Cert.quiescent_Experts := fun m ρ h => by
  have := frame (admOf m (bits_tables h)) m ρ (pinned m _)
  rw [← Cert.ExpertsSame.all] at this
  exact this

/-- The reference's frame. -/
theorem reference_quiet : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-- The kernel's array and the reference's, of arguments that agree, whose tables are in range and whose weights are at least zero and finite. -/
theorem algebraic : Cert.algebraic_ExpertsIdeal_ExpertsReferenceIdeal_pre_gated := by
  intro m ρ m' ρ' hpre hagree
  have hT := gated_tables hpre
  refine ⟨fun c => Cert.ExpertsReferenceIdeal.Read.val_main_v37 (F := Ideal)
    (m' ((c.tc : Thread Cert.ExpertsReferenceIdeal.nD Cert.ExpertsReferenceIdeal.τ).loc Cert.ExpertsReferenceIdeal.main_arg0))
    (m' ((c.tc : Thread Cert.ExpertsReferenceIdeal.nD Cert.ExpertsReferenceIdeal.τ).loc Cert.ExpertsReferenceIdeal.main_arg1))
    (m' ((c.tc : Thread Cert.ExpertsReferenceIdeal.nD Cert.ExpertsReferenceIdeal.τ).loc Cert.ExpertsReferenceIdeal.main_arg2))
    (m' ((c.tc : Thread Cert.ExpertsReferenceIdeal.nD Cert.ExpertsReferenceIdeal.τ).loc Cert.ExpertsReferenceIdeal.main_arg3))
    (m' ((c.tc : Thread Cert.ExpertsReferenceIdeal.nD Cert.ExpertsReferenceIdeal.τ).loc Cert.ExpertsReferenceIdeal.main_arg4))
    (m' ((c.tc : Thread Cert.ExpertsReferenceIdeal.nD Cert.ExpertsReferenceIdeal.τ).loc Cert.ExpertsReferenceIdeal.main_arg5))
    (m' ((c.tc : Thread Cert.ExpertsReferenceIdeal.nD Cert.ExpertsReferenceIdeal.τ).loc Cert.ExpertsReferenceIdeal.main_arg6)), ?_, ?_⟩
  · refine (θ_run Cert.ExpertsIdeal.defs _ _).mono (fun r h c => ⟨((h.1 c).1 (7 : Fin 8)).trans ?_, kept _ m ρ (pinned m hT) h.1 c⟩)
      (run_main (admOf m hT) m ρ (pinned m hT))
    obtain ⟨_, _, _, _, _, lo, hi⟩ := hpre c
    obtain ⟨a0, a1, a2, a3, a4, a5, a6⟩ := hagree c
    obtain rfl : c = 0 := Subsingleton.elim (α := Fin 1) _ _
    exact (Cert.ExpertsValue.final_out (admOf m hT) m ρ 0 hT fun R k => weights lo hi R k).trans
      (congr (congr (congr (congr (congr (congr (congrArg (Cert.ExpertsReferenceIdeal.Read.val_main_v37 (F := Ideal)) a0) a1) a2) a3) a4) a5) a6).symm
  · exact (θ_run Cert.ExpertsReferenceIdeal.defs _ _).mono
      (fun r h c => ⟨(h c).1.trans (Cert.ExpertsReferenceIdeal.Read.val_main_v37_eq (F := Ideal) _ _ _ _ _ _ _), (h c).2⟩)
      (Cert.ExpertsReferenceIdeal.Value.run (F := Ideal) m' ρ')

end Cert.ExpertsClaims

end
-- ==== Proof.InputsMath.lean ====
/- The input projection's mathematics on extended reals: a row's normalisation and modulation, a head's normalisation and
   rotation, and the sums over one head's lanes. -/
module

public import proofs.«01_k».proof.Proof.ExpertsMath

@[expose] public section

noncomputable section

namespace Cert.InputsMath

open Idealize.ShloMosaic

/-- The reciprocal root of the mean of squares, `n` of them, kept away from zero by a small constant. -/
def invRms {k : ℕ} (n : EReal) (v : Fin k → EReal) : EReal :=
  Ideal.rsqrt (Ideal.div (∑ j, v j * v j) n + Ideal.ofBits .f32 0x358637BD#32)

/-- A row of the hidden state, normalised and modulated. -/
def modulated (x g scale shift : Fin 1024 → EReal) (k : Fin 1024) : EReal :=
  x k * invRms (Ideal.ofBits .f32 0x44800000#32) x * g k * (1 + scale k) + shift k

/-- A head, normalised. -/
def headNorm (t g : Fin 64 → EReal) (d : Fin 64) : EReal := t d * invRms (Ideal.ofBits .f32 0x42800000#32) t * g d

/-- The lane a lane is paired with: 16 above in the even quarters of a head, 16 below in the odd ones. -/
def partner (d : Fin 64) : Fin 64 := if d.val / 16 % 2 = 0 then ⟨(d.val + 16) % 64, by omega⟩ else ⟨(d.val + 48) % 64, by omega⟩

/-- The partner's element, negated in the even quarters. -/
def turned (t : Fin 64 → EReal) (d : Fin 64) : EReal := if d.val / 16 % 2 = 0 then -t (partner d) else t (partner d)

/-- A head, rotated by the angles whose cosines and sines are given. -/
def rotated (t c s : Fin 64 → EReal) (d : Fin 64) : EReal := t d * c d + turned t d * s d

/-- The sine with its sign changed in the even quarters, times the partner, is the turned element times the sine. -/
theorem turned_mul (t s : Fin 64 → EReal) (d : Fin 64) :
    t (partner d) * (if d.val / 16 % 2 = 0 then -s d else s d) = turned t d * s d := by
  unfold turned
  split
  · rw [mul_neg, neg_mul]
  · rfl

/-- 8 times the logarithm of 2. -/
def lam : EReal := Ideal.ofBits .f32 0x41000000#32 * Ideal.log (Ideal.ofBits .f32 0x40000000#32)

theorem eight_eq : Ideal.ofBits .f32 0x41000000#32 = ((8 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem lam_eq : lam = ((8 * Real.log 2 : ℝ) : EReal) := by
  unfold lam
  rw [eight_eq, two_eq, EReal.coe_mul]
  refine congrArg _ ?_
  rw [Ideal.log_coe, if_neg (by norm_num)]

/-- A quotient by a real number other than zero is the product with its reciprocal. -/
theorem div_real (x : EReal) (r : ℝ) (h : r ≠ 0) : Ideal.div x (r : EReal) = x * ((r⁻¹ : ℝ) : EReal) := by
  unfold Ideal.div
  rw [if_neg (by exact_mod_cast h), EReal.coe_inv]

theorem div_lam (x : EReal) : Ideal.div x lam = x * (((8 * Real.log 2)⁻¹ : ℝ) : EReal) := by
  rw [lam_eq, div_real]
  have := Real.log_pos (by norm_num : (1 : ℝ) < 2)
  positivity

theorem sixtyfour_eq : Ideal.ofBits .f32 0x42800000#32 = ((64 : ℝ) : EReal) := by
  simp [Ideal.ofBits, Ideal.ieee]
  rw [← EReal.coe_mul]
  norm_num

theorem sixtyfourth_eq : Ideal.ofBits .f32 0x3C800000#32 = ((64⁻¹ : ℝ) : EReal) := by
  simp [Ideal.ofBits, Ideal.ieee]
  rw [← EReal.coe_mul]
  norm_num

/-- A sum over all lanes, each times a weight that is zero off one head, is the sum over that head's lanes. -/
theorem sum_head {n : ℕ} (a w : Fin n → EReal) (h : ℕ) (hn : h * 64 + 64 ≤ n) (c : EReal)
    (hw : ∀ x : Fin n, w x = if x.val / 64 = h then c else 0) :
    ∑ x, a x * w x = ∑ d : Fin 64, a ⟨h * 64 + d.val, by omega⟩ * c := by
  simp only [hw, mul_ite, mul_zero]
  rw [← Finset.sum_filter]
  refine Finset.sum_bij' (fun x _ => (⟨x.val % 64, Nat.mod_lt _ (by decide)⟩ : Fin 64))
    (fun d _ => (⟨h * 64 + d.val, by omega⟩ : Fin n)) ?_ ?_ ?_ ?_ ?_
  · intro x _
    exact Finset.mem_univ _
  · intro d _
    rw [Finset.mem_filter]
    exact ⟨Finset.mem_univ _, by dsimp only; omega⟩
  · intro x hx
    rw [Finset.mem_filter] at hx
    refine Fin.ext ?_
    dsimp only
    omega
  · intro d _
    refine Fin.ext ?_
    dsimp only
    omega
  · intro x hx
    rw [Finset.mem_filter] at hx
    refine congrArg (fun y => a y * c) (Fin.ext ?_)
    dsimp only
    omega

/-- The mean of a head's squares: the sum over all lanes of the squares times 1/64 on the head and zero off it. -/
theorem mean_head {n : ℕ} (t w : Fin n → EReal) (h : ℕ) (hn : h * 64 + 64 ≤ n)
    (hw : ∀ x : Fin n, w x = if x.val / 64 = h then Ideal.ofBits .f32 0x3C800000#32 else 0) :
    Ideal.rsqrt (∑ x, t x * t x * w x + Ideal.ofBits .f32 0x358637BD#32)
      = invRms (Ideal.ofBits .f32 0x42800000#32) (fun d : Fin 64 => t ⟨h * 64 + d.val, by omega⟩) := by
  unfold invRms
  rw [sum_head (fun x => t x * t x) w h hn _ hw, sixtyfour_eq, div_real _ _ (by norm_num), sixtyfourth_eq]
  have e := ExpertsMath.weighted_sum ((64⁻¹ : ℝ) : EReal) (EReal.coe_nonneg.mpr (by norm_num)) (EReal.coe_lt_top _)
    (fun d : Fin 64 => t ⟨h * 64 + d.val, by omega⟩ * t ⟨h * 64 + d.val, by omega⟩) (fun _ => 1)
  simp only [mul_one] at e
  rw [e, mul_comm]

end Cert.InputsMath

end
-- ==== Proof.InputsBlock.lean ====
/- One block of the input projection, element by element. -/
module

public import proofs.«01_k».proof.Proof.InputsMath
public import proofs.«01_k».proof.Proof.Gen.InputsIdeal.Skeleton
public import Idealize.ShloMosaic.Lib.Pointwise

@[expose] public section

set_option maxRecDepth 16384

noncomputable section

namespace Cert.InputsBlock

open Cert.InputsIdeal Cert.InputsIdeal.Gen
open Idealize.ShloMosaic
open Cert.InputsMath

/-- The projected block, at a row and a column: the modulated row times the weights' column. -/
theorem pay5_apply (v1 v3 : Vec Ideal S1x1024 .f32) (v4 : Vec Ideal S1x1024x1024 .f32) (v16 : Vec Ideal S1x1024 .f32) (v27 : Vec Ideal S1024x1280 .bf16)
    (r : Fin 1024) (j : Fin 1280) :
    k0_pay5 v1 v3 v4 v16 v27 (ix2 r j)
      = ∑ k, modulated (fun k => v4 (ix3 0 r k)) (fun k => v16 (ix2 0 k)) (fun k => v3 (ix2 0 k)) (fun k => v1 (ix2 0 k)) k * v27 (ix2 k j) := by
  pointwise [k0_pay5, modulated, invRms]

/-- The rotation's test: the lane is in an even quarter. -/
theorem even_quarter {α : Type} (j : ℕ) (hj : j < 512) (a b : α) :
    Scalar.select (IntOp.cmpi CmpIPredicate.eq (IntOp.andi (BitVec.ofNat 32 j) 16#32) 0#32) a b = if j / 16 % 2 = 0 then a else b := by
  have h : ∀ j : Fin 512, IntOp.cmpi CmpIPredicate.eq (IntOp.andi (BitVec.ofNat 32 j.val) 16#32) 0#32 = if j.val / 16 % 2 = 0 then 1#1 else 0#1 := by
    decide +kernel
  rw [h ⟨j, hj⟩]
  dsimp only
  split <;> rfl

/-- One head's normalised lane, its mean of squares taken over all lanes with weights zero off the head. -/
theorem lane_norm {n : ℕ} (t w : Fin n → EReal) (g : EReal) (gs : Fin 64 → EReal) (h : ℕ) (hn : h * 64 + 64 ≤ n) (j : Fin n) (d : Fin 64)
    (hj : j.val = h * 64 + d.val) (hg : g = gs d)
    (hw : ∀ x : Fin n, w x = if x.val / 64 = h then Ideal.ofBits .f32 0x3C800000#32 else 0) :
    t j * Ideal.rsqrt (∑ x, t x * t x * w x + Ideal.ofBits .f32 0x358637BD#32) * g
      = headNorm (fun d : Fin 64 => t ⟨h * 64 + d.val, by omega⟩) gs d := by
  rw [mean_head t w h hn hw, hg, show j = ⟨h * 64 + d.val, by omega⟩ from Fin.ext hj]
  rfl

/-- The weights of the mean of squares: 1/64 within a head, zero across heads. -/
def Means (m : FVec Ideal S512x512 .bf16) : Prop :=
  ∀ x j : Fin 512, m (ix2 x j) = if x.val / 64 = j.val / 64 then Ideal.ofBits .f32 0x3C800000#32 else 0

/-- Four copies side by side, read at a lane. -/
theorem four_copies {α : Type} (v : Fin 128 → α) (j : Fin 512) :
    (if h : j.val < 128 then v ⟨j.val, h⟩
      else if h : j.val - 128 < 128 then v ⟨j.val - 128, h⟩
      else if h : j.val - 128 - 128 < 128 then v ⟨j.val - 128 - 128, h⟩
      else v ⟨j.val - 128 - 128 - 128, by omega⟩) = v ⟨j.val % 128, Nat.mod_lt _ (by decide)⟩ := by
  split_ifs <;> refine congrArg v (Fin.ext ?_) <;> dsimp only <;> omega

/-- A query lane: its head normalised and rotated. -/
theorem query_apply (q : FVec Ideal S1024x512 .f32) (m : FVec Ideal S512x512 .bf16) (g : FVec Ideal S1x512 .f32) (v60 v62 : Vec Ideal S1024x128 .f32)
    (gs c s : Fin 64 → EReal) (r : Fin 1024) (h : Fin 8) (d : Fin 64) (hm : Means m)
    (hg : ∀ (h : Fin 8) (d : Fin 64), g (ix2 0 ⟨h.val * 64 + d.val, by omega⟩) = gs d)
    (hc : ∀ (e : Fin 2) (d : Fin 64), v60 (ix2 r ⟨e.val * 64 + d.val, by omega⟩) = c d)
    (hs : ∀ (e : Fin 2) (d : Fin 64), v62 (ix2 r ⟨e.val * 64 + d.val, by omega⟩) = if d.val / 16 % 2 = 0 then -s d else s d) :
    k0_pay17 q m g (mulf q q) v60 v62 (ix2 r ⟨h.val * 64 + d.val, by omega⟩)
      = rotated (headNorm (fun d => q (ix2 r ⟨h.val * 64 + d.val, by omega⟩)) gs) c s d := by
  have hh := h.isLt
  have hd := d.isLt
  have norm : ∀ (j : Fin 512) (d' : Fin 64), j.val = h.val * 64 + d'.val →
      q (ix2 r j) * Ideal.rsqrt (∑ x, q (ix2 r x) * q (ix2 r x) * m (ix2 x j) + Ideal.ofBits .f32 0x358637BD#32) * g (ix2 0 j)
        = headNorm (fun d => q (ix2 r ⟨h.val * 64 + d.val, by omega⟩)) gs d' := fun j d' hj =>
    lane_norm (fun x => q (ix2 r x)) (fun x => m (ix2 x j)) _ gs h.val (by omega) j d' hj
      ((congrArg (fun j => g (ix2 0 j)) (Fin.ext hj)).trans (hg h d'))
      (fun x => (hm x j).trans (by rw [show j.val / 64 = h.val by omega]))
  pointwise [k0_pay17, k0_pay15, k0_pay16]
  rw [even_quarter _ (by omega)]
  rw [norm _ d rfl, four_copies (fun j => v60 (ix2 r j)) ⟨h.val * 64 + d.val, by omega⟩, four_copies (fun j => v62 (ix2 r j)) ⟨h.val * 64 + d.val, by omega⟩]
  have e : ∀ hh, (⟨(h.val * 64 + d.val) % 128, hh⟩ : Fin 128) = ⟨(⟨h.val % 2, by omega⟩ : Fin 2).val * 64 + d.val, by dsimp only; omega⟩ :=
    fun _ => Fin.ext (by dsimp only; omega)
  rw [e, hc, hs]
  unfold rotated
  rw [← turned_mul]
  refine congrArg (_ + ·) (congrArg (· * _) ?_)
  unfold partner
  have q2 : (h.val * 64 + d.val) / 16 % 2 = d.val / 16 % 2 := by omega
  rw [q2]
  split
  · exact norm _ _ (by dsimp only; omega)
  · exact norm _ _ (by dsimp only; omega)

/-- A key lane of the two heads, normalised. -/
theorem key_norm (k : FVec Ideal S1024x128 .f32) (m : FVec Ideal S512x512 .bf16) (g : Vec Ideal S1x128 .f32) (gs : Fin 64 → EReal)
    (r : Fin 1024) (e : Fin 2) (d : Fin 64) (hm : Means m) (hg : ∀ (e : Fin 2) (d : Fin 64), g (ix2 0 ⟨e.val * 64 + d.val, by omega⟩) = gs d)
    (j : Fin 128) (hj : j.val = e.val * 64 + d.val) :
    k0_pay14 k m g (ix2 r j) = headNorm (fun d => k (ix2 r ⟨e.val * 64 + d.val, by omega⟩)) gs d := by
  have he := e.isLt
  pointwise [k0_pay14]
  exact lane_norm (fun x => k (ix2 r x)) (fun x => m (ix2 ⟨x.val, by omega⟩ ⟨j.val, by omega⟩)) _ gs e.val (by omega) j d hj
    ((congrArg (fun j => g (ix2 0 j)) (Fin.ext hj)).trans (hg e d))
    (fun x => (hm _ _).trans (by dsimp only; rw [show j.val / 64 = e.val by omega]))

/-- A key lane, normalised and rotated. -/
theorem key_apply (k : FVec Ideal S1024x128 .f32) (m : FVec Ideal S512x512 .bf16) (g : Vec Ideal S1x128 .f32) (v60 v62 : Vec Ideal S1024x128 .f32)
    (gs c s : Fin 64 → EReal) (r : Fin 1024) (e : Fin 2) (d : Fin 64) (hm : Means m)
    (hg : ∀ (e : Fin 2) (d : Fin 64), g (ix2 0 ⟨e.val * 64 + d.val, by omega⟩) = gs d)
    (hc : ∀ (e : Fin 2) (d : Fin 64), v60 (ix2 r ⟨e.val * 64 + d.val, by omega⟩) = c d)
    (hs : ∀ (e : Fin 2) (d : Fin 64), v62 (ix2 r ⟨e.val * 64 + d.val, by omega⟩) = if d.val / 16 % 2 = 0 then -s d else s d)
    (j : Fin 128) (hj : j.val = e.val * 64 + d.val) :
    k0_pay14 k m g (ix2 r j) * k0_pay15 v60 (ix2 r j)
        + Scalar.select (IntOp.cmpi CmpIPredicate.eq (IntOp.andi (BitVec.ofNat 32 j.val) 16#32) 0#32) (k0_pay18 k m g (ix2 r j)) (k0_pay19 k m g (ix2 r j))
          * k0_pay16 v62 (ix2 r j)
      = rotated (headNorm (fun d => k (ix2 r ⟨e.val * 64 + d.val, by omega⟩)) gs) c s d := by
  have he := e.isLt
  have hd := d.isLt
  pointwise [k0_pay15, k0_pay16, k0_pay18, k0_pay19]
  rw [even_quarter _ (by omega), key_norm k m g gs r e d hm hg j hj]
  have hc' : v60 (ix2 r j) = c d := (congrArg (fun j => v60 (ix2 r j)) (Fin.ext hj)).trans (hc e d)
  have hs' : v62 (ix2 r j) = if d.val / 16 % 2 = 0 then -s d else s d := (congrArg (fun j => v62 (ix2 r j)) (Fin.ext hj)).trans (hs e d)
  rw [hc', hs']
  unfold rotated
  rw [← turned_mul]
  refine congrArg (_ + ·) (congrArg (· * _) ?_)
  unfold partner
  have q2 : j.val / 16 % 2 = d.val / 16 % 2 := by omega
  rw [q2]
  split
  · exact key_norm k m g gs r e _ hm hg _ (by dsimp only; omega)
  · exact key_norm k m g gs r e _ hm hg _ (by dsimp only; omega)

/-- The keys' and values' block: head `z` of eight is key head 0, 1, 1, 0, then value head 0, 1, 1, 0. -/
def order (z : Fin 8) : Fin 2 := ⟨(z.val + z.val / 2) % 2, Nat.mod_lt _ (by decide)⟩

theorem pay3_apply (v33 v59 v61 v63 v78 v79 : FVec Ideal S1024x128 .f32) (r : Fin 1024) (z : Fin 8) (d : Fin 64) :
    k0_pay3 v33 v59 v61 v63 v78 v79 k0_pay20 0#32 (ix3 0 r ⟨z.val * 64 + d.val, by omega⟩)
      = if z.val < 4 then
          (fun j : Fin 128 => v59 (ix2 r j) * v61 (ix2 r j)
            + Scalar.select (IntOp.cmpi CmpIPredicate.eq (IntOp.andi (BitVec.ofNat 32 j.val) 16#32) 0#32) (v78 (ix2 r j)) (v79 (ix2 r j)) * v63 (ix2 r j))
            ⟨(order z).val * 64 + d.val, by omega⟩
        else v33 (ix2 r ⟨(order z).val * 64 + d.val, by omega⟩) := by
  have hz := z.isLt
  have hd := d.isLt
  pointwise [k0_pay3, k0_pay20]
  have ho : (order z).val = (z.val + z.val / 2) % 2 := rfl
  have key : ∀ (f : Fin 128 → EReal) (x y : ℕ) (hx : x < 128) (hy : y < 128), x = y → f ⟨x, hx⟩ = f ⟨y, hy⟩ := by
    rintro f x _ hx hy rfl
    rfl
  let F : Fin 128 → EReal := fun j => v59 (ix2 r j) * v61 (ix2 r j)
    + Scalar.select (IntOp.cmpi CmpIPredicate.eq (IntOp.andi (BitVec.ofNat 32 j.val) 16#32) 0#32) (v78 (ix2 r j)) (v79 (ix2 r j)) * v63 (ix2 r j)
  by_cases h4 : z.val < 4
  · rw [if_pos h4]
    by_cases h2 : z.val * 64 + d.val < 128
    · rw [dif_pos h2]
      exact key F (z.val * 64 + d.val) ((order z).val * 64 + d.val) (by omega) (by omega) (by omega)
    · rw [dif_neg h2, dif_pos (by omega)]
      exact key F ((z.val * 64 + d.val - 128 + 128 - 64) % 128) ((order z).val * 64 + d.val) (by omega) (by omega) (by omega)
  · rw [if_neg h4, dif_neg (by omega), dif_neg (by omega)]
    by_cases h6 : z.val * 64 + d.val - 128 - 128 < 128
    · rw [dif_pos h6]
      exact key (fun j => v33 (ix2 r j)) (z.val * 64 + d.val - 128 - 128) ((order z).val * 64 + d.val) (by omega) (by omega) (by omega)
    · rw [dif_neg h6]
      exact key (fun j => v33 (ix2 r j)) ((z.val * 64 + d.val - 128 - 128 - 128 + 128 - 64) % 128) ((order z).val * 64 + d.val) (by omega) (by omega) (by omega)

theorem pay4_apply (v34 : FVec Ideal S1024x256 .f32) (v106 : Vec Ideal S256x512 .bf16) (r : Fin 1024) (j : Fin 512) :
    k0_pay4 v34 v106 (ix3 0 r j) = ∑ x, v34 (ix2 r x) * v106 (ix2 x j) := by
  pointwise [k0_pay4]

theorem pay2_apply (v76 : FVec Ideal S1024x512 .f32) (r : Fin 1024) (j : Fin 512) :
    k0_pay2 v76 (ix3 0 r j) = v76 (ix2 r j) * (((8 * Real.log 2)⁻¹ : ℝ) : EReal) := by
  pointwise [k0_pay2]
  rfl

theorem pay1_apply (v30 : FVec Ideal S1024x256 .f32) (r : Fin 1024) (j : Fin 256) : k0_pay1 v30 (ix3 0 r j) = v30 (ix2 r j) := by
  pointwise [k0_pay1]

end Cert.InputsBlock

end
-- ==== Proof.InputsValue.lean ====
/- What the input projection's kernel leaves in its four results, element by element. -/
module

public import proofs.«01_k».proof.Proof.InputsBlock
public import proofs.«01_k».proof.Proof.Gen.InputsIdeal.Value
public import Idealize.ShloMosaic.Lib.Pipeline.ValueKit
public import Idealize.ShloMosaic.Lib.Pointwise

@[expose] public section

set_option maxRecDepth 16384

noncomputable section

namespace Cert.InputsIdeal.Gen

open Idealize.ShloMosaic Idealize.ShloMosaic.TcCoe Idealize.ShloMosaic.Tactic
open Idealize.ShloMosaic.Pipeline (Dat)
open Cert.InputsMath Cert.InputsBlock

variable (m : (ℓ : Loc nD τ sig) → Buf (Elt Ideal) ℓ)

/-- A lane's head. -/
def headArr : IVec S512 32 := Host.shrsi (iotaInDim S512 32 0) (broadcastInDim S512 ![] bcast_S_S512 (constantI S_ 32 6#32))

/-- The matrix that averages over a head. -/
def meansArr : FVec Ideal S512x512 .bf16 :=
  truncf .bf16 (select (cmpi .eq (broadcastInDim S512x512 ![0, 1] bcast_S512x1_S512x512_0_1 (broadcastInDim S512x1 ![0] bcast_S512_S512x1_0 headArr))
      (broadcastInDim S512x512 ![0, 1] bcast_S1x512_S512x512_0_1 (broadcastInDim S1x512 ![1] bcast_S512_S1x512_1 headArr)))
    (broadcastInDim S512x512 ![] bcast_S_S512x512 (constant S_ .f32 0x3C800000#32))
    (broadcastInDim S512x512 ![] bcast_S_S512x512 (constant S_ .f32 0x00000000#32))) bitsLt_bf16_f32

/-- The signed sines, once. -/
def sinArr (s : FVec Ideal S4096x64 .f32) : FVec Ideal S4096x64 .f32 :=
  select (broadcastInDim S4096x64 ![0, 1] bcast_S1x64_S4096x64_0_1
      (cmpi .eq (broadcastInDim S1x64 ![1] bcast_S64_S1x64_1 (andi (iotaInDim S64 32 0) (broadcastInDim S64 ![] bcast_S_S64 (constantI S_ 32 16#32))))
        (broadcastInDim S1x64 ![] bcast_S_S1x64 (constantI S_ 32 0#32))))
    (Host.negf s) s

/-- A table twice side by side. -/
def twice (x : FVec Ideal S4096x64 .f32) : FVec Ideal S4096x128 .f32 :=
  concatenate S4096x128 1 [⟨S4096x64, x⟩, ⟨S4096x64, x⟩] concatenates_S4096x64_S4096x64_S4096x128_d1

/-- A head's weights for each of the eight query heads. -/
def tiled8 (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

/-- A head's weights for each of the two key heads. -/
def tiled2 (g : FVec Ideal S64 .f32) : FVec Ideal S1x128 .f32 :=
  broadcastInDim S1x128 ![1] bcast_S128_S1x128_1 (shapeCast S128 (broadcastInDim S2x64 ![0, 1] bcast_S1x64_S2x64_0_1 (shapeCast S1x64 g shapeCasts_S64_S1x64)) shapeCasts_S2x64_S128)

theorem V_v9 (c : Dev nD) : V m c main_v9 = meansArr := by
  unfold_abbrev_sides
  simp only [hostOps0, hostOps0_1, hostOps0_2, hostOps0_3, hostOps0_4, List.flatten_cons, List.flatten_nil, List.append_nil, List.cons_append, List.nil_append]
  after_results_simp
  rfl

theorem V_v21 (c : Dev nD) : V m c main_v21 = tiled8 (m ((c : Thread nD τ).loc main_arg4)) := by
  unfold_abbrev_sides
  simp only [hostOps0, hostOps0_1, hostOps0_2, hostOps0_3, hostOps0_4, List.flatten_cons, List.flatten_nil, List.append_nil, List.cons_append, List.nil_append]
  after_results_simp
  rfl

theorem V_v25 (c : Dev nD) : V m c main_v25 = tiled2 (m ((c : Thread nD τ).loc main_arg5)) := by
  unfold_abbrev_sides
  simp only [hostOps0, hostOps0_1, hostOps0_2, hostOps0_3, hostOps0_4, List.flatten_cons, List.flatten_nil, List.append_nil, List.cons_append, List.nil_append]
  after_results_simp
  rfl

theorem V_v26 (c : Dev nD) : V m c main_v26 = broadcastInDim S1x1024 ![1] bcast_S1024_S1x1024_1 (m ((c : Thread nD τ).loc main_arg2)) := by
  unfold_abbrev_sides
  simp only [hostOps0, hostOps0_1, hostOps0_2, hostOps0_3, hostOps0_4, List.flatten_cons, List.flatten_nil, List.append_nil, List.cons_append, List.nil_append]
  after_results_simp

theorem V_v27 (c : Dev nD) : V m c main_v27 = truncf (F := Ideal) .bf16 (m ((c : Thread nD τ).loc main_arg3)) bitsLt_bf16_f32 := by
  unfold_abbrev_sides
  simp only [hostOps0, hostOps0_1, hostOps0_2, hostOps0_3, hostOps0_4, List.flatten_cons, List.flatten_nil, List.append_nil, List.cons_append, List.nil_append]
  after_results_simp

theorem V_v28 (c : Dev nD) : V m c main_v28 = twice (m ((c : Thread nD τ).loc main_arg7)) := by
  unfold_abbrev_sides
  simp only [hostOps0, hostOps0_1, hostOps0_2, hostOps0_3, hostOps0_4, List.flatten_cons, List.flatten_nil, List.append_nil, List.cons_append, List.nil_append]
  after_results_simp
  after_results_loop
  rfl

theorem V_v29 (c : Dev nD) : V m c main_v29 = twice (sinArr (m ((c : Thread nD τ).loc main_arg8))) := by
  unfold_abbrev_sides
  simp only [hostOps0, hostOps0_1, hostOps0_2, hostOps0_3, hostOps0_4, List.flatten_cons, List.flatten_nil, List.append_nil, List.cons_append, List.nil_append]
  after_results_simp
  after_results_loop
  rfl

theorem tiled8_at (g : FVec Ideal S64 .f32) (h : Fin 8) (d : Fin 64) : tiled8 g (ix2 0 ⟨h.val * 64 + d.val, by omega⟩) = g (ix1 d) := by
  pointwise [tiled8]

theorem tiled2_at (g : FVec Ideal S64 .f32) (h : Fin 2) (d : Fin 64) : tiled2 g (ix2 0 ⟨h.val * 64 + d.val, by omega⟩) = g (ix1 d) := by
  pointwise [tiled2]

theorem twice_at (x : FVec Ideal S4096x64 .f32) (n : Fin 4096) (e : Fin 2) (d : Fin 64) :
    twice x (ix2 n ⟨e.val * 64 + d.val, by omega⟩) = x (ix2 n d) := by
  have he := e.isLt
  have hd := d.isLt
  pointwise [twice]
  split_ifs <;> refine congrArg (fun j => x (ix2 n j)) (Fin.ext ?_) <;> dsimp only <;> omega

theorem sinArr_at (s : FVec Ideal S4096x64 .f32) (n : Fin 4096) (d : Fin 64) :
    sinArr s (ix2 n d) = if d.val / 16 % 2 = 0 then -s (ix2 n d) else s (ix2 n d) := by
  pointwise [sinArr]
  rw [even_quarter _ (by omega)]

theorem headArr_at (j : Fin 512) : headArr (ix1 j) = BitVec.ofNat 32 (j.val / 64) := by
  have h : ∀ j : Fin 512, IntOp.shrsi ArithUnit.host (BitVec.ofNat 32 j.val) 6#32 = BitVec.ofNat 32 (j.val / 64) := by decide +kernel
  pointwise [headArr]
  exact h j

theorem meansArr_means : Means meansArr := by
  intro x j
  have h : ∀ x j : Fin 8, IntOp.cmpi CmpIPredicate.eq (BitVec.ofNat 32 x.val) (BitVec.ofNat 32 j.val) = if x.val = j.val then 1#1 else 0#1 := by
    decide +kernel
  pointwise [meansArr]
  rw [headArr_at, headArr_at]
  rw [h ⟨x.val / 64, by omega⟩ ⟨j.val / 64, by omega⟩]
  split <;> rfl

/-- A grid point's batch and its tile. -/
def coordB (t : Fin grid0.N) : Fin 4 := ⟨(grid0.coords t 0).val, (grid0.coords t 0).isLt⟩

def coordW (t : Fin grid0.N) : Fin 4 := ⟨(grid0.coords t 1).val, (grid0.coords t 1).isLt⟩

theorem iblk0_at (c : Dev nD) (t : Fin cfg0.N) (r k : Fin 1024) : iblk m c 0 t (ix3 0 r k) = m ((c : Thread nD τ).loc main_arg0) (ix3 (coordB t) ⟨(coordW t).val * 1024 + r.val, by omega⟩ k) := by
  rw [← V_main_arg0 m c]
  have e : win0_0.index t = ![(coordB t).val, (coordW t).val, 0] := (by decide +kernel : ∀ t : Fin grid0.N, win0_0.index t = ![(coordB t).val, (coordW t).val, 0]) t
  blk_simp [iblk]
  refine congrArg (V m c main_arg0) ?_
  funext a
  fin_cases a <;> refine Fin.ext ?_ <;> blk_simp [e] <;> simp

theorem iblk1_at (c : Dev nD) (t : Fin cfg0.N) (r : Fin 8) (k : Fin 6144) : iblk m c 1 t (ix2 r k) = m ((c : Thread nD τ).loc main_arg1) (ix2 r k) := by
  rw [← V_main_arg1 m c]
  have e : win0_1.index t = ![0, 0] := (by decide +kernel : ∀ t : Fin grid0.N, win0_1.index t = ![0, 0]) t
  blk_simp [iblk]
  refine congrArg (V m c main_arg1) ?_
  funext a
  fin_cases a <;> refine Fin.ext ?_ <;> blk_simp [e] <;> simp

theorem iblk2_at (c : Dev nD) (t : Fin cfg0.N) (k : Fin 1024) : iblk m c 2 t (ix2 0 k) = m ((c : Thread nD τ).loc main_arg2) (ix1 k) := by
  refine Eq.trans ?_ (show broadcastInDim S1x1024 ![1] bcast_S1024_S1x1024_1 (m ((c : Thread nD τ).loc main_arg2)) (ix2 0 k) = _ by pointwise)
  rw [← V_v26 m c]
  have e : win0_2.index t = ![0, 0] := (by decide +kernel : ∀ t : Fin grid0.N, win0_2.index t = ![0, 0]) t
  blk_simp [iblk]
  refine congrArg (V m c main_v26) ?_
  funext a
  fin_cases a <;> refine Fin.ext ?_ <;> blk_simp [e] <;> simp

theorem iblk3_at (c : Dev nD) (t : Fin cfg0.N) (k : Fin 1024) (j : Fin 1280) : iblk m c 3 t (ix2 k j) = m ((c : Thread nD τ).loc main_arg3) (ix2 k j) := by
  refine Eq.trans ?_ (show truncf (F := Ideal) .bf16 (m ((c : Thread nD τ).loc main_arg3)) bitsLt_bf16_f32 (ix2 k j) = _ by pointwise)
  rw [← V_v27 m c]
  have e : win0_3.index t = ![0, 0] := (by decide +kernel : ∀ t : Fin grid0.N, win0_3.index t = ![0, 0]) t
  blk_simp [iblk]
  refine congrArg (V m c main_v27) ?_
  funext a
  fin_cases a <;> refine Fin.ext ?_ <;> blk_simp [e] <;> simp

theorem iblk4_at (c : Dev nD) (t : Fin cfg0.N) (x j : Fin 512) : iblk m c 4 t (ix2 x j) = meansArr (ix2 x j) := by
  rw [← V_v9 m c]
  have e : win0_4.index t = ![0, 0] := (by decide +kernel : ∀ t : Fin grid0.N, win0_4.index t = ![0, 0]) t
  blk_simp [iblk]
  refine congrArg (V m c main_v9) ?_
  funext a
  fin_cases a <;> refine Fin.ext ?_ <;> blk_simp [e] <;> simp

theorem iblk5_at (c : Dev nD) (t : Fin cfg0.N) (j : Fin 512) : iblk m c 5 t (ix2 0 j) = tiled8 (m ((c : Thread nD τ).loc main_arg4)) (ix2 0 j) := by
  rw [← V_v21 m c]
  have e : win0_5.index t = ![0, 0] := (by decide +kernel : ∀ t : Fin grid0.N, win0_5.index t = ![0, 0]) t
  blk_simp [iblk]
  refine congrArg (V m c main_v21) ?_
  funext a
  fin_cases a <;> refine Fin.ext ?_ <;> blk_simp [e] <;> simp

theorem iblk6_at (c : Dev nD) (t : Fin cfg0.N) (j : Fin 128) : iblk m c 6 t (ix2 0 j) = tiled2 (m ((c : Thread nD τ).loc main_arg5)) (ix2 0 j) := by
  rw [← V_v25 m c]
  have e : win0_6.index t = ![0, 0] := (by decide +kernel : ∀ t : Fin grid0.N, win0_6.index t = ![0, 0]) t
  blk_simp [iblk]
  refine congrArg (V m c main_v25) ?_
  funext a
  fin_cases a <;> refine Fin.ext ?_ <;> blk_simp [e] <;> simp

theorem iblk7_at (c : Dev nD) (t : Fin cfg0.N) (k : Fin 256) (j : Fin 512) : iblk m c 7 t (ix2 k j) = m ((c : Thread nD τ).loc main_arg6) (ix2 k j) := by
  rw [← V_main_arg6 m c]
  have e : win0_7.index t = ![0, 0] := (by decide +kernel : ∀ t : Fin grid0.N, win0_7.index t = ![0, 0]) t
  blk_simp [iblk]
  refine congrArg (V m c main_arg6) ?_
  funext a
  fin_cases a <;> refine Fin.ext ?_ <;> blk_simp [e] <;> simp

theorem iblk8_at (c : Dev nD) (t : Fin cfg0.N) (r : Fin 1024) (j : Fin 128) : iblk m c 8 t (ix2 r j) = twice (m ((c : Thread nD τ).loc main_arg7)) (ix2 ⟨(coordW t).val * 1024 + r.val, by omega⟩ j) := by
  rw [← V_v28 m c]
  have e : win0_8.index t = ![(coordW t).val, 0] := (by decide +kernel : ∀ t : Fin grid0.N, win0_8.index t = ![(coordW t).val, 0]) t
  blk_simp [iblk]
  refine congrArg (V m c main_v28) ?_
  funext a
  fin_cases a <;> refine Fin.ext ?_ <;> blk_simp [e] <;> simp

theorem iblk9_at (c : Dev nD) (t : Fin cfg0.N) (r : Fin 1024) (j : Fin 128) : iblk m c 9 t (ix2 r j) = twice (sinArr (m ((c : Thread nD τ).loc main_arg8))) (ix2 ⟨(coordW t).val * 1024 + r.val, by omega⟩ j) := by
  rw [← V_v29 m c]
  have e : win0_9.index t = ![(coordW t).val, 0] := (by decide +kernel : ∀ t : Fin grid0.N, win0_9.index t = ![(coordW t).val, 0]) t
  blk_simp [iblk]
  refine congrArg (V m c main_v29) ?_
  funext a
  fin_cases a <;> refine Fin.ext ?_ <;> blk_simp [e] <;> simp

end Cert.InputsIdeal.Gen

end
-- ==== Proof.InputsRef.lean ====
/- What the reference of the input projection computes on extended reals, element by element. -/
module

public import proofs.«01_k».proof.Proof.InputsMath
public import proofs.«01_k».proof.Proof.Gen.InputsReferenceIdeal.Read
public import Idealize.ShloMosaic.Lib.Pointwise

@[expose] public section

set_option maxRecDepth 16384

noncomputable section

namespace Cert.InputsReferenceIdeal.Read

open Cert.InputsReferenceIdeal Cert.InputsReferenceIdeal.Gen Idealize.ShloMosaic Idealize.ShloMosaic.TcCoe
open Cert.InputsMath

variable (x0 : FVec Ideal S4x4096x1024 .f32) (x1 : FVec Ideal S8x6144 .f32) (x2 : FVec Ideal S1024 .f32) (x3 : FVec Ideal S1024x1280 .f32)
  (x4 x5 : FVec Ideal S64 .f32) (x6 : FVec Ideal S256x512 .bf16) (x7 x8 : FVec Ideal S4096x64 .f32)

/-- One element of the projection: a row, modulated, against a column. -/
def proj (b : Fin 4) (n : Fin 4096) (j : Fin 1280) : EReal :=
  ∑ k, modulated (fun k => x0 (ix3 b n k)) (fun k => x2 (ix1 k)) (fun k => x1 (ix2 ⟨b.val, by omega⟩ ⟨1024 + k.val, by omega⟩))
    (fun k => x1 (ix2 ⟨b.val, by omega⟩ ⟨k.val, by omega⟩)) k * x3 (ix2 k j)

theorem v12_at (b : Fin 4) (n : Fin 4096) (z : Fin 1) :
    val_main_v12 (F := Ideal) x0 (ix3 b n z) = invRms (Ideal.ofBits .f32 0x44800000#32) (fun k => x0 (ix3 b n k)) := by
  pointwise [val_main_v12, val_main_v11, val_main_v10, val_main_cst_1, val_main_v9, val_main_v8, val_main_cst_0, val_main_v7, val_main_v6, val_main_v5, val_main_cst, invRms]

theorem v23_at (b : Fin 4) (n : Fin 4096) (k : Fin 1024) :
    val_main_v23 (F := Ideal) x0 x1 x2 (ix3 b n k) = modulated (fun k => x0 (ix3 b n k)) (fun k => x2 (ix1 k)) (fun k => x1 (ix2 ⟨b.val, by omega⟩ ⟨1024 + k.val, by omega⟩))
      (fun k => x1 (ix2 ⟨b.val, by omega⟩ ⟨k.val, by omega⟩)) k := by
  pointwise [val_main_v23, val_main_v22, val_main_v21, val_main_v20, val_main_v19, val_main_v18, val_main_cst_2, val_main_v17, val_main_v16, val_main_v15, val_main_v14, val_main_v13,
    val_main_v4, val_main_v3, val_main_v2, val_main_v1]
  rw [v12_at]
  rfl

theorem v24_at (b : Fin 4) (n : Fin 4096) (j : Fin 1280) :
    val_main_v24 (F := Ideal) x0 x1 x2 x3 (ix3 b n j) = proj x0 x1 x2 x3 b n j := by
  unfold proj
  pointwise [val_main_v24]
  simp only [v23_at]

theorem v26_at (b : Fin 4) (n : Fin 4096) (h : Fin 8) (d : Fin 64) :
    val_main_v26 (F := Ideal) x0 x1 x2 x3 (ix4 b n h d) = proj x0 x1 x2 x3 b n ⟨256 + (h.val * 64 + d.val), by omega⟩ := by
  pointwise [val_main_v26, val_main_v25]
  exact v24_at x0 x1 x2 x3 b n _

theorem v34_at (b : Fin 4) (n : Fin 4096) (h : Fin 8) (z : Fin 1) :
    val_main_v34 (F := Ideal) x0 x1 x2 x3 (ix4 b n h z)
      = invRms (Ideal.ofBits .f32 0x42800000#32) (fun d : Fin 64 => val_main_v26 (F := Ideal) x0 x1 x2 x3 (ix4 b n h d)) := by
  pointwise [val_main_v34, val_main_v33, val_main_v32, val_main_cst_5, val_main_v31, val_main_v30, val_main_cst_4, val_main_v29, val_main_v28, val_main_v27, val_main_cst_3, invRms]

theorem v39_at (b : Fin 4) (n : Fin 4096) (h : Fin 8) (d : Fin 64) :
    val_main_v39 (F := Ideal) x0 x1 x2 x3 x4 (ix4 b n h d)
      = headNorm (fun d : Fin 64 => val_main_v26 (F := Ideal) x0 x1 x2 x3 (ix4 b n h d)) (fun d => x4 (ix1 d)) d := by
  pointwise [val_main_v39, val_main_v38, val_main_v37, val_main_v36, val_main_v35]
  rw [v34_at]
  rfl

/-- The four quarters side by side, the second negated before the first and the fourth before the third. -/
theorem quarters (t c s : Fin 64 → EReal) (d : Fin 64) :
    t d * c d
      + (if h1 : d.val < 16 then -t ⟨16 + d.val, by omega⟩
         else if h2 : d.val - 16 < 16 then t ⟨d.val - 16, by omega⟩
         else if h3 : d.val - 16 - 16 < 16 then -t ⟨48 + (d.val - 16 - 16), by omega⟩
         else t ⟨32 + (d.val - 16 - 16 - 16), by omega⟩) * s d = rotated t c s d := by
  unfold rotated turned partner
  refine congrArg (_ + ·) (congrArg (· * _) ?_)
  have key : ∀ (x y : ℕ) (hx : x < 64) (hy : y < 64), x = y → t ⟨x, hx⟩ = t ⟨y, hy⟩ := by
    rintro x _ hx hy rfl
    rfl
  by_cases h1 : d.val < 16
  · rw [dif_pos h1, if_pos (by omega), if_pos (by omega)]
    exact congrArg (fun x => -x) (key _ _ _ _ (by omega))
  rw [dif_neg h1]
  by_cases h2 : d.val - 16 < 16
  · rw [dif_pos h2, if_neg (by omega), if_neg (by omega)]
    exact key _ _ _ _ (by omega)
  rw [dif_neg h2]
  by_cases h3 : d.val - 16 - 16 < 16
  · rw [dif_pos h3, if_pos (by omega), if_pos (by omega)]
    exact congrArg (fun x => -x) (key _ _ _ _ (by omega))
  · rw [dif_neg h3, if_neg (by omega), if_neg (by omega)]
    exact key _ _ _ _ (by omega)

theorem v53_at (b : Fin 4) (n : Fin 4096) (h : Fin 8) (d : Fin 64) :
    val_main_v53 (F := Ideal) x0 x1 x2 x3 x4 x7 x8 (ix4 b n h d)
      = rotated (fun d : Fin 64 => val_main_v39 (F := Ideal) x0 x1 x2 x3 x4 (ix4 b n h d)) (fun d => x7 (ix2 n d)) (fun d => x8 (ix2 n d)) d := by
  pointwise [val_main_v53, val_main_v52, val_main_v51, val_main_v50, val_main_v49, val_main_v48, val_main_v47, val_main_v46, val_main_v45, val_main_v44, val_main_v43, val_main_v42,
    val_main_v41, val_main_v40]
  rw [← quarters (fun d : Fin 64 => val_main_v39 (F := Ideal) x0 x1 x2 x3 x4 (ix4 b n h d)) (fun d => x7 (ix2 n d)) (fun d => x8 (ix2 n d)) d]

theorem v55_at (b : Fin 4) (n : Fin 4096) (h : Fin 2) (d : Fin 64) :
    val_main_v55 (F := Ideal) x0 x1 x2 x3 (ix4 b n h d) = proj x0 x1 x2 x3 b n ⟨768 + (h.val * 64 + d.val), by omega⟩ := by
  pointwise [val_main_v55, val_main_v54]
  exact v24_at x0 x1 x2 x3 b n _

theorem v63_at (b : Fin 4) (n : Fin 4096) (h : Fin 2) (z : Fin 1) :
    val_main_v63 (F := Ideal) x0 x1 x2 x3 (ix4 b n h z)
      = invRms (Ideal.ofBits .f32 0x42800000#32) (fun d : Fin 64 => val_main_v55 (F := Ideal) x0 x1 x2 x3 (ix4 b n h d)) := by
  pointwise [val_main_v63, val_main_v62, val_main_v61, val_main_cst_8, val_main_v60, val_main_v59, val_main_cst_7, val_main_v58, val_main_v57, val_main_v56, val_main_cst_6, invRms]

theorem v68_at (b : Fin 4) (n : Fin 4096) (h : Fin 2) (d : Fin 64) :
    val_main_v68 (F := Ideal) x0 x1 x2 x3 x5 (ix4 b n h d)
      = headNorm (fun d : Fin 64 => val_main_v55 (F := Ideal) x0 x1 x2 x3 (ix4 b n h d)) (fun d => x5 (ix1 d)) d := by
  pointwise [val_main_v68, val_main_v67, val_main_v66, val_main_v65, val_main_v64]
  rw [v63_at]
  rfl

theorem v82_at (b : Fin 4) (n : Fin 4096) (h : Fin 2) (d : Fin 64) :
    val_main_v82 (F := Ideal) x0 x1 x2 x3 x5 x7 x8 (ix4 b n h d)
      = rotated (fun d : Fin 64 => val_main_v68 (F := Ideal) x0 x1 x2 x3 x5 (ix4 b n h d)) (fun d => x7 (ix2 n d)) (fun d => x8 (ix2 n d)) d := by
  pointwise [val_main_v82, val_main_v81, val_main_v80, val_main_v79, val_main_v78, val_main_v77, val_main_v76, val_main_v75, val_main_v74, val_main_v73, val_main_v72, val_main_v71,
    val_main_v70, val_main_v69]
  rw [← quarters (fun d : Fin 64 => val_main_v68 (F := Ideal) x0 x1 x2 x3 x5 (ix4 b n h d)) (fun d => x7 (ix2 n d)) (fun d => x8 (ix2 n d)) d]

theorem v84_at (b : Fin 4) (n : Fin 4096) (h : Fin 2) (d : Fin 64) :
    val_main_v84 (F := Ideal) x0 x1 x2 x3 (ix4 b n h d) = proj x0 x1 x2 x3 b n ⟨896 + (h.val * 64 + d.val), by omega⟩ := by
  pointwise [val_main_v84, val_main_v83]
  exact v24_at x0 x1 x2 x3 b n _

theorem v95_at (b : Fin 4) (n : Fin 4096) (h : Fin 8) (d : Fin 64) :
    val_main_v95 (F := Ideal) x0 x1 x2 x3 x4 x7 x8 (ix3 b n ⟨h.val * 64 + d.val, by omega⟩)
      = val_main_v53 (F := Ideal) x0 x1 x2 x3 x4 x7 x8 (ix4 b n h d) * (((8 * Real.log 2)⁻¹ : ℝ) : EReal) := by
  pointwise [val_main_v95, val_main_v94, val_main_v88, val_main_v87, val_main_v86, val_main_v85, val_main_cst_9, val_main_cst_10]
  exact div_lam _

/-- Two heads swapped. -/
theorem swapped_at (x : FVec Ideal S4x4096x2x64 .f32) (b : Fin 4) (n : Fin 4096) (e : Fin 2) (d : Fin 64) :
    Host.reverse (s := S4x4096x2x64) [2] x (ix4 b n e d) = x (ix4 b n e.rev d) := by
  rw [Host.reverse_apply]
  refine congrArg x (funext fun a => ?_)
  fin_cases a <;> rfl

/-- Two heads, the two swapped, two others, those swapped. -/
theorem four_pairs (x x' y y' : FVec Ideal S4x4096x2x64 .f32) (h) (b : Fin 4) (n : Fin 4096) (z : Fin 8) (d : Fin 64) :
    concatenate S4x4096x8x64 2 [⟨S4x4096x2x64, x⟩, ⟨S4x4096x2x64, x'⟩, ⟨S4x4096x2x64, y⟩, ⟨S4x4096x2x64, y'⟩] h (ix4 b n z d)
      = if z.val < 2 then x (ix4 b n ⟨z.val % 2, Nat.mod_lt _ (by decide)⟩ d)
        else if z.val < 4 then x' (ix4 b n ⟨z.val % 2, Nat.mod_lt _ (by decide)⟩ d)
        else if z.val < 6 then y (ix4 b n ⟨z.val % 2, Nat.mod_lt _ (by decide)⟩ d)
        else y' (ix4 b n ⟨z.val % 2, Nat.mod_lt _ (by decide)⟩ d) := by
  have hz := z.isLt
  have key : ∀ (f : FVec Ideal S4x4096x2x64 .f32) (p q : ℕ) (hp : p < 2) (hq : q < 2), p = q → f (ix4 b n ⟨p, hp⟩ d) = f (ix4 b n ⟨q, hq⟩ d) := by
    rintro f p _ hp hq rfl
    rfl
  pointwise
  by_cases h2 : z.val < 2
  · rw [dif_pos h2, if_pos h2]
    exact key x _ _ _ _ (by omega)
  rw [dif_neg h2, if_neg h2]
  by_cases h4 : z.val < 4
  · rw [dif_pos (by omega), if_pos h4]
    exact key x' _ _ _ _ (by omega)
  rw [dif_neg (by omega), if_neg h4]
  by_cases h6 : z.val < 6
  · rw [dif_pos (by omega), if_pos h6]
    exact key y _ _ _ _ (by omega)
  rw [dif_neg (by omega), if_neg h6]
  exact key y' _ _ _ _ (by omega)

/-- Eight heads side by side. -/
theorem flat_at (x : FVec Ideal S4x4096x8x64 .f32) (b : Fin 4) (n : Fin 4096) (z : Fin 8) (d : Fin 64) :
    (shapeCast S4x4096x512 x shapeCasts_S4x4096x8x64_S4x4096x512 : FVec Ideal S4x4096x512 .f32) (ix3 b n ⟨z.val * 64 + d.val, by omega⟩) = x (ix4 b n z d) := by
  pointwise

theorem v97_at (b : Fin 4) (n : Fin 4096) (z : Fin 8) (d : Fin 64) :
    val_main_v97 (F := Ideal) x0 x1 x2 x3 x5 x7 x8 (ix3 b n ⟨z.val * 64 + d.val, by omega⟩)
      = if z.val < 4 then val_main_v82 (F := Ideal) x0 x1 x2 x3 x5 x7 x8 (ix4 b n ⟨(z.val + z.val / 2) % 2, Nat.mod_lt _ (by decide)⟩ d)
        else val_main_v84 (F := Ideal) x0 x1 x2 x3 (ix4 b n ⟨(z.val + z.val / 2) % 2, Nat.mod_lt _ (by decide)⟩ d) := by
  have hz := z.isLt
  have key : ∀ (f : FVec Ideal S4x4096x2x64 .f32) (p q : Fin 2), p.val = q.val → f (ix4 b n p d) = f (ix4 b n q d) :=
    fun f p q h => congrArg (fun e => f (ix4 b n e d)) (Fin.ext h)
  have plain : ∀ (x : FVec Ideal S4x4096x512 .f32) (h) (i : S4x4096x512.Idx), truncf .bf16 x h i = x i := fun _ _ _ => rfl
  unfold val_main_v97 val_main_v96
  rw [plain, flat_at]
  unfold val_main_v91 val_main_v89 val_main_v90
  generalize val_main_v82 (F := Ideal) x0 x1 x2 x3 x5 x7 x8 = keys
  generalize val_main_v84 (F := Ideal) x0 x1 x2 x3 = values
  rw [four_pairs, swapped_at, swapped_at]
  by_cases h2 : z.val < 2
  · rw [if_pos h2, if_pos (by omega)]
    exact key keys _ _ (by dsimp only; omega)
  rw [if_neg h2]
  by_cases h4 : z.val < 4
  · rw [if_pos h4, if_pos h4]
    exact key keys _ _ (by rw [Fin.val_rev]; dsimp only; omega)
  rw [if_neg h4, if_neg h4]
  by_cases h6 : z.val < 6
  · rw [if_pos h6]
    exact key values _ _ (by dsimp only; omega)
  · rw [if_neg h6]
    exact key values _ _ (by rw [Fin.val_rev]; dsimp only; omega)

theorem v100_at (b : Fin 4) (n : Fin 4096) (j : Fin 512) :
    val_main_v100 (F := Ideal) x0 x1 x2 x3 x6 (ix3 b n j)
      = ∑ k : Fin 256, proj x0 x1 x2 x3 b n ⟨1024 + k.val, by omega⟩ * x6 (ix2 k j) := by
  pointwise [val_main_v100, val_main_v99, val_main_v98, val_main_v0]
  simp only [v24_at]

theorem v93_at (b : Fin 4) (n : Fin 4096) (j : Fin 256) :
    val_main_v93 (F := Ideal) x0 x1 x2 x3 (ix3 b n j) = proj x0 x1 x2 x3 b n ⟨j.val, by omega⟩ := by
  pointwise [val_main_v93, val_main_v92]
  exact v24_at x0 x1 x2 x3 b n _

end Cert.InputsReferenceIdeal.Read

end
-- ==== Proof.InputsOut.lean ====
/- What the input projection's kernel leaves in its four results: what the reference has there. -/
module

public import proofs.«01_k».proof.Proof.InputsValue
public import proofs.«01_k».proof.Proof.InputsRef

@[expose] public section

set_option maxRecDepth 16384

noncomputable section

namespace Cert.InputsIdeal.Gen

open Idealize.ShloMosaic Idealize.ShloMosaic.TcCoe Idealize.ShloMosaic.Tactic
open Idealize.ShloMosaic.Pipeline (Dat)
open Cert.InputsMath Cert.InputsBlock

variable (m : (ℓ : Loc nD τ sig) → Buf (Elt Ideal) ℓ)

/-- The row of shifts a grid point reads. -/
def shiftRow (i : grid0.Coords) (x : Vec Ideal S8x6144 .f32) : Vec Ideal S1x1024 .f32 :=
  View.ld x (Rect.unit (s := S8x6144) (k0_off1 i) S1x1024.size (k0_off1_inb i))

/-- The row of scales. -/
def scaleRow (i : grid0.Coords) (x : Vec Ideal S8x6144 .f32) : Vec Ideal S1x1024 .f32 :=
  View.ld x (Rect.unit (s := S8x6144) (k0_off2 i) S1x1024.size (k0_off2_inb i))

theorem batch_index (i : Fin 4) : (Scalar.indexCast (BitVec.ofNat 32 i.val)).toNat = i.val := by
  revert i
  decide +kernel

theorem shiftRow_at (t : Fin grid0.N) (x : Vec Ideal S8x6144 .f32) (k : Fin 1024) :
    shiftRow (grid0.coords t) x (ix2 0 k) = x (ix2 ⟨(coordB t).val, by omega⟩ ⟨k.val, by omega⟩) := by
  refine View.ld_unit_apply_of x _ _ _ _ _ fun a => ?_
  fin_cases a
  · exact (batch_index (coordB t)).symm
  · exact (Nat.zero_add _).symm

theorem scaleRow_at (t : Fin grid0.N) (x : Vec Ideal S8x6144 .f32) (k : Fin 1024) :
    scaleRow (grid0.coords t) x (ix2 0 k) = x (ix2 ⟨(coordB t).val, by omega⟩ ⟨1024 + k.val, by omega⟩) := by
  refine View.ld_unit_apply_of x _ _ _ _ _ fun a => ?_
  fin_cases a
  · exact (batch_index (coordB t)).symm
  · rfl

theorem out10 (c : Dev nD) (t : Fin cfg0.N) : (outsAt0 m c t).1 = k0_pay1 (k0_pay6 (shiftRow (grid0.coords t) (iblk m c 1 t)) (scaleRow (grid0.coords t) (iblk m c 1 t)) (iblk m c 0 t) (iblk m c 2 t) (iblk m c 3 t)) := by
  unfold outsAt0 out0_A_10
  dsimp only
  rw [View.read_writes_junk_eq_canon]
  unfold kernelRun0_A
  dsimp only
  unfold kernelRun0_A.sl.r
  rw [View.canon_cons_unit_lit _ _ _ (by decide)]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  simp (disch := decide) only [View.ld_unit_lit]
  rfl

theorem out11 (c : Dev nD) (t : Fin cfg0.N) : (outsAt0 m c t).2.1 = k0_pay2 (k0_pay17 (k0_pay7 (shiftRow (grid0.coords t) (iblk m c 1 t)) (scaleRow (grid0.coords t) (iblk m c 1 t)) (iblk m c 0 t) (iblk m c 2 t) (iblk m c 3 t)) (k0_pay11 (iblk m c 4 t)) (k0_pay12 (iblk m c 5 t)) (k0_pay13 (shiftRow (grid0.coords t) (iblk m c 1 t)) (scaleRow (grid0.coords t) (iblk m c 1 t)) (iblk m c 0 t) (iblk m c 2 t) (iblk m c 3 t)) (iblk m c 8 t) (iblk m c 9 t)) := by
  unfold outsAt0 out0_A_11
  dsimp only
  rw [View.read_writes_junk_eq_canon]
  unfold kernelRun0_A
  dsimp only
  unfold kernelRun0_A.sl.r_11 kernelRun0_A.sl.r_1 kernelRun0_A.sl.r_5 kernelRun0_A.sl.r_6 kernelRun0_A.sl.r_7
  rw [View.canon_cons_unit_lit _ _ _ (by decide)]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  simp (disch := decide) only [View.ld_unit_lit]
  rfl

theorem out12 (c : Dev nD) (t : Fin cfg0.N) : (outsAt0 m c t).2.2.1 = k0_pay3 (k0_pay9 (shiftRow (grid0.coords t) (iblk m c 1 t)) (scaleRow (grid0.coords t) (iblk m c 1 t)) (iblk m c 0 t) (iblk m c 2 t) (iblk m c 3 t)) (k0_pay14 (k0_pay8 (shiftRow (grid0.coords t) (iblk m c 1 t)) (scaleRow (grid0.coords t) (iblk m c 1 t)) (iblk m c 0 t) (iblk m c 2 t) (iblk m c 3 t)) (k0_pay11 (iblk m c 4 t)) (iblk m c 6 t)) (k0_pay15 (iblk m c 8 t)) (k0_pay16 (iblk m c 9 t)) (k0_pay18 (k0_pay8 (shiftRow (grid0.coords t) (iblk m c 1 t)) (scaleRow (grid0.coords t) (iblk m c 1 t)) (iblk m c 0 t) (iblk m c 2 t) (iblk m c 3 t)) (k0_pay11 (iblk m c 4 t)) (iblk m c 6 t)) (k0_pay19 (k0_pay8 (shiftRow (grid0.coords t) (iblk m c 1 t)) (scaleRow (grid0.coords t) (iblk m c 1 t)) (iblk m c 0 t) (iblk m c 2 t) (iblk m c 3 t)) (k0_pay11 (iblk m c 4 t)) (iblk m c 6 t)) k0_pay20 0#32 := by
  unfold outsAt0 out0_A_12
  dsimp only
  rw [View.read_writes_junk_eq_canon]
  unfold kernelRun0_A
  dsimp only
  unfold kernelRun0_A.sl.r_3 kernelRun0_A.sl.r_8 kernelRun0_A.sl.r_9 kernelRun0_A.sl.r_10 kernelRun0_A.sl.r_12 kernelRun0_A.sl.r_13 kernelRun0_A.sl.r_2 kernelRun0_A.sl.r_5
  rw [View.canon_cons_unit_lit _ _ _ (by decide)]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  simp (disch := decide) only [View.ld_unit_lit]
  rfl

theorem out13 (c : Dev nD) (t : Fin cfg0.N) : (outsAt0 m c t).2.2.2 = k0_pay4 (k0_pay10 (shiftRow (grid0.coords t) (iblk m c 1 t)) (scaleRow (grid0.coords t) (iblk m c 1 t)) (iblk m c 0 t) (iblk m c 2 t) (iblk m c 3 t)) (iblk m c 7 t) := by
  unfold outsAt0 out0_A_13
  dsimp only
  rw [View.read_writes_junk_eq_canon]
  unfold kernelRun0_A
  dsimp only
  unfold kernelRun0_A.sl.r_4
  rw [View.canon_cons_unit_lit _ _ _ (by decide)]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  simp (disch := decide) only [View.ld_unit_lit]
  rfl

/-- The block's wide product is the projection's. -/
theorem wide_at (c : Dev nD) (t : Fin cfg0.N) (r : Fin 1024) (j : Fin 1280) :
    k0_pay5 (shiftRow (grid0.coords t) (iblk m c 1 t)) (scaleRow (grid0.coords t) (iblk m c 1 t)) (iblk m c 0 t) (iblk m c 2 t) (iblk m c 3 t) (ix2 r j)
      = Cert.InputsReferenceIdeal.Read.proj (m ((c : Thread nD τ).loc main_arg0)) (m ((c : Thread nD τ).loc main_arg1)) (m ((c : Thread nD τ).loc main_arg2)) (m ((c : Thread nD τ).loc main_arg3)) (coordB t) ⟨(coordW t).val * 1024 + r.val, by omega⟩ j := by
  rw [pay5_apply]
  unfold Cert.InputsReferenceIdeal.Read.proj
  simp only [shiftRow_at, scaleRow_at, iblk0_at, iblk1_at, iblk2_at, iblk3_at]

section Slices

variable (v1 v3 : Vec Ideal S1x1024 .f32) (v4 : Vec Ideal S1x1024x1024 .f32) (v16 : Vec Ideal S1x1024 .f32) (v27 : Vec Ideal S1024x1280 .bf16) (r : Fin 1024)

theorem pay6_apply (j : Fin 256) : k0_pay6 v1 v3 v4 v16 v27 (ix2 r j) = k0_pay5 v1 v3 v4 v16 v27 (ix2 r ⟨j.val, by omega⟩) := by
  generalize h : k0_pay5 v1 v3 v4 v16 v27 = w
  pointwise [k0_pay6, h]

theorem pay7_apply (j : Fin 512) : k0_pay7 v1 v3 v4 v16 v27 (ix2 r j) = k0_pay5 v1 v3 v4 v16 v27 (ix2 r ⟨256 + j.val, by omega⟩) := by
  generalize h : k0_pay5 v1 v3 v4 v16 v27 = w
  pointwise [k0_pay7, h]

theorem pay8_apply (j : Fin 128) : k0_pay8 v1 v3 v4 v16 v27 (ix2 r j) = k0_pay5 v1 v3 v4 v16 v27 (ix2 r ⟨768 + j.val, by omega⟩) := by
  generalize h : k0_pay5 v1 v3 v4 v16 v27 = w
  pointwise [k0_pay8, h]

theorem pay9_apply (j : Fin 128) : k0_pay9 v1 v3 v4 v16 v27 (ix2 r j) = k0_pay5 v1 v3 v4 v16 v27 (ix2 r ⟨896 + j.val, by omega⟩) := by
  generalize h : k0_pay5 v1 v3 v4 v16 v27 = w
  pointwise [k0_pay9, h]

theorem pay10_apply (j : Fin 256) : k0_pay10 v1 v3 v4 v16 v27 (ix2 r j) = k0_pay5 v1 v3 v4 v16 v27 (ix2 r ⟨1024 + j.val, by omega⟩) := by
  generalize h : k0_pay5 v1 v3 v4 v16 v27 = w
  pointwise [k0_pay10, h]

end Slices

theorem pay11_apply (x : Vec Ideal S512x512 .bf16) (i j : Fin 512) : k0_pay11 x (ix2 i j) = x (ix2 i j) := by
  pointwise [k0_pay11]

theorem pay12_apply (x : Vec Ideal S1x512 .f32) (j : Fin 512) : k0_pay12 x (ix2 0 j) = x (ix2 0 j) := by
  pointwise [k0_pay12]

theorem means_block (c : Dev nD) (t : Fin cfg0.N) : Means (k0_pay11 (iblk m c 4 t)) := fun x j =>
  (pay11_apply _ _ _).trans ((iblk4_at m c t x j).trans (meansArr_means x j))

theorem cos_block (c : Dev nD) (t : Fin cfg0.N) (r : Fin 1024) (e : Fin 2) (d : Fin 64) :
    iblk m c 8 t (ix2 r ⟨e.val * 64 + d.val, by omega⟩) = m ((c : Thread nD τ).loc main_arg7) (ix2 ⟨(coordW t).val * 1024 + r.val, by omega⟩ d) :=
  (iblk8_at m c t r _).trans (twice_at _ _ e d)

/-- The sines the call was given. -/
def sines (c : Dev nD) : FVec Ideal S4096x64 .f32 := m ((c : Thread nD τ).loc main_arg8)

theorem sin_block (c : Dev nD) (t : Fin cfg0.N) (r : Fin 1024) (e : Fin 2) (d : Fin 64) :
    iblk m c 9 t (ix2 r ⟨e.val * 64 + d.val, by omega⟩)
      = if d.val / 16 % 2 = 0 then -sines m c (ix2 ⟨(coordW t).val * 1024 + r.val, by omega⟩ d) else sines m c (ix2 ⟨(coordW t).val * 1024 + r.val, by omega⟩ d) :=
  ((iblk9_at m c t r _).trans (twice_at _ _ e d)).trans (sinArr_at _ _ d)

/-- A lane of eight heads. -/
theorem head_split (i : Fin 512) : ∃ (h : Fin 8) (d : Fin 64), i = ⟨h.val * 64 + d.val, by omega⟩ :=
  ⟨⟨i.val / 64, by omega⟩, ⟨i.val % 64, by omega⟩, Fin.ext (by dsimp; omega)⟩

theorem block10 (c : Dev nD) (t : Fin cfg0.N) (r : Fin 1024) (j : Fin 256) :
    (outsAt0 m c t).1 (ix3 0 r j)
      = Cert.InputsReferenceIdeal.Read.val_main_v93 (F := Ideal) (m ((c : Thread nD τ).loc main_arg0)) (m ((c : Thread nD τ).loc main_arg1)) (m ((c : Thread nD τ).loc main_arg2)) (m ((c : Thread nD τ).loc main_arg3)) (ix3 (coordB t) ⟨(coordW t).val * 1024 + r.val, by omega⟩ j) := by
  rw [out10, pay1_apply, pay6_apply, wide_at]
  exact (Cert.InputsReferenceIdeal.Read.v93_at (m ((c : Thread nD τ).loc main_arg0)) (m ((c : Thread nD τ).loc main_arg1)) (m ((c : Thread nD τ).loc main_arg2)) (m ((c : Thread nD τ).loc main_arg3)) _ _ j).symm

theorem final10 (c : Dev nD) : (dats m 0 c).arrAt 10 cfg0.N
    = Cert.InputsReferenceIdeal.Read.val_main_v93 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]
  have e : win0_10.index t = ![(coordB t).val, (coordW t).val, 0] := (by decide +kernel : ∀ t : Fin grid0.N, win0_10.index t = ![(coordB t).val, (coordW t).val, 0]) t
  obtain ⟨r, j, rfl⟩ : ∃ (r : Fin 1024) (j : Fin 256), y = ix3 0 r j :=
    ⟨y 1, y 2, funext fun a => by
      fin_cases a
      · exact Fin.ext (Nat.lt_one_iff.1 (y 0).isLt)
      · rfl
      · rfl⟩
  refine (block10 m c t r j).trans (congrArg _ ?_)
  funext a
  fin_cases a <;> refine Fin.ext ?_ <;> blk_simp [e] <;> simp

theorem block13 (c : Dev nD) (t : Fin cfg0.N) (r : Fin 1024) (j : Fin 512) :
    (outsAt0 m c t).2.2.2 (ix3 0 r j)
      = Cert.InputsReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (ix3 (coordB t) ⟨(coordW t).val * 1024 + r.val, by omega⟩ j) := by
  rw [out13, pay4_apply]
  simp only [pay10_apply, wide_at, iblk7_at]
  exact (Cert.InputsReferenceIdeal.Read.v100_at (m ((c : Thread nD τ).loc main_arg0)) (m ((c : Thread nD τ).loc main_arg1)) (m ((c : Thread nD τ).loc main_arg2)) (m ((c : Thread nD τ).loc main_arg3)) (m ((c : Thread nD τ).loc main_arg6)) _ _ j).symm

theorem final13 (c : Dev nD) : (dats m 0 c).arrAt 13 cfg0.N
    = Cert.InputsReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 13 _ (by decide +kernel) fun t hf y => ?_
  blk_simp
  rw [after0_13]
  have e : win0_13.index t = ![(coordB t).val, (coordW t).val, 0] := (by decide +kernel : ∀ t : Fin grid0.N, win0_13.index t = ![(coordB t).val, (coordW t).val, 0]) t
  obtain ⟨r, j, rfl⟩ : ∃ (r : Fin 1024) (j : Fin 512), y = ix3 0 r j :=
    ⟨y 1, y 2, funext fun a => by
      fin_cases a
      · exact Fin.ext (Nat.lt_one_iff.1 (y 0).isLt)
      · rfl
      · rfl⟩
  refine (block13 m c t r j).trans (congrArg _ ?_)
  funext a
  fin_cases a <;> refine Fin.ext ?_ <;> blk_simp [e] <;> simp

theorem block11 (c : Dev nD) (t : Fin cfg0.N) (r : Fin 1024) (j : Fin 512) :
    (outsAt0 m c t).2.1 (ix3 0 r j)
      = Cert.InputsReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (ix3 (coordB t) ⟨(coordW t).val * 1024 + r.val, by omega⟩ j) := by
  obtain ⟨h, d, rfl⟩ := head_split j
  rw [out11, pay2_apply]
  refine (congrArg (· * _) (query_apply _ _ _ _ _ (fun d => m ((c : Thread nD τ).loc main_arg4) (ix1 d)) (fun d => m ((c : Thread nD τ).loc main_arg7) (ix2 ⟨(coordW t).val * 1024 + r.val, by omega⟩ d))
    (fun d => m ((c : Thread nD τ).loc main_arg8) (ix2 ⟨(coordW t).val * 1024 + r.val, by omega⟩ d)) r h d (means_block m c t)
    (fun h d => (pay12_apply _ _).trans ((iblk5_at m c t _).trans (tiled8_at _ h d)))
    (fun e d => cos_block m c t r e d) (fun e d => sin_block m c t r e d))).trans ?_
  simp only [pay7_apply, wide_at]
  refine Eq.trans ?_ (Cert.InputsReferenceIdeal.Read.v95_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) _ _ h d).symm
  rw [Cert.InputsReferenceIdeal.Read.v53_at]
  simp only [Cert.InputsReferenceIdeal.Read.v39_at, Cert.InputsReferenceIdeal.Read.v26_at]

theorem final11 (c : Dev nD) : (dats m 0 c).arrAt 11 cfg0.N
    = Cert.InputsReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine (dats m 0 c).arrAt_eq_of_covers 11 _ (by decide +kernel) fun t hf y => ?_
  blk_simp
  rw [after0_11]
  have e : win0_11.index t = ![(coordB t).val, (coordW t).val, 0] := (by decide +kernel : ∀ t : Fin grid0.N, win0_11.index t = ![(coordB t).val, (coordW t).val, 0]) t
  obtain ⟨r, j, rfl⟩ : ∃ (r : Fin 1024) (j : Fin 512), y = ix3 0 r j :=
    ⟨y 1, y 2, funext fun a => by
      fin_cases a
      · exact Fin.ext (Nat.lt_one_iff.1 (y 0).isLt)
      · rfl
      · rfl⟩
  refine (block11 m c t r j).trans (congrArg _ ?_)
  funext a
  fin_cases a <;> refine Fin.ext ?_ <;> blk_simp [e] <;> simp

theorem block12 (c : Dev nD) (t : Fin cfg0.N) (r : Fin 1024) (j : Fin 512) :
    (outsAt0 m c t).2.2.1 (ix3 0 r j)
      = Cert.InputsReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) (ix3 (coordB t) ⟨(coordW t).val * 1024 + r.val, by omega⟩ j) := by
  obtain ⟨z, d, rfl⟩ := head_split j
  rw [out12, pay3_apply]
  refine Eq.trans ?_ (Cert.InputsReferenceIdeal.Read.v97_at (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) _ _ z d).symm
  by_cases h : z.val < 4
  · rw [if_pos h, if_pos h]
    refine (key_apply _ _ _ _ _ (fun d => m ((c : Thread nD τ).loc main_arg5) (ix1 d)) (fun d => m ((c : Thread nD τ).loc main_arg7) (ix2 ⟨(coordW t).val * 1024 + r.val, by omega⟩ d))
      (fun d => m ((c : Thread nD τ).loc main_arg8) (ix2 ⟨(coordW t).val * 1024 + r.val, by omega⟩ d)) r (order z) d (means_block m c t)
      (fun h d => (iblk6_at m c t _).trans (tiled2_at _ h d))
      (fun e d => cos_block m c t r e d) (fun e d => sin_block m c t r e d) _ rfl).trans ?_
    simp only [pay8_apply, wide_at]
    rw [Cert.InputsReferenceIdeal.Read.v82_at]
    simp only [Cert.InputsReferenceIdeal.Read.v68_at, Cert.InputsReferenceIdeal.Read.v55_at]
    rfl
  · rw [if_neg h, if_neg h, pay9_apply, wide_at, Cert.InputsReferenceIdeal.Read.v84_at]
    rfl

theorem final12 (c : Dev nD) : (dats m 0 c).arrAt 12 cfg0.N
    = Cert.InputsReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) := by
  refine (dats m 0 c).arrAt_eq_of_covers 12 _ (by decide +kernel) fun t hf y => ?_
  blk_simp
  rw [after0_12]
  have e : win0_12.index t = ![(coordB t).val, (coordW t).val, 0] := (by decide +kernel : ∀ t : Fin grid0.N, win0_12.index t = ![(coordB t).val, (coordW t).val, 0]) t
  obtain ⟨r, j, rfl⟩ : ∃ (r : Fin 1024) (j : Fin 512), y = ix3 0 r j :=
    ⟨y 1, y 2, funext fun a => by
      fin_cases a
      · exact Fin.ext (Nat.lt_one_iff.1 (y 0).isLt)
      · rfl
      · rfl⟩
  refine (block12 m c t r j).trans (congrArg _ ?_)
  funext a
  fin_cases a <;> refine Fin.ext ?_ <;> blk_simp [e] <;> simp

end Cert.InputsIdeal.Gen

end
-- ==== Proof.InputsClaims.lean ====
/- The claims about the input projection, from what its kernel's blocks hold and the printed runs. -/
module

public import proofs.«01_k».proof.Defs
public import proofs.«01_k».proof.Proof.InputsOut
public import proofs.«01_k».proof.Proof.Gen.Inputs
public import proofs.«01_k».proof.Proof.Gen.Inputs.Frame
public import proofs.«01_k».proof.Proof.Gen.InputsIdeal.Frame
public import proofs.«01_k».proof.Proof.Gen.InputsReferenceIdeal.Run
public import Idealize.ShloMosaic.Adequacy
public import Idealize.ShloMosaic.Init

@[expose] public section

noncomputable section

namespace Cert.InputsClaims

open Idealize.ShloMosaic Idealize.SL.Sem

/-- The reference's frame. -/
theorem reference_quiet : Cert.quiescent_InputsReferenceIdeal := fun m ρ _ =>
  (θ_run Cert.InputsReferenceIdeal.defs _ _).mono (fun r h => ⟨fun c => (h c).2.2.2.2, sem_eq_zero_of_no_sems (by decide) r.2⟩)
    (Cert.InputsReferenceIdeal.Value.run (F := Ideal) m ρ)

/-- The one constant that is named. -/
theorem preserves : Cert.preserves_Inputs_InputsIdeal :=
  IdealRules.named_const.statement Cert.InputsIdeal.κ "units" .f32 0x3E38AA3B#32 (((8 * Real.log 2)⁻¹ : ℝ) : EReal) rfl

/-- The kernel's four results and the reference's, of arguments that agree. -/
theorem algebraic : Cert.algebraic_InputsIdeal_InputsReferenceIdeal := by
  intro m ρ m' ρ' _ hagree
  refine ⟨fun c => Cert.InputsReferenceIdeal.Read.val_main_v93 (F := Ideal) (m' ((c.tc : Thread Cert.InputsReferenceIdeal.nD Cert.InputsReferenceIdeal.τ).loc Cert.InputsReferenceIdeal.main_arg0)) (m' ((c.tc : Thread Cert.InputsReferenceIdeal.nD Cert.InputsReferenceIdeal.τ).loc Cert.InputsReferenceIdeal.main_arg1)) (m' ((c.tc : Thread Cert.InputsReferenceIdeal.nD Cert.InputsReferenceIdeal.τ).loc Cert.InputsReferenceIdeal.main_arg2)) (m' ((c.tc : Thread Cert.InputsReferenceIdeal.nD Cert.InputsReferenceIdeal.τ).loc Cert.InputsReferenceIdeal.main_arg3)),
    fun c => Cert.InputsReferenceIdeal.Read.val_main_v95 (F := Ideal) (m' ((c.tc : Thread Cert.InputsReferenceIdeal.nD Cert.InputsReferenceIdeal.τ).loc Cert.InputsReferenceIdeal.main_arg0)) (m' ((c.tc : Thread Cert.InputsReferenceIdeal.nD Cert.InputsReferenceIdeal.τ).loc Cert.InputsReferenceIdeal.main_arg1)) (m' ((c.tc : Thread Cert.InputsReferenceIdeal.nD Cert.InputsReferenceIdeal.τ).loc Cert.InputsReferenceIdeal.main_arg2)) (m' ((c.tc : Thread Cert.InputsReferenceIdeal.nD Cert.InputsReferenceIdeal.τ).loc Cert.InputsReferenceIdeal.main_arg3)) (m' ((c.tc : Thread Cert.InputsReferenceIdeal.nD Cert.InputsReferenceIdeal.τ).loc Cert.InputsReferenceIdeal.main_arg4)) (m' ((c.tc : Thread Cert.InputsReferenceIdeal.nD Cert.InputsReferenceIdeal.τ).loc Cert.InputsReferenceIdeal.main_arg7)) (m' ((c.tc : Thread Cert.InputsReferenceIdeal.nD Cert.InputsReferenceIdeal.τ).loc Cert.InputsReferenceIdeal.main_arg8)),
    fun c => Cert.InputsReferenceIdeal.Read.val_main_v97 (F := Ideal) (m' ((c.tc : Thread Cert.InputsReferenceIdeal.nD Cert.InputsReferenceIdeal.τ).loc Cert.InputsReferenceIdeal.main_arg0)) (m' ((c.tc : Thread Cert.InputsReferenceIdeal.nD Cert.InputsReferenceIdeal.τ).loc Cert.InputsReferenceIdeal.main_arg1)) (m' ((c.tc : Thread Cert.InputsReferenceIdeal.nD Cert.InputsReferenceIdeal.τ).loc Cert.InputsReferenceIdeal.main_arg2)) (m' ((c.tc : Thread Cert.InputsReferenceIdeal.nD Cert.InputsReferenceIdeal.τ).loc Cert.InputsReferenceIdeal.main_arg3)) (m' ((c.tc : Thread Cert.InputsReferenceIdeal.nD Cert.InputsReferenceIdeal.τ).loc Cert.InputsReferenceIdeal.main_arg5)) (m' ((c.tc : Thread Cert.InputsReferenceIdeal.nD Cert.InputsReferenceIdeal.τ).loc Cert.InputsReferenceIdeal.main_arg7)) (m' ((c.tc : Thread Cert.InputsReferenceIdeal.nD Cert.InputsReferenceIdeal.τ).loc Cert.InputsReferenceIdeal.main_arg8)),
    fun c => Cert.InputsReferenceIdeal.Read.val_main_v100 (F := Ideal) (m' ((c.tc : Thread Cert.InputsReferenceIdeal.nD Cert.InputsReferenceIdeal.τ).loc Cert.InputsReferenceIdeal.main_arg0)) (m' ((c.tc : Thread Cert.InputsReferenceIdeal.nD Cert.InputsReferenceIdeal.τ).loc Cert.InputsReferenceIdeal.main_arg1)) (m' ((c.tc : Thread Cert.InputsReferenceIdeal.nD Cert.InputsReferenceIdeal.τ).loc Cert.InputsReferenceIdeal.main_arg2)) (m' ((c.tc : Thread Cert.InputsReferenceIdeal.nD Cert.InputsReferenceIdeal.τ).loc Cert.InputsReferenceIdeal.main_arg3)) (m' ((c.tc : Thread Cert.InputsReferenceIdeal.nD Cert.InputsReferenceIdeal.τ).loc Cert.InputsReferenceIdeal.main_arg6)), ?_, ?_⟩
  · refine (θ_run Cert.InputsIdeal.defs _ _).mono (fun _ h c => ?_) (Cert.InputsIdeal.Value.run_blocks (F := Ideal) m ρ)
    obtain ⟨a0, a1, a2, a3, a4, a5, a6, a7, a8⟩ := hagree c
    obtain ⟨h0, h1, h2, h3, kept⟩ := h c
    exact ⟨(h0.trans (Cert.InputsIdeal.Gen.final10 m c)).trans (congr (congr (congr (congrArg (Cert.InputsReferenceIdeal.Read.val_main_v93 (F := Ideal)) a0) a1) a2) a3).symm,
      (h1.trans (Cert.InputsIdeal.Gen.final11 m c)).trans (congr (congr (congr (congr (congr (congr (congrArg (Cert.InputsReferenceIdeal.Read.val_main_v95 (F := Ideal)) a0) a1) a2) a3) a4) a7) a8).symm,
      (h2.trans (Cert.InputsIdeal.Gen.final12 m c)).trans (congr (congr (congr (congr (congr (congr (congrArg (Cert.InputsReferenceIdeal.Read.val_main_v97 (F := Ideal)) a0) a1) a2) a3) a5) a7) a8).symm,
      (h3.trans (Cert.InputsIdeal.Gen.final13 m c)).trans (congr (congr (congr (congr (congrArg (Cert.InputsReferenceIdeal.Read.val_main_v100 (F := Ideal)) a0) a1) a2) a3) a6).symm, kept⟩
  · refine (θ_run Cert.InputsReferenceIdeal.defs _ _).mono (fun _ h c => ?_) (Cert.InputsReferenceIdeal.Value.run (F := Ideal) m' ρ')
    obtain ⟨h0, h1, h2, h3, kept⟩ := h c
    exact ⟨h0.trans (Cert.InputsReferenceIdeal.Read.val_main_v93_eq (F := Ideal) _ _ _ _), h1.trans (Cert.InputsReferenceIdeal.Read.val_main_v95_eq (F := Ideal) m' c),
      h2.trans (Cert.InputsReferenceIdeal.Read.val_main_v97_eq (F := Ideal) m' c), h3.trans (Cert.InputsReferenceIdeal.Read.val_main_v100_eq (F := Ideal) _ _ _ _ _), kept⟩

end Cert.InputsClaims

end
-- ==== Proof.lean ====
/- The claims of the attention, proved in Proof/AttentionClaims.lean, of the experts, proved in Proof/ExpertsClaims.lean, and of the input
   projection, proved in Proof/InputsClaims.lean, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Inputs
public import proofs.«01_k».proof.Proof.Gen.Inputs.Skeleton
public import proofs.«01_k».proof.Proof.Gen.Inputs.Launch
public import proofs.«01_k».proof.Proof.Gen.Inputs.Points
public import proofs.«01_k».proof.Proof.Gen.Inputs.Frame
public import proofs.«01_k».proof.Proof.Gen.InputsIdeal
public import proofs.«01_k».proof.Proof.Gen.InputsIdeal.Skeleton
public import proofs.«01_k».proof.Proof.Gen.InputsIdeal.Launch
public import proofs.«01_k».proof.Proof.Gen.InputsIdeal.Points
public import proofs.«01_k».proof.Proof.Gen.InputsIdeal.Frame
public import proofs.«01_k».proof.Proof.Gen.InputsReferenceIdeal
public import proofs.«01_k».proof.Proof.Gen.InputsIdeal.Value
public import proofs.«01_k».proof.Proof.Gen.InputsReferenceIdeal.Run
public import proofs.«01_k».proof.Proof.Gen.InputsReferenceIdeal.Read
public import proofs.«01_k».proof.Proof.AttentionClaims
public import proofs.«01_k».proof.Proof.ExpertsClaims
public import proofs.«01_k».proof.Proof.InputsClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Inputs.Gen.facts, Cert.InputsIdeal.Gen.facts, Cert.InputsReferenceIdeal.Gen.facts,
  Cert.Pre_scores_finite.facts, Cert.ExpertsTables.tables_facts, Cert.ExpertsTables.gated_facts,
  fun m ρ _ => Cert.Kernel.Gen.frame m ρ,
  fun m ρ _ => Cert.KernelIdeal.Gen.frame m ρ,
  fun m ρ _ => Cert.KernelIdeal.Gen.frame m ρ,
  fun m ρ _ => Cert.AttentionClaims.reference_quiet m ρ trivial,
  fun m ρ _ => Cert.AttentionClaims.reference_quiet m ρ trivial,
  Cert.ExpertsClaims.bits_quiet,
  Cert.ExpertsClaims.ideal_quiet,
  Cert.ExpertsClaims.ideal_quiet_gated,
  fun m ρ _ => Cert.ExpertsClaims.reference_quiet m ρ trivial,
  fun m ρ _ => Cert.ExpertsClaims.reference_quiet m ρ trivial,
  fun m ρ _ => Cert.Inputs.Gen.frame m ρ,
  fun m ρ _ => Cert.InputsIdeal.Gen.frame m ρ,
  Cert.InputsClaims.reference_quiet,
  Cert.AttentionClaims.preserves,
  Cert.AttentionClaims.algebraic,
  trivial,
  Cert.ExpertsClaims.algebraic,
  Cert.InputsClaims.preserves,
  Cert.InputsClaims.algebraic⟩

end Cert.Proof

end
